-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_places [hPre_places : Cert.Pre_places.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_places.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_places [hPre_places : Cert.Pre_places.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_places.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_places [hKernel2Ideal : Cert.Kernel2Ideal.Facts] [hPre_places : Cert.Pre_places.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_places m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_places [hReference2Ideal : Cert.Reference2Ideal.Facts] [hPre_places : Cert.Pre_places.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_places m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_places [hKernel2Ideal : Cert.Kernel2Ideal.Facts] [hReference2Ideal : Cert.Reference2Ideal.Facts] [hPre_places : Cert.Pre_places.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_places m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_places : Cert.Pre_places.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_places (hKernel2Ideal := hKernel2Ideal) (hPre_places := hPre_places)
    ∧ quiescent_Reference2Ideal (hReference2Ideal := hReference2Ideal)
    ∧ quiescent_Reference2Ideal_pre_places (hReference2Ideal := hReference2Ideal) (hPre_places := hPre_places)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_places (hKernel2Ideal := hKernel2Ideal) (hReference2Ideal := hReference2Ideal) (hPre_places := hPre_places)
-- ==== Pre_finite.lean ====
abbrev S2x1152x192 : Shape := ⟨3, ![2, 1152, 192]⟩
abbrev S768x192 : Shape := ⟨2, ![768, 192]⟩
abbrev S384x4 : Shape := ⟨2, ![384, 4]⟩
abbrev S384 : Shape := ⟨1, ![384]⟩
abbrev S44x384 : Shape := ⟨2, ![44, 384]⟩
abbrev S384x12 : Shape := ⟨2, ![384, 12]⟩
abbrev S384x16 : Shape := ⟨2, ![384, 16]⟩
abbrev S192x384 : Shape := ⟨2, ![192, 384]⟩
abbrev S_ : Shape := ⟨0, ![]⟩

class Facts : Prop where
  bcast_S_S2x1152x192 : S_.BroadcastsInDim S2x1152x192 (![] : Fin 0 → Fin S2x1152x192.rank)
  reducesTo_S2x1152x192_S_d0_1_2 : S2x1152x192.ReducesTo [0, 1, 2] S_
  h_S_ : 0 < S_.numel
  bcast_S_S768x192 : S_.BroadcastsInDim S768x192 (![] : Fin 0 → Fin S768x192.rank)
  reducesTo_S768x192_S_d0_1 : S768x192.ReducesTo [0, 1] S_
  bcast_S_S384x4 : S_.BroadcastsInDim S384x4 (![] : Fin 0 → Fin S384x4.rank)
  reducesTo_S384x4_S_d0_1 : S384x4.ReducesTo [0, 1] S_
  bcast_S_S384 : S_.BroadcastsInDim S384 (![] : Fin 0 → Fin S384.rank)
  reducesTo_S384_S_d0 : S384.ReducesTo [0] S_
  bcast_S_S44x384 : S_.BroadcastsInDim S44x384 (![] : Fin 0 → Fin S44x384.rank)
  reducesTo_S44x384_S_d0_1 : S44x384.ReducesTo [0, 1] S_
  bcast_S_S384x12 : S_.BroadcastsInDim S384x12 (![] : Fin 0 → Fin S384x12.rank)
  reducesTo_S384x12_S_d0_1 : S384x12.ReducesTo [0, 1] S_
  bcast_S_S192x384 : S_.BroadcastsInDim S192x384 (![] : Fin 0 → Fin S192x384.rank)
  reducesTo_S192x384_S_d0_1 : S192x384.ReducesTo [0, 1] S_

variable [Facts]

def fn_part2 {F : FTy → Type} [FloatOps F] (main_arg8 : FVec F S384 .f32) (main_arg9 : FVec F S192x384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S192x384 .f32 := Host.absf main_arg9
  let main_cst_14 : FVec F S_ .f32 := constant S_ .f32 0x7F800000#32
  let main_v40 : FVec F S192x384 .f32 := broadcastInDim S192x384 ![] bcast_S_S192x384 main_cst_14
  let main_v41 : IVec S192x384 1 := cmpf .olt main_v39 main_v40
  let main_c_15 : IVec S_ 1 := constantI S_ 1 1#1
  let main_v42 : IVec S_ 1 := (fun x v => Host.reduce IntOp.andi x v reducesTo_S192x384_S_d0_1 h_S_) main_v41 main_c_15
  let main_v43 : IVec S_ 1 := andi main_v38 main_v42
  main_v43

def fn_part1 {F : FTy → Type} [FloatOps F] (main_arg4 : FVec F S44x384 .f32) (main_arg5 : FVec F S384x12 .f32) (main_arg6 : FVec F S384 .f32) (main_arg8 : FVec F S384 .f32) (main_arg9 : FVec F S192x384 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S44x384 .f32 := Host.absf main_arg4
  let main_cst_6 : FVec F S_ .f32 := constant S_ .f32 0x7F800000#32
  let main_v20 : FVec F S44x384 .f32 := broadcastInDim S44x384 ![] bcast_S_S44x384 main_cst_6
  let main_v21 : IVec S44x384 1 := cmpf .olt main_v19 main_v20
  let main_c_7 : IVec S_ 1 := constantI S_ 1 1#1
  let main_v22 : IVec S_ 1 := (fun x v => Host.reduce IntOp.andi x v reducesTo_S44x384_S_d0_1 h_S_) main_v21 main_c_7
  let main_v23 : IVec S_ 1 := andi main_v18 main_v22
  let main_v24 : FVec F S384x12 .f32 := Host.absf main_arg5
  let main_cst_8 : FVec F S_ .f32 := constant S_ .f32 0x7F800000#32
  let main_v25 : FVec F S384x12 .f32 := broadcastInDim S384x12 ![] bcast_S_S384x12 main_cst_8
  let main_v26 : IVec S384x12 1 := cmpf .olt main_v24 main_v25
  let main_c_9 : IVec S_ 1 := constantI S_ 1 1#1
  let main_v27 : IVec S_ 1 := (fun x v => Host.reduce IntOp.andi x v reducesTo_S384x12_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S2x1152x192 .f32) (main_arg1 : FVec F S768x192 .f32) (main_arg2 : FVec F S384x4 .f32) (main_arg3 : FVec F S384 .f32) (main_arg4 : FVec F S44x384 .f32) (main_arg5 : FVec F S384x12 .f32) (main_arg6 : FVec F S384 .f32) (main_arg7 : FVec F S384x16 .f32) (main_arg8 : FVec F S384 .f32) (main_arg9 : FVec F S192x384 .f32) : IVec S_ 1 :=
  let main_v0 : FVec F S2x1152x192 .f32 := Host.absf main_arg0
  let main_cst : FVec F S_ .f32 := constant S_ .f32 0x7F800000#32
  let main_v1 : FVec F S2x1152x192 .f32 := broadcastInDim S2x1152x192 ![] bcast_S_S2x1152x192 main_cst
  let main_v2 : IVec S2x1152x192 1 := cmpf .olt main_v0 main_v1
  let main_c : IVec S_ 1 := constantI S_ 1 1#1
  let main_v3 : IVec S_ 1 := (fun x v => Host.reduce IntOp.andi x v reducesTo_S2x1152x192_S_d0_1_2 h_S_) main_v2 main_c
  let main_v4 : FVec F S768x192 .f32 := Host.absf main_arg1
  let main_cst_0 : FVec F S_ .f32 := constant S_ .f32 0x7F800000#32
  let main_v5 : FVec F S768x192 .f32 := broadcastInDim S768x192 ![] bcast_S_S768x192 main_cst_0
  let main_v6 : IVec S768x192 1 := cmpf .olt main_v4 main_v5
  let main_c_1 : IVec S_ 1 := constantI S_ 1 1#1
  let main_v7 : IVec S_ 1 := (fun x v => Host.reduce IntOp.andi x v reducesTo_S768x192_S_d0_1 h_S_) main_v6 main_c_1
  let main_v8 : IVec S_ 1 := andi main_v3 main_v7
  let main_v9 : FVec F S384x4 .f32 := Host.absf main_arg2
  let main_cst_2 : FVec F S_ .f32 := constant S_ .f32 0x7F800000#32
  let main_v10 : FVec F S384x4 .f32 := broadcastInDim S384x4 ![] bcast_S_S384x4 main_cst_2
  let main_v11 : IVec S384x4 1 := cmpf .olt main_v9 main_v10
  let main_c_3 : IVec S_ 1 := constantI S_ 1 1#1
  let main_v12 : IVec S_ 1 := (fun x v => Host.reduce IntOp.andi x v reducesTo_S384x4_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_arg6 main_arg8 main_arg9 main_v13 main_v16
-- ==== Pre_places.lean ====
abbrev S2x2304x768 : Shape := ⟨3, ![2, 2304, 768]⟩
abbrev S2x1x2304 : Shape := ⟨3, ![2, 1, 2304]⟩
abbrev S2x2304x192 : Shape := ⟨3, ![2, 2304, 192]⟩
abbrev S192x768 : Shape := ⟨2, ![192, 768]⟩
abbrev S192 : Shape := ⟨1, ![192]⟩
abbrev S2x2304 : Shape := ⟨2, ![2, 2304]⟩
abbrev S_ : Shape := ⟨0, ![]⟩
abbrev S2304 : Shape := ⟨1, ![2304]⟩
abbrev S2x2304x1 : Shape := ⟨3, ![2, 2304, 1]⟩
abbrev S2x2304x2304 : Shape := ⟨3, ![2, 2304, 2304]⟩
abbrev S2304x1 : Shape := ⟨2, ![2304, 1]⟩
abbrev S1x2304 : Shape := ⟨2, ![1, 2304]⟩
abbrev S2304x2304 : Shape := ⟨2, ![2304, 2304]⟩
abbrev S1x2304x2304 : Shape := ⟨3, ![1, 2304, 2304]⟩

class Facts : Prop where
  shapeCasts_S2x1x2304_S2x2304 : S2x1x2304.ShapeCasts S2x2304
  bcast_S_S2x2304 : S_.BroadcastsInDim S2x2304 (![] : Fin 0 → Fin S2x2304.rank)
  bcast_S2x2304_S2x2304x1_0_1 : S2x2304.BroadcastsInDim S2x2304x1 (![0, 1] : Fin 2 → Fin S2x2304x1.rank)
  bcast_S2x2304_S2x1x2304_0_2 : S2x2304.BroadcastsInDim S2x1x2304 (![0, 2] : Fin 2 → Fin S2x1x2304.rank)
  bcast_S2x2304x1_S2x2304x2304_0_1_2 : S2x2304x1.BroadcastsInDim S2x2304x2304 (![0, 1, 2] : Fin 3 → Fin S2x2304x2304.rank)
  bcast_S2x1x2304_S2x2304x2304_0_1_2 : S2x1x2304.BroadcastsInDim S2x2304x2304 (![0, 1, 2] : Fin 3 → Fin S2x2304x2304.rank)
  bcast_S2304_S2304x1_0 : S2304.BroadcastsInDim S2304x1 (![0] : Fin 1 → Fin S2304x1.rank)
  bcast_S2304_S1x2304_1 : S2304.BroadcastsInDim S1x2304 (![1] : Fin 1 → Fin S1x2304.rank)
  bcast_S2304x1_S2304x2304_0_1 : S2304x1.BroadcastsInDim S2304x2304 (![0, 1] : Fin 2 → Fin S2304x2304.rank)
  bcast_S1x2304_S2304x2304_0_1 : S1x2304.BroadcastsInDim S2304x2304 (![0, 1] : Fin 2 → Fin S2304x2304.rank)
  bcast_S2304x2304_S1x2304x2304_1_2 : S2304x2304.BroadcastsInDim S1x2304x2304 (![1, 2] : Fin 2 → Fin S1x2304x2304.rank)
  bcast_S1x2304x2304_S2x2304x2304_0_1_2 : S1x2304x2304.BroadcastsInDim S2x2304x2304 (![0, 1, 2] : Fin 3 → Fin S2x2304x2304.rank)
  reducesTo_S2x2304_S_d0_1 : S2x2304.ReducesTo [0, 1] S_
  h_S_ : 0 < S_.numel
  reducesTo_S2x2304x2304_S_d0_1_2 : S2x2304x2304.ReducesTo [0, 1, 2] S_

variable [Facts]

def fn_part1 {F : FTy → Type} [FloatOps F] (main_v2 : IVec S2x2304 1) (main_v3 : FVec F S2x2304 .f32) (main_v12 : IVec S2x2304 1) (main_v18 : IVec S2x2304x2304 1) (main_v19 : IVec S2304x1 32) (main_v20 : IVec S1x2304 32) : IVec S_ 1 :=
  let main_v21 : IVec S2304x2304 32 := broadcastInDim S2304x2304 ![0, 1] bcast_S2304x1_S2304x2304_0_1 main_v19
  let main_v22 : IVec S2304x2304 32 := broadcastInDim S2304x2304 ![0, 1] bcast_S1x2304_S2304x2304_0_1 main_v20
  let main_v23 : IVec S2304x2304 1 := cmpi .ne main_v21 main_v22
  let main_v24 : IVec S1x2304x2304 1 := broadcastInDim S1x2304x2304 ![1, 2] bcast_S2304x2304_S1x2304x2304_1_2 main_v23
  let main_v25 : IVec S2x2304x2304 1 := broadcastInDim S2x2304x2304 ![0, 1, 2] bcast_S1x2304x2304_S2x2304x2304_0_1_2 main_v24
  let main_v26 : IVec S2x2304x2304 1 := andi main_v18 main_v25
  let main_v27 : FVec F S2x2304x1 .f32 := broadcastInDim S2x2304x1 ![0, 1] bcast_S2x2304_S2x2304x1_0_1 main_v3
  let main_v28 : FVec F S2x1x2304 .f32 := broadcastInDim S2x1x2304 ![0, 2] bcast_S2x2304_S2x1x2304_0_2 main_v3
  let main_v29 : FVec F S2x2304x2304 .f32 := broadcastInDim S2x2304x2304 ![0, 1, 2] bcast_S2x2304x1_S2x2304x2304_0_1_2 main_v27
  let main_v30 : FVec F S2x2304x2304 .f32 := broadcastInDim S2x2304x2304 ![0, 1, 2] bcast_S2x1x2304_S2x2304x2304_0_1_2 main_v28
  let main_v31 : IVec S2x2304x2304 1 := cmpf .une main_v29 main_v30
  let main_v32 : IVec S2x2304 1 := noti main_v2
  let main_v33 : IVec S2x2304 1 := ori main_v32 main_v12
  let main_c_1 : IVec S_ 1 := constantI S_ 1 1#1
  let main_v34 : IVec S_ 1 := (fun x v => Host.reduce IntOp.andi x v reducesTo_S2x2304_S_d0_1 h_S_) main_v33 main_c_1
  let main_v35 : IVec S2x2304x2304 1 := noti main_v26
  let main_v36 : IVec S2x2304x2304 1 := ori main_v35 main_v31
  let main_c_2 : IVec S_ 1 := constantI S_ 1 1#1
  let main_v37 : IVec S_ 1 := (fun x v => Host.reduce IntOp.andi x v reducesTo_S2x2304x2304_S_d0_1_2 h_S_) main_v36 main_c_2
  let main_v38 : IVec S_ 1 := andi main_v34 main_v37
  main_v38

def fn {F : FTy → Type} [FloatOps F] (main_arg0 : FVec F S2x2304x768 .f32) (main_arg1 : FVec F S2x1x2304 .f32) (main_arg2 : FVec F S2x1x2304 .f32) (main_arg3 : FVec F S2x2304x192 .f32) (main_arg4 : FVec F S192x768 .f32) (main_arg5 : FVec F S192 .f32) : IVec S_ 1 :=
  let main_v0 : FVec F S2x2304 .f32 := shapeCast S2x2304 main_arg1 shapeCasts_S2x1x2304_S2x2304
  let main_cst : FVec F S_ .f32 := constant S_ .f32 0x3F000000#32
  let main_v1 : FVec F S2x2304 .f32 := broadcastInDim S2x2304 ![] bcast_S_S2x2304 main_cst
  let main_v2 : IVec S2x2304 1 := cmpf .ogt main_v0 main_v1
  let main_v3 : FVec F S2x2304 .f32 := shapeCast S2x2304 main_arg2 shapeCasts_S2x1x2304_S2x2304
  let main_v4 : IVec S2x2304 32 := fptosi 32 main_v3
  let main_v5 : FVec F S2x2304 .f32 := sitofp .f32 main_v4
  let main_v6 : IVec S2x2304 1 := cmpf .oeq main_v5 main_v3
  let main_c : IVec S_ 32 := constantI S_ 32 0#32
  let main_v7 : IVec S2x2304 32 := broadcastInDim S2x2304 ![] bcast_S_S2x2304 main_c
  let main_v8 : IVec S2x2304 1 := cmpi .sge main_v4 main_v7
  let main_v9 : IVec S2x2304 1 := andi main_v6 main_v8
  let main_c_0 : IVec S_ 32 := constantI S_ 32 1152#32
  let main_v10 : IVec S2x2304 32 := broadcastInDim S2x2304 ![] bcast_S_S2x2304 main_c_0
  let main_v11 : IVec S2x2304 1 := cmpi .slt main_v4 main_v10
  let main_v12 : IVec S2x2304 1 := andi main_v9 main_v11
  let main_v13 : IVec S2304 32 := iotaInDim S2304 32 0
  let main_v14 : IVec S2x2304x1 1 := broadcastInDim S2x2304x1 ![0, 1] bcast_S2x2304_S2x2304x1_0_1 main_v2
  let main_v15 : IVec S2x1x2304 1 := broadcastInDim S2x1x2304 ![0, 2] bcast_S2x2304_S2x1x2304_0_2 main_v2
  let main_v16 : IVec S2x2304x2304 1 := broadcastInDim S2x2304x2304 ![0, 1, 2] bcast_S2x2304x1_S2x2304x2304_0_1_2 main_v14
  let main_v17 : IVec S2x2304x2304 1 := broadcastInDim S2x2304x2304 ![0, 1, 2] bcast_S2x1x2304_S2x2304x2304_0_1_2 main_v15
  let main_v18 : IVec S2x2304x2304 1 := andi main_v16 main_v17
  let main_v19 : IVec S2304x1 32 := broadcastInDim S2304x1 ![0] bcast_S2304_S2304x1_0 main_v13
  let main_v20 : IVec S1x2304 32 := broadcastInDim S1x2304 ![1] bcast_S2304_S1x2304_1 main_v13
  fn_part1 (F := F) main_v2 main_v3 main_v12 main_v18 main_v19 main_v20
-- ==== Kernel.lean ====
abbrev S2x1152x192 : Shape := ⟨3, ![2, 1152, 192]⟩
abbrev S768x192 : Shape := ⟨2, ![768, 192]⟩
abbrev S384x4 : Shape := ⟨2, ![384, 4]⟩
abbrev S384 : Shape := ⟨1, ![384]⟩
abbrev S44x384 : Shape := ⟨2, ![44, 384]⟩
abbrev S384x12 : Shape := ⟨2, ![384, 12]⟩
abbrev S384x16 : Shape := ⟨2, ![384, 16]⟩
abbrev S192x384 : Shape := ⟨2, ![192, 384]⟩
abbrev S4x384 : Shape := ⟨2, ![4, 384]⟩
abbrev S1x384 : Shape := ⟨2, ![1, 384]⟩
abbrev S16x384 : Shape := ⟨2, ![16, 384]⟩
abbrev S1x6144 : Shape := ⟨2, ![1, 6144]⟩
abbrev S16x16 : Shape := ⟨2, ![16, 16]⟩
abbrev S_ : Shape := ⟨0, ![]⟩
abbrev S16x1x16x1 : Shape := ⟨4, ![16, 1, 16, 1]⟩
abbrev S1x1x1x384 : Shape := ⟨4, ![1, 1, 1, 384]⟩
abbrev S16x1x16x384 : Shape := ⟨4, ![16, 1, 16, 384]⟩
abbrev S16x6144 : Shape := ⟨2, ![16, 6144]⟩
abbrev S1152x384 : Shape := ⟨2, ![1152, 384]⟩
abbrev S1152x16 : Shape := ⟨2, ![1152, 16]⟩
abbrev S1x1152x192 : Shape := ⟨3, ![1, 1152, 192]⟩
abbrev S1152x192 : Shape := ⟨2, ![1152, 192]⟩
abbrev S1152x768 : Shape := ⟨2, ![1152, 768]⟩
abbrev S3x384 : Shape := ⟨2, ![3, 384]⟩
abbrev S1155x384 : Shape := ⟨2, ![1155, 384]⟩
abbrev S1152x44 : Shape := ⟨2, ![1152, 44]⟩
abbrev S1152x12 : Shape := ⟨2, ![1152, 12]⟩
abbrev S64x384 : Shape := ⟨2, ![64, 384]⟩
abbrev S64x16 : Shape := ⟨2, ![64, 16]⟩
abbrev S64x6144 : Shape := ⟨2, ![64, 6144]⟩
abbrev S63x6144 : Shape := ⟨2, ![63, 6144]⟩
abbrev S2x6144 : Shape := ⟨2, ![2, 6144]⟩
abbrev S62x6144 : Shape := ⟨2, ![62, 6144]⟩
abbrev S4x6144 : Shape := ⟨2, ![4, 6144]⟩
abbrev S60x6144 : Shape := ⟨2, ![60, 6144]⟩
abbrev S8x6144 : Shape := ⟨2, ![8, 6144]⟩
abbrev S56x6144 : Shape := ⟨2, ![56, 6144]⟩
abbrev S48x6144 : Shape := ⟨2, ![48, 6144]⟩
abbrev S32x6144 : Shape := ⟨2, ![32, 6144]⟩

abbrev nBuf : Space → Nat
  | .hbm => 32
  | .vmem => 36
  | .smem => 0
  | _ => 0

abbrev bufTy : (tb : Table) → Fin (tcTables nBuf tb) → BufTy
  | .hbm, ⟨0, _⟩ => ⟨S2x1152x192, .f32⟩
  | .hbm, ⟨1, _⟩ => ⟨S768x192, .f32⟩
  | .hbm, ⟨2, _⟩ => ⟨S384x4, .f32⟩
  | .hbm, ⟨3, _⟩ => ⟨S384, .f32⟩
  | .hbm, ⟨4, _⟩ => ⟨S44x384, .f32⟩
  | .hbm, ⟨5, _⟩ => ⟨S384x12, .f32⟩
  | .hbm, ⟨6, _⟩ => ⟨S384, .f32⟩
  | .hbm, ⟨7, _⟩ => ⟨S384x16, .f32⟩
  | .hbm, ⟨8, _⟩ => ⟨S384, .f32⟩
  | .hbm, ⟨9, _⟩ => ⟨S192x384, .f32⟩
  | .hbm, ⟨10, _⟩ => ⟨S4x384, .f32⟩
  | .hbm, ⟨11, _⟩ => ⟨S1x384, .f32⟩
  | .hbm, ⟨12, _⟩ => ⟨S1x384, .f32⟩
  | .hbm, ⟨13, _⟩ => ⟨S1x384, .f32⟩
  | .hbm, ⟨14, _⟩ => ⟨S16x384, .f32⟩
  | .hbm, ⟨15, _⟩ => ⟨S1x6144, .f32⟩
  | .hbm, ⟨16, _⟩ => ⟨S16x16, .i32⟩
  | .hbm, ⟨17, _⟩ => ⟨S16x16, .i32⟩
  | .hbm, ⟨18, _⟩ => ⟨S_, .i32⟩
  | .hbm, ⟨19, _⟩ => ⟨S16x16, .i32⟩
  | .hbm, ⟨20, _⟩ => ⟨S16x16, .i32⟩
  | .hbm, ⟨21, _⟩ => ⟨S16x16, .i1⟩
  | .hbm, ⟨22, _⟩ => ⟨S16x16, .f32⟩
  | .hbm, ⟨23, _⟩ => ⟨S_, .f32⟩
  | .hbm, ⟨24, _⟩ => ⟨S1x384, .f32⟩
  | .hbm, ⟨25, _⟩ => ⟨S16x1x16x1, .f32⟩
  | .hbm, ⟨26, _⟩ => ⟨S1x1x1x384, .f32⟩
  | .hbm, ⟨27, _⟩ => ⟨S16x1x16x384, .f32⟩
  | .hbm, ⟨28, _⟩ => ⟨S16x1x16x384, .f32⟩
  | .hbm, ⟨29, _⟩ => ⟨S16x1x16x384, .f32⟩
  | .hbm, ⟨30, _⟩ => ⟨S16x6144, .f32⟩
  | .hbm, ⟨31, _⟩ => ⟨S2x1152x192, .f32⟩
  | .local _ .vmem, ⟨0, _⟩ => ⟨S2x1152x192, .f32⟩
  | .local _ .vmem, ⟨1, _⟩ => ⟨S768x192, .f32⟩
  | .local _ .vmem, ⟨2, _⟩ => ⟨S4x384, .f32⟩
  | .local _ .vmem, ⟨3, _⟩ => ⟨S1x384, .f32⟩
  | .local _ .vmem, ⟨4, _⟩ => ⟨S44x384, .f32⟩
  | .local _ .vmem, ⟨5, _⟩ => ⟨S384x12, .f32⟩
  | .local _ .vmem, ⟨6, _⟩ => ⟨S1x384, .f32⟩
  | .local _ .vmem, ⟨7, _⟩ => ⟨S1x6144, .f32⟩
  | .local _ .vmem, ⟨8, _⟩ => ⟨S16x6144, .f32⟩
  | .local _ .vmem, ⟨9, _⟩ => ⟨S1x384, .f32⟩
  | .local _ .vmem, ⟨10, _⟩ => ⟨S192x384, .f32⟩
  | .local _ .vmem, ⟨11, _⟩ => ⟨S2x1152x192, .f32⟩
  | .local _ .vmem, ⟨12, _⟩ => ⟨S1152x384, .f32⟩
  | .local _ .vmem, ⟨13, _⟩ => ⟨S1152x384, .f32⟩
  | .local _ .vmem, ⟨14, _⟩ => ⟨S1152x384, .f32⟩
  | .local _ .vmem, ⟨15, _⟩ => ⟨S1152x384, .f32⟩
  | .local _ .vmem, ⟨16, _⟩ => ⟨S1152x16, .f32⟩
  | .local _ .vmem, ⟨17, _⟩ => ⟨S1152x16, .f32⟩
  | .local _ .vmem, ⟨18, _⟩ => ⟨S1152x384, .f32⟩
  | .local _ .vmem, ⟨19, _⟩ => ⟨S1152x384, .f32⟩
  | .local _ .vmem, ⟨20, _⟩ => ⟨S1152x384, .f32⟩
  | .local _ .vmem, ⟨21, _⟩ => ⟨S1152x384, .f32⟩
  | .local _ .vmem, ⟨22, _⟩ => ⟨S1152x16, .f32⟩
  | .local _ .vmem, ⟨23, _⟩ => ⟨S1152x16, .f32⟩
  | .local _ .vmem, ⟨24, _⟩ => ⟨S1152x384, .f32⟩
  | .local _ .vmem, ⟨25, _⟩ => ⟨S1152x384, .f32⟩
  | .local _ .vmem, ⟨26, _⟩ => ⟨S1152x384, .f32⟩
  | .local _ .vmem, ⟨27, _⟩ => ⟨S1152x384, .f32⟩
  | .local _ .vmem, ⟨28, _⟩ => ⟨S1152x16, .f32⟩
  | .local _ .vmem, ⟨29, _⟩ => ⟨S1152x16, .f32⟩
  | .local _ .vmem, ⟨30, _⟩ => ⟨S1152x384, .f32⟩
  | .local _ .vmem, ⟨31, _⟩ => ⟨S1152x384, .f32⟩
  | .local _ .vmem, ⟨32, _⟩ => ⟨S1152x384, .f32⟩
  | .local _ .vmem, ⟨33, _⟩ => ⟨S1152x384, .f32⟩
  | .local _ .vmem, ⟨34, _⟩ => ⟨S1152x16, .f32⟩
  | .local _ .vmem, ⟨35, _⟩ => ⟨S1152x16, .f32⟩
  | _, _ => ⟨S2x1152x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_scratch13 : Ref sig .tc := ⟨.vmem, 25, rfl⟩
abbrev cc0_scratch14 : Ref sig .tc := ⟨.vmem, 26, rfl⟩
abbrev cc0_scratch15 : Ref sig .tc := ⟨.vmem, 27, rfl⟩
abbrev cc0_scratch16 : Ref sig .tc := ⟨.vmem, 28, rfl⟩
abbrev cc0_scratch17 : Ref sig .tc := ⟨.vmem, 29, rfl⟩
abbrev cc0_scratch18 : Ref sig .tc := ⟨.vmem, 30, rfl⟩
abbrev cc0_scratch19 : Ref sig .tc := ⟨.vmem, 31, rfl⟩
abbrev cc0_scratch20 : Ref sig .tc := ⟨.vmem, 32, rfl⟩
abbrev cc0_scratch21 : Ref sig .tc := ⟨.vmem, 33, rfl⟩
abbrev cc0_scratch22 : Ref sig .tc := ⟨.vmem, 34, rfl⟩
abbrev cc0_scratch23 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c18_i32 : BitVec 32 := 18#32
  let v298 : BitVec 32 := Scalar.addi c0_i32 c18_i32
  let c1_i32 : BitVec 32 := 1#32
  ⟨c0_i32, v298, c1_i32⟩
def k0_off1 (k0_t1 : Fin k0_t1_loop.trips) : Fin 2 → Nat :=
  let c0_i32 : BitVec 32 := 0#32
  let c1_i32 : BitVec 32 := 1#32
  let arg37 : BitVec 32 := Scf.iv c0_i32 c1_i32 k0_t1
  let c64_i32 : BitVec 32 := 64#32
  let v338 : BitVec 32 := Scalar.muli arg37 c64_i32
  let v339 : Index := Scalar.indexCast v338
  let c0_156 : Index := 0#32
  ![v339.toNat, 0]
def k0_off2 (k0_t1 : Fin k0_t1_loop.trips) : Fin 2 → Nat :=
  let c0_i32 : BitVec 32 := 0#32
  let c1_i32 : BitVec 32 := 1#32
  let arg37 : BitVec 32 := Scf.iv c0_i32 c1_i32 k0_t1
  let c64_i32 : BitVec 32 := 64#32
  let v338 : BitVec 32 := Scalar.muli arg37 c64_i32
  let v343 : Index := Scalar.indexCast v338
  let c0_158 : Index := 0#32
  ![v343.toNat, 0]
def k0_off3 (k0_t1 : Fin k0_t1_loop.trips) : Fin 2 → Nat :=
  let c17_i32 : BitVec 32 := 17#32
  let c0_i32 : BitVec 32 := 0#32
  let c1_i32 : BitVec 32 := 1#32
  let arg37 : BitVec 32 := Scf.iv c0_i32 c1_i32 k0_t1
  let v449 : BitVec 32 := Scalar.subi c17_i32 arg37
  let c64_i32_175 : BitVec 32 := 64#32
  let v450 : BitVec 32 := Scalar.muli v449 c64_i32_175
  let v451 : Index := Scalar.indexCast v450
  let c0_176 : Index := 0#32
  ![v451.toNat, 0]
def k0_off4 (k0_t1 : Fin k0_t1_loop.trips) : Fin 2 → Nat :=
  let c17_i32 : BitVec 32 := 17#32
  let c0_i32 : BitVec 32 := 0#32
  let c1_i32 : BitVec 32 := 1#32
  let arg37 : BitVec 32 := Scf.iv c0_i32 c1_i32 k0_t1
  let v449 : BitVec 32 := Scalar.subi c17_i32 arg37
  let c64_i32_175 : BitVec 32 := 64#32
  let v450 : BitVec 32 := Scalar.muli v449 c64_i32_175
  let v455 : Index := Scalar.indexCast v450
  let c0_178 : Index := 0#32
  ![v455.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x1152x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S44x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1152x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2x1152x192 : Shape := ⟨3, ![2, 1152, 192]⟩
abbrev S768x192 : Shape := ⟨2, ![768, 192]⟩
abbrev S384x4 : Shape := ⟨2, ![384, 4]⟩
abbrev S384 : Shape := ⟨1, ![384]⟩
abbrev S44x384 : Shape := ⟨2, ![44, 384]⟩
abbrev S384x12 : Shape := ⟨2, ![384, 12]⟩
abbrev S384x16 : Shape := ⟨2, ![384, 16]⟩
abbrev S192x384 : Shape := ⟨2, ![192, 384]⟩
abbrev S4x1152x192 : Shape := ⟨3, ![4, 1152, 192]⟩
abbrev S192x768 : Shape := ⟨2, ![192, 768]⟩
abbrev S4x1152x768 : Shape := ⟨3, ![4, 1152, 768]⟩
abbrev S4x1152x384 : Shape := ⟨3, ![4, 1152, 384]⟩
abbrev S_ : Shape := ⟨0, ![]⟩
abbrev S4x1155x384 : Shape := ⟨3, ![4, 1155, 384]⟩
abbrev S384x1 : Shape := ⟨2, ![384, 1]⟩
abbrev S1x1x384 : Shape := ⟨3, ![1, 1, 384]⟩
abbrev S384x44 : Shape := ⟨2, ![384, 44]⟩
abbrev S4x1152x44 : Shape := ⟨3, ![4, 1152, 44]⟩
abbrev S4x1152x12 : Shape := ⟨3, ![4, 1152, 12]⟩
abbrev S4x1152x16 : Shape := ⟨3, ![4, 1152, 16]⟩
abbrev S12x384 : Shape := ⟨2, ![12, 384]⟩
abbrev S4x1152x384x1 : Shape := ⟨4, ![4, 1152, 384, 1]⟩
abbrev S1x1x384x16 : Shape := ⟨4, ![1, 1, 384, 16]⟩
abbrev S4x1152x384x16 : Shape := ⟨4, ![4, 1152, 384, 16]⟩
abbrev S4x1152x1x16 : Shape := ⟨4, ![4, 1152, 1, 16]⟩
abbrev S4x384x16 : Shape := ⟨3, ![4, 384, 16]⟩
abbrev S1152x4x384x16 : Shape := ⟨4, ![1152, 4, 384, 16]⟩
abbrev S1x4x384x16 : Shape := ⟨4, ![1, 4, 384, 16]⟩
abbrev S384x192 : Shape := ⟨2, ![384, 192]⟩

abbrev nBuf : Space → Nat
  | .hbm => 160
  | .vmem => 0
  | .smem => 0
  | _ => 0

abbrev hbmTy0_0 (i : Nat) : BufTy := match i % 128 with
  | 0 => ⟨S2x1152x192, .f32⟩
  | 1 => ⟨S768x192, .f32⟩
  | 2 => ⟨S384x4, .f32⟩
  | 3 => ⟨S384, .f32⟩
  | 4 => ⟨S44x384, .f32⟩
  | 5 => ⟨S384x12, .f32⟩
  | 6 => ⟨S384, .f32⟩
  | 7 => ⟨S384x16, .f32⟩
  | 8 => ⟨S384, .f32⟩
  | 9 => ⟨S192x384, .f32⟩
  | 10 => ⟨S2x1152x192, .f32⟩
  | 11 => ⟨S4x1152x192, .f32⟩
  | 12 => ⟨S192x768, .f32⟩
  | 13 => ⟨S4x1152x768, .f32⟩
  | 14 => ⟨S4x1152x384, .f32⟩
  | 15 => ⟨S4x1152x384, .f32⟩
  | 16 => ⟨S_, .i32⟩
  | 17 => ⟨S_, .f32⟩
  | 18 => ⟨S4x1155x384, .f32⟩
  | 19 => ⟨S4x1152x384, .f32⟩
  | 20 => ⟨S384x1, .f32⟩
  | 21 => ⟨S384, .f32⟩
  | 22 => ⟨S1x1x384, .f32⟩
  | 23 => ⟨S4x1152x384, .f32⟩
  | 24 => ⟨S4x1152x384, .f32⟩
  | 25 => ⟨S_, .f32⟩
  | 26 => ⟨S4x1152x384, .f32⟩
  | 27 => ⟨S4x1152x384, .f32⟩
  | 28 => ⟨S4x1152x384, .f32⟩
  | 29 => ⟨S384x1, .f32⟩
  | 30 => ⟨S384, .f32⟩
  | 31 => ⟨S1x1x384, .f32⟩
  | 32 => ⟨S4x1152x384, .f32⟩
  | 33 => ⟨S4x1152x384, .f32⟩
  | 34 => ⟨S4x1152x384, .f32⟩
  | 35 => ⟨S4x1152x384, .f32⟩
  | 36 => ⟨S384x1, .f32⟩
  | 37 => ⟨S384, .f32⟩
  | 38 => ⟨S1x1x384, .f32⟩
  | 39 => ⟨S4x1152x384, .f32⟩
  | 40 => ⟨S4x1152x384, .f32⟩
  | 41 => ⟨S4x1152x384, .f32⟩
  | 42 => ⟨S4x1152x384, .f32⟩
  | 43 => ⟨S384x1, .f32⟩
  | 44 => ⟨S384, .f32⟩
  | 45 => ⟨S1x1x384, .f32⟩
  | 46 => ⟨S4x1152x384, .f32⟩
  | 47 => ⟨S4x1152x384, .f32⟩
  | 48 => ⟨S4x1152x384, .f32⟩
  | 49 => ⟨S1x1x384, .f32⟩
  | 50 => ⟨S4x1152x384, .f32⟩
  | 51 => ⟨S4x1152x384, .f32⟩
  | 52 => ⟨S4x1152x384, .f32⟩
  | 53 => ⟨S4x1152x384, .f32⟩
  | 54 => ⟨S_, .f32⟩
  | 55 => ⟨S4x1152x384, .f32⟩
  | 56 => ⟨S4x1152x384, .f32⟩
  | 57 => ⟨S_, .f32⟩
  | 58 => ⟨S4x1152x384, .f32⟩
  | 59 => ⟨S4x1152x384, .f32⟩
  | 60 => ⟨S4x1152x384, .f32⟩
  | 61 => ⟨S384x44, .f32⟩
  | 62 => ⟨S4x1152x44, .f32⟩
  | 63 => ⟨S4x1152x12, .f32⟩
  | 64 => ⟨S4x1152x16, .f32⟩
  | 65 => ⟨S4x1152x16, .f32⟩
  | 66 => ⟨S12x384, .f32⟩
  | 67 => ⟨S4x1152x384, .f32⟩
  | 68 => ⟨S1x1x384, .f32⟩
  | 69 => ⟨S4x1152x384, .f32⟩
  | 70 => ⟨S4x1152x384, .f32⟩
  | 71 => ⟨S_, .f32⟩
  | 72 => ⟨S4x1152x384, .f32⟩
  | 73 => ⟨S4x1152x384, .f32⟩
  | 74 => ⟨S4x1152x384, .f32⟩
  | 75 => ⟨S4x1152x384, .f32⟩
  | 76 => ⟨S4x1152x384, .i1⟩
  | 77 => ⟨S4x1152x384, .f32⟩
  | 78 => ⟨S4x1152x384, .f32⟩
  | 79 => ⟨S4x1152x384, .f32⟩
  | 80 => ⟨S4x1152x384, .f32⟩
  | 81 => ⟨S4x1152x384, .f32⟩
  | 82 => ⟨S4x1152x384, .f32⟩
  | 83 => ⟨S4x1152x384, .f32⟩
  | 84 => ⟨S4x1152x384, .f32⟩
  | 85 => ⟨S384x16, .f32⟩
  | 86 => ⟨S384x16, .f32⟩
  | 87 => ⟨S4x1152x384x1, .f32⟩
  | 88 => ⟨S1x1x384x16, .f32⟩
  | 89 => ⟨S4x1152x384x16, .f32⟩
  | 90 => ⟨S4x1152x384x16, .f32⟩
  | 91 => ⟨S4x1152x384x16, .f32⟩
  | 92 => ⟨S4x1152x384x16, .f32⟩
  | 93 => ⟨S4x1152x384x1, .f32⟩
  | 94 => ⟨S4x1152x1x16, .f32⟩
  | 95 => ⟨S4x1152x384x16, .f32⟩
  | 96 => ⟨S4x1152x384x16, .f32⟩
  | 97 => ⟨S4x1152x384x16, .f32⟩
  | 98 => ⟨S4x1152x384x1, .f32⟩
  | 99 => ⟨S4x1152x384x16, .f32⟩
  | 100 => ⟨S4x1152x384x16, .f32⟩
  | 101 => ⟨S_, .f32⟩
  | 102 => ⟨S4x384x16, .f32⟩
  | 103 => ⟨S1152x4x384x16, .f32⟩
  | 104 => ⟨S1152x4x384x16, .f32⟩
  | 105 => ⟨S_, .f32⟩
  | 106 => ⟨S1152x4x384x16, .f32⟩
  | 107 => ⟨S_, .i32⟩
  | 108 => ⟨S1152x4x384x16, .f32⟩
  | 109 => ⟨S1152x4x384x16, .f32⟩
  | 110 => ⟨S_, .i32⟩
  | 111 => ⟨S4x384x16, .f32⟩
  | 112 => ⟨S1152x4x384x16, .f32⟩
  | 113 => ⟨S_, .i32⟩
  | 114 => ⟨S_, .i1⟩
  | 115 => ⟨S_, .i32⟩
  | 116 => ⟨S_, .i32⟩
  | 117 => ⟨S_, .i32⟩
  | 118 => ⟨S1x4x384x16, .f32⟩
  | 119 => ⟨S4x384x16, .f32⟩
  | 120 => ⟨S_, .i32⟩
  | 121 => ⟨S_, .i32⟩
  | 122 => ⟨S_, .i32⟩
  | 123 => ⟨S1x4x384x16, .f32⟩
  | 124 => ⟨S4x384x16, .f32⟩
  | 125 => ⟨S4x384x16, .f32⟩
  | 126 => ⟨S4x384x16, .f32⟩
  | 127 => ⟨S1x4x384x16, .f32⟩
  | _ => ⟨S2x1152x192, .f32⟩

abbrev hbmTy0_1 (i : Nat) : BufTy := match i % 128 with
  | 0 => ⟨S_, .i32⟩
  | 1 => ⟨S_, .i32⟩
  | 2 => ⟨S_, .i32⟩
  | 3 => ⟨S1152x4x384x16, .f32⟩
  | 4 => ⟨S_, .i32⟩
  | 5 => ⟨S_, .i32⟩
  | 6 => ⟨S4x1152x384x16, .f32⟩
  | 7 => ⟨S4x1152x1x16, .f32⟩
  | 8 => ⟨S4x1152x384x16, .f32⟩
  | 9 => ⟨S4x1152x384x16, .f32⟩
  | 10 => ⟨S_, .f32⟩
  | 11 => ⟨S4x1152x384, .f32⟩
  | 12 => ⟨S1x1x384, .f32⟩
  | 13 => ⟨S4x1152x384, .f32⟩
  | 14 => ⟨S4x1152x384, .f32⟩
  | 15 => ⟨S4x1152x384, .f32⟩
  | 16 => ⟨S4x1152x384, .f32⟩
  | 17 => ⟨S4x1152x384, .f32⟩
  | 18 => ⟨S_, .f32⟩
  | 19 => ⟨S4x1152x384, .f32⟩
  | 20 => ⟨S4x1152x384, .f32⟩
  | 21 => ⟨S_, .f32⟩
  | 22 => ⟨S4x1152x384, .f32⟩
  | 23 => ⟨S4x1152x384, .f32⟩
  | 24 => ⟨S4x1152x384, .f32⟩
  | 25 => ⟨S4x1152x384, .f32⟩
  | 26 => ⟨S384x192, .f32⟩
  | 27 => ⟨S4x1152x192, .f32⟩
  | 28 => ⟨S2x1152x192, .f32⟩
  | 29 => ⟨S2x1152x192, .f32⟩
  | 30 => ⟨S2x1152x192, .f32⟩
  | 31 => ⟨S2x1152x192, .f32⟩
  | _ => ⟨S2x1152x192, .f32⟩

abbrev hbmTy (i : Nat) : BufTy := match i / 128 with
  | 0 => hbmTy0_0 i
  | 1 => hbmTy0_1 i
  | _ => ⟨S2x1152x192, .f32⟩

abbrev bufTy : (tb : Table) → Fin (tcTables nBuf tb) → BufTy
  | .hbm, ⟨i, _⟩ => hbmTy i
  | _, _ => ⟨S2x1152x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call3_cst : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_1 : Ref sig .tc := ⟨.hbm, 105, rfl⟩
abbrev main_v70 : Ref sig .tc := ⟨.hbm, 106, rfl⟩
abbrev main_c_2 : Ref sig .tc := ⟨.hbm, 107, rfl⟩
abbrev main_v71_0 : Ref sig .tc := ⟨.hbm, 108, rfl⟩
abbrev main_v71_1 : Ref sig .tc := ⟨.hbm, 109, rfl⟩
abbrev main_v71_2 : Ref sig .tc := ⟨.hbm, 110, rfl⟩
abbrev main_v71_3 : Ref sig .tc := ⟨.hbm, 111, rfl⟩
abbrev main_v71_4 : Ref sig .tc := ⟨.hbm, 112, rfl⟩
abbrev main_while0c_c_8 : Ref sig .tc := ⟨.hbm, 113, rfl⟩
abbrev main_while0c_v89 : Ref sig .tc := ⟨.hbm, 114, rfl⟩
abbrev main_while0b_call4_c : Ref sig .tc := ⟨.hbm, 115, rfl⟩
abbrev main_while0b_call4_c_0 : Ref sig .tc := ⟨.hbm, 116, rfl⟩
abbrev main_while0b_call4_c_1 : Ref sig .tc := ⟨.hbm, 117, rfl⟩
abbrev main_while0b_call4_v0 : Ref sig .tc := ⟨.hbm, 118, rfl⟩
abbrev main_while0b_v89 : Ref sig .tc := ⟨.hbm, 119, rfl⟩
abbrev main_while0b_call5_c : Ref sig .tc := ⟨.hbm, 120, rfl⟩
abbrev main_while0b_call5_c_0 : Ref sig .tc := ⟨.hbm, 121, rfl⟩
abbrev main_while0b_call5_c_1 : Ref sig .tc := ⟨.hbm, 122, rfl⟩
abbrev main_while0b_call5_v0 : Ref sig .tc := ⟨.hbm, 123, rfl⟩
abbrev main_while0b_v90 : Ref sig .tc := ⟨.hbm, 124, rfl⟩
abbrev main_while0b_v91 : Ref sig .tc := ⟨.hbm, 125, rfl⟩
abbrev main_while0b_v92 : Ref sig .tc := ⟨.hbm, 126, rfl⟩
abbrev main_while0b_call6_v0 : Ref sig .tc := ⟨.hbm, 127, rfl⟩
abbrev main_while0b_call6_c : Ref sig .tc := ⟨.hbm, 128, rfl⟩
abbrev main_while0b_call6_c_0 : Ref sig .tc := ⟨.hbm, 129, rfl⟩
abbrev main_while0b_call6_c_1 : Ref sig .tc := ⟨.hbm, 130, rfl⟩
abbrev main_while0b_v93 : Ref sig .tc := ⟨.hbm, 131, rfl⟩
abbrev main_while0b_c_8 : Ref sig .tc := ⟨.hbm, 132, rfl⟩
abbrev main_while0b_v94 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_cst_3 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_call7_v0 : Ref sig .tc := ⟨.hbm, 144, rfl⟩
abbrev main_call7_v1 : Ref sig .tc := ⟨.hbm, 145, rfl⟩
abbrev main_call7_cst : Ref sig .tc := ⟨.hbm, 146, rfl⟩
abbrev main_call7_v2 : Ref sig .tc := ⟨.hbm, 147, rfl⟩
abbrev main_call7_v3 : Ref sig .tc := ⟨.hbm, 148, rfl⟩
abbrev main_call7_cst_0 : Ref sig .tc := ⟨.hbm, 149, rfl⟩
abbrev main_call7_v4 : Ref sig .tc := ⟨.hbm, 150, rfl⟩
abbrev main_call7_v5 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩

abbrev nD : Nat := 1
abbrev τ : Topo := Topo.v7x

variable {F : FTy → Type} [FloatOps F]

abbrev main_while0_count : Scf.Loop 32 := ⟨0#32, 1152#32, 1#32⟩
-- ==== Kernel2.lean ====
abbrev S2x2304x768 : Shape := ⟨3, ![2, 2304, 768]⟩
abbrev S2x1x2304 : Shape := ⟨3, ![2, 1, 2304]⟩
abbrev S2x2304x192 : Shape := ⟨3, ![2, 2304, 192]⟩
abbrev S192x768 : Shape := ⟨2, ![192, 768]⟩
abbrev S192 : Shape := ⟨1, ![192]⟩
abbrev S1x192 : Shape := ⟨2, ![1, 192]⟩
abbrev S1x2304x768 : Shape := ⟨3, ![1, 2304, 768]⟩
abbrev S1x1x2304 : Shape := ⟨3, ![1, 1, 2304]⟩
abbrev S1x2304x192 : Shape := ⟨3, ![1, 2304, 192]⟩
abbrev S1x2304 : Shape := ⟨2, ![1, 2304]⟩
abbrev S2304x768 : Shape := ⟨2, ![2304, 768]⟩
abbrev S128x1 : Shape := ⟨2, ![128, 1]⟩
abbrev S128x2304 : Shape := ⟨2, ![128, 2304]⟩
abbrev S128x768 : Shape := ⟨2, ![128, 768]⟩
abbrev S128x192 : Shape := ⟨2, ![128, 192]⟩
abbrev S1152x192 : Shape := ⟨2, ![1152, 192]⟩
abbrev S2304x192 : Shape := ⟨2, ![2304, 192]⟩
abbrev S1x1 : Shape := ⟨2, ![1, 1]⟩
abbrev S2304x1 : Shape := ⟨2, ![2304, 1]⟩
abbrev S1x1152 : Shape := ⟨2, ![1, 1152]⟩
abbrev S256x1 : Shape := ⟨2, ![256, 1]⟩
abbrev S256x1152 : Shape := ⟨2, ![256, 1152]⟩
abbrev S256x192 : Shape := ⟨2, ![256, 192]⟩

abbrev nBuf : Space → Nat
  | .hbm => 8
  | .vmem => 12
  | .smem => 0
  | _ => 0

abbrev bufTy : (tb : Table) → Fin (tcTables nBuf tb) → BufTy
  | .hbm, ⟨0, _⟩ => ⟨S2x2304x768, .f32⟩
  | .hbm, ⟨1, _⟩ => ⟨S2x1x2304, .f32⟩
  | .hbm, ⟨2, _⟩ => ⟨S2x1x2304, .f32⟩
  | .hbm, ⟨3, _⟩ => ⟨S2x2304x192, .f32⟩
  | .hbm, ⟨4, _⟩ => ⟨S192x768, .f32⟩
  | .hbm, ⟨5, _⟩ => ⟨S192, .f32⟩
  | .hbm, ⟨6, _⟩ => ⟨S1x192, .f32⟩
  | .hbm, ⟨7, _⟩ => ⟨S2x2304x192, .f32⟩
  | .local _ .vmem, ⟨0, _⟩ => ⟨S1x2304x768, .f32⟩
  | .local _ .vmem, ⟨1, _⟩ => ⟨S1x2304x768, .f32⟩
  | .local _ .vmem, ⟨2, _⟩ => ⟨S1x1x2304, .f32⟩
  | .local _ .vmem, ⟨3, _⟩ => ⟨S1x1x2304, .f32⟩
  | .local _ .vmem, ⟨4, _⟩ => ⟨S1x1x2304, .f32⟩
  | .local _ .vmem, ⟨5, _⟩ => ⟨S1x1x2304, .f32⟩
  | .local _ .vmem, ⟨6, _⟩ => ⟨S1x2304x192, .f32⟩
  | .local _ .vmem, ⟨7, _⟩ => ⟨S1x2304x192, .f32⟩
  | .local _ .vmem, ⟨8, _⟩ => ⟨S192x768, .f32⟩
  | .local _ .vmem, ⟨9, _⟩ => ⟨S1x192, .f32⟩
  | .local _ .vmem, ⟨10, _⟩ => ⟨S1x2304x192, .f32⟩
  | .local _ .vmem, ⟨11, _⟩ => ⟨S1x2304x192, .f32⟩
  | _, _ => ⟨S2x2304x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2304x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2304x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x2304x768 : Shape := ⟨3, ![2, 2304, 768]⟩
abbrev S2x1x2304 : Shape := ⟨3, ![2, 1, 2304]⟩
abbrev S2x2304x192 : Shape := ⟨3, ![2, 2304, 192]⟩
abbrev S192x768 : Shape := ⟨2, ![192, 768]⟩
abbrev S192 : Shape := ⟨1, ![192]⟩
abbrev S_ : Shape := ⟨0, ![]⟩
abbrev S768x192 : Shape := ⟨2, ![768, 192]⟩
abbrev S1x1x192 : Shape := ⟨3, ![1, 1, 192]⟩
abbrev S2x2304x1 : Shape := ⟨3, ![2, 2304, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x2304x768, .f32⟩
  | .hbm, ⟨1, _⟩ => ⟨S2x1x2304, .f32⟩
  | .hbm, ⟨2, _⟩ => ⟨S2x1x2304, .f32⟩
  | .hbm, ⟨3, _⟩ => ⟨S2x2304x192, .f32⟩
  | .hbm, ⟨4, _⟩ => ⟨S192x768, .f32⟩
  | .hbm, ⟨5, _⟩ => ⟨S192, .f32⟩
  | .hbm, ⟨6, _⟩ => ⟨S_, .f32⟩
  | .hbm, ⟨7, _⟩ => ⟨S2x2304x768, .f32⟩
  | .hbm, ⟨8, _⟩ => ⟨S2x2304x768, .f32⟩
  | .hbm, ⟨9, _⟩ => ⟨S2x2304x768, .f32⟩
  | .hbm, ⟨10, _⟩ => ⟨S_, .f32⟩
  | .hbm, ⟨11, _⟩ => ⟨S2x2304x768, .f32⟩
  | .hbm, ⟨12, _⟩ => ⟨S2x2304x768, .f32⟩
  | .hbm, ⟨13, _⟩ => ⟨S2x2304x768, .f32⟩
  | .hbm, ⟨14, _⟩ => ⟨S2x2304x768, .f32⟩
  | .hbm, ⟨15, _⟩ => ⟨S768x192, .f32⟩
  | .hbm, ⟨16, _⟩ => ⟨S2x2304x192, .f32⟩
  | .hbm, ⟨17, _⟩ => ⟨S1x1x192, .f32⟩
  | .hbm, ⟨18, _⟩ => ⟨S2x2304x192, .f32⟩
  | .hbm, ⟨19, _⟩ => ⟨S2x2304x192, .f32⟩
  | .hbm, ⟨20, _⟩ => ⟨S2x2304x1, .f32⟩
  | .hbm, ⟨21, _⟩ => ⟨S_, .f32⟩
  | .hbm, ⟨22, _⟩ => ⟨S2x2304x1, .f32⟩
  | .hbm, ⟨23, _⟩ => ⟨S2x2304x1, .i1⟩
  | .hbm, ⟨24, _⟩ => ⟨S_, .f32⟩
  | .hbm, ⟨25, _⟩ => ⟨S_, .f32⟩
  | .hbm, ⟨26, _⟩ => ⟨S2x2304x192, .i1⟩
  | .hbm, ⟨27, _⟩ => ⟨S2x2304x192, .f32⟩
  | .hbm, ⟨28, _⟩ => ⟨S2x2304x192, .f32⟩
  | .hbm, ⟨29, _⟩ => ⟨S2x2304x192, .f32⟩
  | _, _ => ⟨S2x2304x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Proof.Stage.lean ====
/- The memrefs the selective-scan call works on: the staging buffer of each window, the scratch buffers, the part of
   the frame invariant that owns the scratch, and the body's row in the table of functions. -/
module

public import proofs.«01_k».proof.Proof.Gen.KernelIdeal.Frame

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Each window's current staging memref at point `t`, spelled as the pipeline passes it (`bodyAt0`), and its wholeness. -/
abbrev ms0_0 (t : Fin cfg0.N) : Memref sig .tc .vmem S2x1152x192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S44x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x12 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x6144 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x6144 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x384 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S192x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x1152x192 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1152x384 .f32 := Memref.whole cc0_scratch0
abbrev scM0_1 : Memref sig .tc .vmem S1152x384 .f32 := Memref.whole cc0_scratch1
abbrev scM0_2 : Memref sig .tc .vmem S1152x384 .f32 := Memref.whole cc0_scratch2
abbrev scM0_3 : Memref sig .tc .vmem S1152x384 .f32 := Memref.whole cc0_scratch3
abbrev scM0_4 : Memref sig .tc .vmem S1152x16 .f32 := Memref.whole cc0_scratch4
abbrev scM0_5 : Memref sig .tc .vmem S1152x16 .f32 := Memref.whole cc0_scratch5
abbrev scM0_6 : Memref sig .tc .vmem S1152x384 .f32 := Memref.whole cc0_scratch6
abbrev scM0_7 : Memref sig .tc .vmem S1152x384 .f32 := Memref.whole cc0_scratch7
abbrev scM0_8 : Memref sig .tc .vmem S1152x384 .f32 := Memref.whole cc0_scratch8
abbrev scM0_9 : Memref sig .tc .vmem S1152x384 .f32 := Memref.whole cc0_scratch9
abbrev scM0_10 : Memref sig .tc .vmem S1152x16 .f32 := Memref.whole cc0_scratch10
abbrev scM0_11 : Memref sig .tc .vmem S1152x16 .f32 := Memref.whole cc0_scratch11
abbrev scM0_12 : Memref sig .tc .vmem S1152x384 .f32 := Memref.whole cc0_scratch12
abbrev scM0_13 : Memref sig .tc .vmem S1152x384 .f32 := Memref.whole cc0_scratch13
abbrev scM0_14 : Memref sig .tc .vmem S1152x384 .f32 := Memref.whole cc0_scratch14
abbrev scM0_15 : Memref sig .tc .vmem S1152x384 .f32 := Memref.whole cc0_scratch15
abbrev scM0_16 : Memref sig .tc .vmem S1152x16 .f32 := Memref.whole cc0_scratch16
abbrev scM0_17 : Memref sig .tc .vmem S1152x16 .f32 := Memref.whole cc0_scratch17
abbrev scM0_18 : Memref sig .tc .vmem S1152x384 .f32 := Memref.whole cc0_scratch18
abbrev scM0_19 : Memref sig .tc .vmem S1152x384 .f32 := Memref.whole cc0_scratch19
abbrev scM0_20 : Memref sig .tc .vmem S1152x384 .f32 := Memref.whole cc0_scratch20
abbrev scM0_21 : Memref sig .tc .vmem S1152x384 .f32 := Memref.whole cc0_scratch21
abbrev scM0_22 : Memref sig .tc .vmem S1152x16 .f32 := Memref.whole cc0_scratch22
abbrev scM0_23 : Memref sig .tc .vmem S1152x16 .f32 := Memref.whole cc0_scratch23

/-- The frame kit's invariant with the scratch operands as memrefs owned at some contents (`scopedRest0_eq`, `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, scM0_14, scM0_15, scM0_16, scM0_17, scM0_18, scM0_19, scM0_20, scM0_21, scM0_22, scM0_23, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.KernelIdeal.Scan

end
-- ==== Proof.Scan.lean ====
module

public import proofs.«01_k».proof.Proof.Gen.KernelIdeal.Frame
public import proofs.«01_k».proof.Proof.Gen.KernelIdeal.Skeleton
public import Idealize.ShloMosaic.Lib.WritesUnit
public import Idealize.ShloMosaic.Lib.Pipeline.Value
public import Idealize.ShloMosaic.Lib.Pointwise

/-
The scan of one stream, as the kernel computes it: the step from one block of 64 rows to the next.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The state carried from block to block: one value per position `n * 384 + d`. -/
abbrev Car (F : FTy → Type) := FVec F S1x6144 .f32

/-- The 64 rows of a plane from row `o`. -/
def rows384 (x : Vec F S1152x384 .f32) (o : ℕ) : Vec F S64x384 .f32 :=
  fun j => x (ix2 ⟨(o + (j 0).val) % 1152, Nat.mod_lt _ (by decide)⟩ (j 1))

/-- The 64 rows of a narrow plane from row `o`. -/
def rows16 (x : Vec F S1152x16 .f32) (o : ℕ) : Vec F S64x16 .f32 :=
  fun j => x (ix2 ⟨(o + (j 0).val) % 1152, Nat.mod_lt _ (by decide)⟩ (j 1))

section
variable (v4 : FVec F S1x6144 .f32) (v6 : FVec F S16x6144 .f32) (h : FVec F S1x6144 .f32)
  (dt g : Vec F S64x384 .f32) (bm cm : Vec F S64x16 .f32)

/-- The state after a block of the forward scan. -/
def fN : FVec F S1x6144 .f32 :=
  k0_pay11 h (k0_pay6 v4 v6 dt g bm) (k0_pay7 v4 dt) k0_pay8 k0_pay9

/-- The rows a block of the forward scan writes. -/
def fY : FVec F S64x384 .f32 :=
  k0_pay15 (k0_pay12 v6 h cm (k0_pay6 v4 v6 dt g bm) (k0_pay7 v4 dt) k0_pay8 k0_pay9)
    (k0_pay13 v6 h cm (k0_pay6 v4 v6 dt g bm) (k0_pay7 v4 dt) k0_pay8 k0_pay9)
    (k0_pay14 v6 h cm (k0_pay6 v4 v6 dt g bm) (k0_pay7 v4 dt) k0_pay8 k0_pay9)

/-- The state after a block of the backward scan. -/
def rN : FVec F S1x6144 .f32 :=
  k0_pay21 h (k0_pay18 v4 v6 dt g bm) (k0_pay19 v4 dt) (FloatOps.ofBits FTy.f32 1065353216#32)

/-- The rows a block of the backward scan writes. -/
def rY : FVec F S64x384 .f32 :=
  k0_pay25 (k0_pay22 v6 h cm (k0_pay18 v4 v6 dt g bm) (k0_pay19 v4 dt) (FloatOps.ofBits FTy.f32 1065353216#32))
    (k0_pay23 v6 h cm (k0_pay18 v4 v6 dt g bm) (k0_pay19 v4 dt) (FloatOps.ofBits FTy.f32 1065353216#32))
    (k0_pay24 v6 h cm (k0_pay18 v4 v6 dt g bm) (k0_pay19 v4 dt) (FloatOps.ofBits FTy.f32 1065353216#32))

theorem fN_second : k0_pay30 h (k0_pay27 v4 v6 dt g bm) (k0_pay28 v4 dt) = fN v4 v6 h dt g bm := rfl

theorem fY_second : k0_pay31 v6 cm (k0_pay29 h (k0_pay27 v4 v6 dt g bm) (k0_pay28 v4 dt))
    (constant S64x6144 .f32 0x00000000#32) = fY v4 v6 h dt g bm cm := rfl

theorem rN_second : k0_pay42 h (k0_pay38 v6 bm (k0_pay32 v4 dt) (k0_pay33 g)) (k0_pay39 (k0_pay32 v4 dt)) k0_pay40
    = rN v4 v6 h dt g bm := rfl

theorem rY_second : k0_pay43 v6 h cm (k0_pay38 v6 bm (k0_pay32 v4 dt) (k0_pay33 g)) (k0_pay39 (k0_pay32 v4 dt)) k0_pay40
    = rY v4 v6 h dt g bm cm := rfl
end

section
variable (v4 : FVec F S1x6144 .f32) (v6 : FVec F S16x6144 .f32) (init : FVec F S1x6144 .f32)
  (DT G : Vec F S1152x384 .f32) (BM CM : Vec F S1152x16 .f32)

/-- The forward state before block `k`. -/
def fSt : ℕ → FVec F S1x6144 .f32
  | 0 => init
  | k + 1 => fN v4 v6 (fSt k) (rows384 DT (64 * k)) (rows384 G (64 * k)) (rows16 BM (64 * k))

/-- The backward state before block `k` from the end. -/
def rSt : ℕ → FVec F S1x6144 .f32
  | 0 => init
  | k + 1 => rN v4 v6 (rSt k) (rows384 DT (64 * (17 - k))) (rows384 G (64 * (17 - k))) (rows16 BM (64 * (17 - k)))

/-- The forward scan's plane. -/
def fOut : Vec F S1152x384 .f32 := fun y =>
  fY v4 v6 (fSt v4 v6 init DT G BM ((y 0).val / 64)) (rows384 DT (64 * ((y 0).val / 64)))
    (rows384 G (64 * ((y 0).val / 64))) (rows16 BM (64 * ((y 0).val / 64))) (rows16 CM (64 * ((y 0).val / 64)))
    (ix2 ⟨(y 0).val % 64, Nat.mod_lt _ (by decide)⟩ (y 1))

/-- The backward scan's plane. -/
def rOut : Vec F S1152x384 .f32 := fun y =>
  rY v4 v6 (rSt v4 v6 init DT G BM (17 - (y 0).val / 64)) (rows384 DT (64 * ((y 0).val / 64)))
    (rows384 G (64 * ((y 0).val / 64))) (rows16 BM (64 * ((y 0).val / 64))) (rows16 CM (64 * ((y 0).val / 64)))
    (ix2 ⟨(y 0).val % 64, Nat.mod_lt _ (by decide)⟩ (y 1))
end

end Cert.KernelIdeal.Scan
-- ==== Proof.Trip.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Scan

/-
The counted loop of the kernel: what each trip carries on and writes, and what all of them leave in the four planes.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem off1_eq : ∀ k : Fin k0_t1_loop.trips, k0_off1 k = ![64 * k.val, 0] := by decide +kernel
theorem off2_eq : ∀ k : Fin k0_t1_loop.trips, k0_off2 k = ![64 * k.val, 0] := by decide +kernel
theorem off3_eq : ∀ k : Fin k0_t1_loop.trips, k0_off3 k = ![64 * (17 - k.val), 0] := by decide +kernel
theorem off4_eq : ∀ k : Fin k0_t1_loop.trips, k0_off4 k = ![64 * (17 - k.val), 0] := by decide +kernel

/-- A load of 64 rows reads those rows of the plane. -/
theorem load384 (a : Memref sig .tc .vmem S1152x384 .f32) (f : BufTy.Contents (Elt F) a.view.ty) (off : Fin 2 → ℕ)
    (inb : ∀ x, off x + S64x384.size x ≤ S1152x384.size x) (o : ℕ) (h : off = ![o, 0]) (ho : o + 64 ≤ 1152) :
    View.readAt (Elt F) a.view (Rect.unit (s := S1152x384) off S64x384.size inb).toLoadRect f = rows384 (a.view.read (Elt F) f) o := by
  subst h
  funext j
  rw [View.readAt_apply]
  show _ = a.view.read (Elt F) f _
  congr 1
  funext x
  apply Fin.ext
  have h0 : (j 0).val < 64 := (j 0).isLt
  match x with
  | 0 => show o + 1 * (j 0).val = (o + (j 0).val) % 1152; omega
  | 1 => show 0 + 1 * (j 1).val = (j 1).val; omega

/-- The same of a narrow plane. -/
theorem load16 (a : Memref sig .tc .vmem S1152x16 .f32) (f : BufTy.Contents (Elt F) a.view.ty) (off : Fin 2 → ℕ)
    (inb : ∀ x, off x + S64x16.size x ≤ S1152x16.size x) (o : ℕ) (h : off = ![o, 0]) (ho : o + 64 ≤ 1152) :
    View.readAt (Elt F) a.view (Rect.unit (s := S1152x16) off S64x16.size inb).toLoadRect f = rows16 (a.view.read (Elt F) f) o := by
  subst h
  funext j
  rw [View.readAt_apply]
  show _ = a.view.read (Elt F) f _
  congr 1
  funext x
  apply Fin.ext
  have h0 : (j 0).val < 64 := (j 0).isLt
  match x with
  | 0 => show o + 1 * (j 0).val = (o + (j 0).val) % 1152; omega
  | 1 => show 0 + 1 * (j 1).val = (j 1).val; omega

/-- Pieces of 64 rows, the `k`-th at rows `64 * k`: a row that the first `k` of them cover holds what its piece has there. -/
theorem rows_upward (a : Memref sig .tc .vmem S1152x384 .f32) (f : BufTy.Contents (Elt F) a.view.ty)
    (L : ℕ → List (View.Piece (Elt F) S1152x384 .f32)) (g : ℕ → FVec F S64x384 .f32) (off : Fin k0_t1_loop.trips → Fin 2 → ℕ)
    (inb : ∀ k, ∀ x, off k x + S64x384.size x ≤ S1152x384.size x) (hoff : ∀ k, off k = ![64 * k.val, 0])
    (hL : ∀ (k : ℕ) (hk : k < k0_t1_loop.trips), k < 18 → L (k + 1) = ⟨Rect.unit (s := S1152x384) (off ⟨k, hk⟩) S64x384.size (inb ⟨k, hk⟩), g k⟩ :: L k) :
    ∀ k : ℕ, k ≤ 18 → ∀ y : S1152x384.Idx, (y 0).val < 64 * k →
      a.view.read (Elt F) (a.view.writes (Elt F) f (L k)) y = g ((y 0).val / 64) (ix2 ⟨(y 0).val % 64, Nat.mod_lt _ (by decide)⟩ (y 1)) := by
  intro k
  induction k with
  | zero => intro _ y hy; exact absurd hy (by omega)
  | succ k ih =>
    intro hk y hy
    have hb : k < k0_t1_loop.trips := lt_of_lt_of_le (Nat.lt_of_succ_le hk) (by decide +kernel)
    rw [hL k hb (by omega)]
    by_cases h : (y 0).val < 64 * k
    · refine (View.read_writes_cons_rows_of_not_mem a.view f (inb ⟨k, hb⟩) _ _ y (hoff ⟨k, hb⟩) (W := 64) rfl ?_).trans (ih (by omega) y h)
      dsimp only
      omega
    · have hq : (y 0).val / 64 = k := by omega
      have hq' : (y 0).val = (64 * k) + (y 0).val % 64 := by omega
      refine (View.read_writes_cons_rows_of_mem a.view f (inb ⟨k, hb⟩) _ _ y
        (ix2 ⟨(y 0).val % 64, Nat.mod_lt _ (by decide)⟩ (y 1)) (hoff ⟨k, hb⟩) hq' rfl).trans ?_
      rw [hq]

/-- The same of pieces from the last 64 rows to the first. -/
theorem rows_downward (a : Memref sig .tc .vmem S1152x384 .f32) (f : BufTy.Contents (Elt F) a.view.ty)
    (L : ℕ → List (View.Piece (Elt F) S1152x384 .f32)) (g : ℕ → FVec F S64x384 .f32) (off : Fin k0_t1_loop.trips → Fin 2 → ℕ)
    (inb : ∀ k, ∀ x, off k x + S64x384.size x ≤ S1152x384.size x) (hoff : ∀ k, off k = ![64 * (17 - k.val), 0])
    (hL : ∀ (k : ℕ) (hk : k < k0_t1_loop.trips), k < 18 → L (k + 1) = ⟨Rect.unit (s := S1152x384) (off ⟨k, hk⟩) S64x384.size (inb ⟨k, hk⟩), g (17 - k)⟩ :: L k) :
    ∀ k : ℕ, k ≤ 18 → ∀ y : S1152x384.Idx, 64 * (18 - k) ≤ (y 0).val →
      a.view.read (Elt F) (a.view.writes (Elt F) f (L k)) y = g ((y 0).val / 64) (ix2 ⟨(y 0).val % 64, Nat.mod_lt _ (by decide)⟩ (y 1)) := by
  intro k
  induction k with
  | zero => intro _ y hy; exact absurd hy (by have := (y 0).isLt; change (y 0).val < 1152 at this; omega)
  | succ k ih =>
    intro hk y hy
    have hb : k < k0_t1_loop.trips := lt_of_lt_of_le (Nat.lt_of_succ_le hk) (by decide +kernel)
    have hy' : (y 0).val < 1152 := (y 0).isLt
    rw [hL k hb (by omega)]
    by_cases h : 64 * (18 - k) ≤ (y 0).val
    · refine (View.read_writes_cons_rows_of_not_mem a.view f (inb ⟨k, hb⟩) _ _ y (hoff ⟨k, hb⟩) (W := 64) rfl ?_).trans (ih (by omega) y h)
      dsimp only
      omega
    · have hq : (y 0).val / 64 = 17 - k := by omega
      have hq' : (y 0).val = (64 * (17 - k)) + (y 0).val % 64 := by omega
      refine (View.read_writes_cons_rows_of_mem a.view f (inb ⟨k, hb⟩) _ _ y
        (ix2 ⟨(y 0).val % 64, Nat.mod_lt _ (by decide)⟩ (y 1)) (hoff ⟨k, hb⟩) hq' rfl).trans ?_
      rw [hq]

section
variable (𝒱 : Variants) (c : Dev nD) (bd : Option 𝒱.V) (i : grid0.Coords) (arg1 : Memref sig .tc .vmem S2x1152x192 .f32) (harg1 : arg1.IsWhole) (arg2 : Memref sig .tc .vmem S768x192 .f32) (harg2 : arg2.IsWhole) (arg3 : Memref sig .tc .vmem S4x384 .f32) (harg3 : arg3.IsWhole) (arg4 : Memref sig .tc .vmem S1x384 .f32) (harg4 : arg4.IsWhole) (arg5 : Memref sig .tc .vmem S44x384 .f32) (harg5 : arg5.IsWhole) (arg6 : Memref sig .tc .vmem S384x12 .f32) (harg6 : arg6.IsWhole) (arg7 : Memref sig .tc .vmem S1x384 .f32) (harg7 : arg7.IsWhole) (arg8 : Memref sig .tc .vmem S1x6144 .f32) (harg8 : arg8.IsWhole) (arg9 : Memref sig .tc .vmem S16x6144 .f32) (harg9 : arg9.IsWhole) (arg10 : Memref sig .tc .vmem S1x384 .f32) (harg10 : arg10.IsWhole) (arg11 : Memref sig .tc .vmem S192x384 .f32) (harg11 : arg11.IsWhole) (arg12 : Memref sig .tc .vmem S2x1152x192 .f32) (harg12 : arg12.IsWhole) (arg13 : Memref sig .tc .vmem S1152x384 .f32) (harg13 : arg13.IsWhole) (arg14 : Memref sig .tc .vmem S1152x384 .f32) (harg14 : arg14.IsWhole) (arg15 : Memref sig .tc .vmem S1152x384 .f32) (harg15 : arg15.IsWhole) (arg16 : Memref sig .tc .vmem S1152x384 .f32) (harg16 : arg16.IsWhole) (arg17 : Memref sig .tc .vmem S1152x16 .f32) (harg17 : arg17.IsWhole) (arg18 : Memref sig .tc .vmem S1152x16 .f32) (harg18 : arg18.IsWhole) (arg19 : Memref sig .tc .vmem S1152x384 .f32) (harg19 : arg19.IsWhole) (arg20 : Memref sig .tc .vmem S1152x384 .f32) (harg20 : arg20.IsWhole) (arg21 : Memref sig .tc .vmem S1152x384 .f32) (harg21 : arg21.IsWhole) (arg22 : Memref sig .tc .vmem S1152x384 .f32) (harg22 : arg22.IsWhole) (arg23 : Memref sig .tc .vmem S1152x16 .f32) (harg23 : arg23.IsWhole) (arg24 : Memref sig .tc .vmem S1152x16 .f32) (harg24 : arg24.IsWhole) (arg25 : Memref sig .tc .vmem S1152x384 .f32) (harg25 : arg25.IsWhole) (arg26 : Memref sig .tc .vmem S1152x384 .f32) (harg26 : arg26.IsWhole) (arg27 : Memref sig .tc .vmem S1152x384 .f32) (harg27 : arg27.IsWhole) (arg28 : Memref sig .tc .vmem S1152x384 .f32) (harg28 : arg28.IsWhole) (arg29 : Memref sig .tc .vmem S1152x16 .f32) (harg29 : arg29.IsWhole) (arg30 : Memref sig .tc .vmem S1152x16 .f32) (harg30 : arg30.IsWhole) (arg31 : Memref sig .tc .vmem S1152x384 .f32) (harg31 : arg31.IsWhole) (arg32 : Memref sig .tc .vmem S1152x384 .f32) (harg32 : arg32.IsWhole) (arg33 : Memref sig .tc .vmem S1152x384 .f32) (harg33 : arg33.IsWhole) (arg34 : Memref sig .tc .vmem S1152x384 .f32) (harg34 : arg34.IsWhole) (arg35 : Memref sig .tc .vmem S1152x16 .f32) (harg35 : arg35.IsWhole) (arg36 : Memref sig .tc .vmem S1152x16 .f32) (harg36 : arg36.IsWhole) (v4 : FVec F S1x6144 .f32) (v6 : FVec F S16x6144 .f32) (v12 : FVec F S1152x384 .f32) (v255 : FVec F S1152x384 .f32) (v257 : FVec F S1152x44 .f32) (v282 : FVec F S1152x384 .f32) (X_arg13 : BufTy.Contents (Elt F) arg13.view.ty) (X_arg14 : BufTy.Contents (Elt F) arg14.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) (X_arg35 : BufTy.Contents (Elt F) arg35.view.ty) (X_arg36 : BufTy.Contents (Elt F) arg36.view.ty) (k : Fin k0_t1_loop.trips)
variable (k : Fin k0_t1_loop.trips) (acc : FVec F S1x6144 .f32 × FVec F S1x6144 .f32 × FVec F S1x6144 .f32 × FVec F S1x6144 .f32)

/-- What a trip carries on, over the loads it makes. -/
theorem trip_state : tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 k acc = (fN v4 v6 acc.1 (View.readAt (Elt F) arg13.view (Rect.unit (s := S1152x384) (k0_off1 k) S64x384.size (k0_off1_inb k)).toLoadRect X_arg13) (View.readAt (Elt F) arg14.view (Rect.unit (s := S1152x384) (k0_off1 k) S64x384.size (k0_off1_inb k)).toLoadRect X_arg14) (View.readAt (Elt F) arg17.view (Rect.unit (s := S1152x16) (k0_off2 k) S64x16.size (k0_off2_inb k)).toLoadRect X_arg17), rN v4 v6 acc.2.1 (View.readAt (Elt F) arg19.view (Rect.unit (s := S1152x384) (k0_off3 k) S64x384.size (k0_off3_inb k)).toLoadRect X_arg19) (View.readAt (Elt F) arg20.view (Rect.unit (s := S1152x384) (k0_off3 k) S64x384.size (k0_off3_inb k)).toLoadRect X_arg20) (View.readAt (Elt F) arg23.view (Rect.unit (s := S1152x16) (k0_off4 k) S64x16.size (k0_off4_inb k)).toLoadRect X_arg23), fN v4 v6 acc.2.2.1 (View.readAt (Elt F) arg25.view (Rect.unit (s := S1152x384) (k0_off1 k) S64x384.size (k0_off1_inb k)).toLoadRect X_arg25) (View.readAt (Elt F) arg26.view (Rect.unit (s := S1152x384) (k0_off1 k) S64x384.size (k0_off1_inb k)).toLoadRect X_arg26) (View.readAt (Elt F) arg29.view (Rect.unit (s := S1152x16) (k0_off2 k) S64x16.size (k0_off2_inb k)).toLoadRect X_arg29), rN v4 v6 acc.2.2.2 (View.readAt (Elt F) arg31.view (Rect.unit (s := S1152x384) (k0_off3 k) S64x384.size (k0_off3_inb k)).toLoadRect X_arg31) (View.readAt (Elt F) arg32.view (Rect.unit (s := S1152x384) (k0_off3 k) S64x384.size (k0_off3_inb k)).toLoadRect X_arg32) (View.readAt (Elt F) arg35.view (Rect.unit (s := S1152x16) (k0_off4 k) S64x16.size (k0_off4_inb k)).toLoadRect X_arg35)) := by
  unfold tripR_k0_t1 trip_k0_t1
  dsimp only
  sl_unfold_words
  rfl

/-- What a trip writes to plane 0. -/
theorem trip_piece0 : (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 k acc).1 = [⟨Rect.unit (s := S1152x384) (k0_off1 k) S64x384.size (k0_off1_inb k), fY v4 v6 acc.1 (View.readAt (Elt F) arg13.view (Rect.unit (s := S1152x384) (k0_off1 k) S64x384.size (k0_off1_inb k)).toLoadRect X_arg13) (View.readAt (Elt F) arg14.view (Rect.unit (s := S1152x384) (k0_off1 k) S64x384.size (k0_off1_inb k)).toLoadRect X_arg14) (View.readAt (Elt F) arg17.view (Rect.unit (s := S1152x16) (k0_off2 k) S64x16.size (k0_off2_inb k)).toLoadRect X_arg17) (View.readAt (Elt F) arg18.view (Rect.unit (s := S1152x16) (k0_off2 k) S64x16.size (k0_off2_inb k)).toLoadRect X_arg18)⟩] := by
  unfold tripL_k0_t1 trip_k0_t1
  dsimp only
  sl_unfold_words
  rfl

/-- What a trip writes to plane 1. -/
theorem trip_piece1 : (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 k acc).2.1 = [⟨Rect.unit (s := S1152x384) (k0_off3 k) S64x384.size (k0_off3_inb k), rY v4 v6 acc.2.1 (View.readAt (Elt F) arg19.view (Rect.unit (s := S1152x384) (k0_off3 k) S64x384.size (k0_off3_inb k)).toLoadRect X_arg19) (View.readAt (Elt F) arg20.view (Rect.unit (s := S1152x384) (k0_off3 k) S64x384.size (k0_off3_inb k)).toLoadRect X_arg20) (View.readAt (Elt F) arg23.view (Rect.unit (s := S1152x16) (k0_off4 k) S64x16.size (k0_off4_inb k)).toLoadRect X_arg23) (View.readAt (Elt F) arg24.view (Rect.unit (s := S1152x16) (k0_off4 k) S64x16.size (k0_off4_inb k)).toLoadRect X_arg24)⟩] := by
  unfold tripL_k0_t1 trip_k0_t1
  dsimp only
  sl_unfold_words
  rfl

/-- What a trip writes to plane 2. -/
theorem trip_piece2 : (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 k acc).2.2.1 = [⟨Rect.unit (s := S1152x384) (k0_off1 k) S64x384.size (k0_off1_inb k), fY v4 v6 acc.2.2.1 (View.readAt (Elt F) arg25.view (Rect.unit (s := S1152x384) (k0_off1 k) S64x384.size (k0_off1_inb k)).toLoadRect X_arg25) (View.readAt (Elt F) arg26.view (Rect.unit (s := S1152x384) (k0_off1 k) S64x384.size (k0_off1_inb k)).toLoadRect X_arg26) (View.readAt (Elt F) arg29.view (Rect.unit (s := S1152x16) (k0_off2 k) S64x16.size (k0_off2_inb k)).toLoadRect X_arg29) (View.readAt (Elt F) arg30.view (Rect.unit (s := S1152x16) (k0_off2 k) S64x16.size (k0_off2_inb k)).toLoadRect X_arg30)⟩] := by
  unfold tripL_k0_t1 trip_k0_t1
  dsimp only
  sl_unfold_words
  rfl

/-- What a trip writes to plane 3. -/
theorem trip_piece3 : (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 k acc).2.2.2 = [⟨Rect.unit (s := S1152x384) (k0_off3 k) S64x384.size (k0_off3_inb k), rY v4 v6 acc.2.2.2 (View.readAt (Elt F) arg31.view (Rect.unit (s := S1152x384) (k0_off3 k) S64x384.size (k0_off3_inb k)).toLoadRect X_arg31) (View.readAt (Elt F) arg32.view (Rect.unit (s := S1152x384) (k0_off3 k) S64x384.size (k0_off3_inb k)).toLoadRect X_arg32) (View.readAt (Elt F) arg35.view (Rect.unit (s := S1152x16) (k0_off4 k) S64x16.size (k0_off4_inb k)).toLoadRect X_arg35) (View.readAt (Elt F) arg36.view (Rect.unit (s := S1152x16) (k0_off4 k) S64x16.size (k0_off4_inb k)).toLoadRect X_arg36)⟩] := by
  unfold tripL_k0_t1 trip_k0_t1
  dsimp only
  sl_unfold_words
  rfl

end

section
variable (𝒱 : Variants) (c : Dev nD) (bd : Option 𝒱.V) (i : grid0.Coords) (arg1 : Memref sig .tc .vmem S2x1152x192 .f32) (harg1 : arg1.IsWhole) (arg2 : Memref sig .tc .vmem S768x192 .f32) (harg2 : arg2.IsWhole) (arg3 : Memref sig .tc .vmem S4x384 .f32) (harg3 : arg3.IsWhole) (arg4 : Memref sig .tc .vmem S1x384 .f32) (harg4 : arg4.IsWhole) (arg5 : Memref sig .tc .vmem S44x384 .f32) (harg5 : arg5.IsWhole) (arg6 : Memref sig .tc .vmem S384x12 .f32) (harg6 : arg6.IsWhole) (arg7 : Memref sig .tc .vmem S1x384 .f32) (harg7 : arg7.IsWhole) (arg8 : Memref sig .tc .vmem S1x6144 .f32) (harg8 : arg8.IsWhole) (arg9 : Memref sig .tc .vmem S16x6144 .f32) (harg9 : arg9.IsWhole) (arg10 : Memref sig .tc .vmem S1x384 .f32) (harg10 : arg10.IsWhole) (arg11 : Memref sig .tc .vmem S192x384 .f32) (harg11 : arg11.IsWhole) (arg12 : Memref sig .tc .vmem S2x1152x192 .f32) (harg12 : arg12.IsWhole) (arg13 : Memref sig .tc .vmem S1152x384 .f32) (harg13 : arg13.IsWhole) (arg14 : Memref sig .tc .vmem S1152x384 .f32) (harg14 : arg14.IsWhole) (arg15 : Memref sig .tc .vmem S1152x384 .f32) (harg15 : arg15.IsWhole) (arg16 : Memref sig .tc .vmem S1152x384 .f32) (harg16 : arg16.IsWhole) (arg17 : Memref sig .tc .vmem S1152x16 .f32) (harg17 : arg17.IsWhole) (arg18 : Memref sig .tc .vmem S1152x16 .f32) (harg18 : arg18.IsWhole) (arg19 : Memref sig .tc .vmem S1152x384 .f32) (harg19 : arg19.IsWhole) (arg20 : Memref sig .tc .vmem S1152x384 .f32) (harg20 : arg20.IsWhole) (arg21 : Memref sig .tc .vmem S1152x384 .f32) (harg21 : arg21.IsWhole) (arg22 : Memref sig .tc .vmem S1152x384 .f32) (harg22 : arg22.IsWhole) (arg23 : Memref sig .tc .vmem S1152x16 .f32) (harg23 : arg23.IsWhole) (arg24 : Memref sig .tc .vmem S1152x16 .f32) (harg24 : arg24.IsWhole) (arg25 : Memref sig .tc .vmem S1152x384 .f32) (harg25 : arg25.IsWhole) (arg26 : Memref sig .tc .vmem S1152x384 .f32) (harg26 : arg26.IsWhole) (arg27 : Memref sig .tc .vmem S1152x384 .f32) (harg27 : arg27.IsWhole) (arg28 : Memref sig .tc .vmem S1152x384 .f32) (harg28 : arg28.IsWhole) (arg29 : Memref sig .tc .vmem S1152x16 .f32) (harg29 : arg29.IsWhole) (arg30 : Memref sig .tc .vmem S1152x16 .f32) (harg30 : arg30.IsWhole) (arg31 : Memref sig .tc .vmem S1152x384 .f32) (harg31 : arg31.IsWhole) (arg32 : Memref sig .tc .vmem S1152x384 .f32) (harg32 : arg32.IsWhole) (arg33 : Memref sig .tc .vmem S1152x384 .f32) (harg33 : arg33.IsWhole) (arg34 : Memref sig .tc .vmem S1152x384 .f32) (harg34 : arg34.IsWhole) (arg35 : Memref sig .tc .vmem S1152x16 .f32) (harg35 : arg35.IsWhole) (arg36 : Memref sig .tc .vmem S1152x16 .f32) (harg36 : arg36.IsWhole) (v4 : FVec F S1x6144 .f32) (v6 : FVec F S16x6144 .f32) (v12 : FVec F S1152x384 .f32) (v255 : FVec F S1152x384 .f32) (v257 : FVec F S1152x44 .f32) (v282 : FVec F S1152x384 .f32) (X_arg13 : BufTy.Contents (Elt F) arg13.view.ty) (X_arg14 : BufTy.Contents (Elt F) arg14.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) (X_arg35 : BufTy.Contents (Elt F) arg35.view.ty) (X_arg36 : BufTy.Contents (Elt F) arg36.view.ty) (k : Fin k0_t1_loop.trips)
variable (init : FVec F S1x6144 .f32 × FVec F S1x6144 .f32 × FVec F S1x6144 .f32 × FVec F S1x6144 .f32)

/-- The state before trip `k`: the four streams' states, each by itself. -/
theorem state_at : ∀ k : ℕ, k ≤ 18 → (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k).1 = ((fSt v4 v6 init.1 (arg13.view.read (Elt F) X_arg13) (arg14.view.read (Elt F) X_arg14) (arg17.view.read (Elt F) X_arg17) k), (rSt v4 v6 init.2.1 (arg19.view.read (Elt F) X_arg19) (arg20.view.read (Elt F) X_arg20) (arg23.view.read (Elt F) X_arg23) k), (fSt v4 v6 init.2.2.1 (arg25.view.read (Elt F) X_arg25) (arg26.view.read (Elt F) X_arg26) (arg29.view.read (Elt F) X_arg29) k), (rSt v4 v6 init.2.2.2 (arg31.view.read (Elt F) X_arg31) (arg32.view.read (Elt F) X_arg32) (arg35.view.read (Elt F) X_arg35) k)) := by
  intro k
  induction k with
  | zero => intro _; rfl
  | succ k ih =>
    intro hk
    have hb : k < k0_t1_loop.trips := lt_of_lt_of_le (Nat.lt_of_succ_le hk) (by decide +kernel)
    have e := congrArg Prod.fst (st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init ⟨k, hb⟩)
    refine e.trans ?_
    rw [trip_state, ih (by omega)]
    rw [load384 arg13 X_arg13 _ _ _ (off1_eq ⟨k, hb⟩) (by show _ + 64 ≤ 1152; dsimp only; omega), load384 arg14 X_arg14 _ _ _ (off1_eq ⟨k, hb⟩) (by show _ + 64 ≤ 1152; dsimp only; omega), load16 arg17 X_arg17 _ _ _ (off2_eq ⟨k, hb⟩) (by show _ + 64 ≤ 1152; dsimp only; omega), load384 arg19 X_arg19 _ _ _ (off3_eq ⟨k, hb⟩) (by show _ + 64 ≤ 1152; dsimp only; omega), load384 arg20 X_arg20 _ _ _ (off3_eq ⟨k, hb⟩) (by show _ + 64 ≤ 1152; dsimp only; omega), load16 arg23 X_arg23 _ _ _ (off4_eq ⟨k, hb⟩) (by show _ + 64 ≤ 1152; dsimp only; omega), load384 arg25 X_arg25 _ _ _ (off1_eq ⟨k, hb⟩) (by show _ + 64 ≤ 1152; dsimp only; omega), load384 arg26 X_arg26 _ _ _ (off1_eq ⟨k, hb⟩) (by show _ + 64 ≤ 1152; dsimp only; omega), load16 arg29 X_arg29 _ _ _ (off2_eq ⟨k, hb⟩) (by show _ + 64 ≤ 1152; dsimp only; omega), load384 arg31 X_arg31 _ _ _ (off3_eq ⟨k, hb⟩) (by show _ + 64 ≤ 1152; dsimp only; omega), load384 arg32 X_arg32 _ _ _ (off3_eq ⟨k, hb⟩) (by show _ + 64 ≤ 1152; dsimp only; omega), load16 arg35 X_arg35 _ _ _ (off4_eq ⟨k, hb⟩) (by show _ + 64 ≤ 1152; dsimp only; omega)]
    rfl

/-- What the first `k` trips leave in plane 0. -/
theorem plane0_at (f : BufTy.Contents (Elt F) arg16.view.ty) : ∀ k : ℕ, k ≤ 18 → ∀ y : S1152x384.Idx, (y 0).val < 64 * k →
    arg16.view.read (Elt F) (arg16.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k).2.1) y = fOut v4 v6 init.1 (arg13.view.read (Elt F) X_arg13) (arg14.view.read (Elt F) X_arg14) (arg17.view.read (Elt F) X_arg17) (arg18.view.read (Elt F) X_arg18) y := by
  refine rows_upward arg16 f (fun k => (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k).2.1) (fun n => fY v4 v6 (fSt v4 v6 init.1 (arg13.view.read (Elt F) X_arg13) (arg14.view.read (Elt F) X_arg14) (arg17.view.read (Elt F) X_arg17) n) (rows384 (arg13.view.read (Elt F) X_arg13) (64 * n)) (rows384 (arg14.view.read (Elt F) X_arg14) (64 * n)) (rows16 (arg17.view.read (Elt F) X_arg17) (64 * n)) (rows16 (arg18.view.read (Elt F) X_arg18) (64 * n))) _ k0_off1_inb off1_eq (fun k hb hk => ?_)
  have e := congrArg (fun r => r.2.1) (st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init ⟨k, hb⟩)
  refine e.trans ?_
  show (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 ⟨k, hb⟩ _).1 ++ _ = _
  rw [trip_piece0, List.singleton_append]
  rw [state_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k (by omega)]
  rw [load384 arg13 X_arg13 _ _ _ (off1_eq ⟨k, hb⟩) (by show _ + 64 ≤ 1152; dsimp only; omega), load384 arg14 X_arg14 _ _ _ (off1_eq ⟨k, hb⟩) (by show _ + 64 ≤ 1152; dsimp only; omega), load16 arg17 X_arg17 _ _ _ (off2_eq ⟨k, hb⟩) (by show _ + 64 ≤ 1152; dsimp only; omega), load16 arg18 X_arg18 _ _ _ (off2_eq ⟨k, hb⟩) (by show _ + 64 ≤ 1152; dsimp only; omega)]

/-- What the first `k` trips leave in plane 1. -/
theorem plane1_at (f : BufTy.Contents (Elt F) arg22.view.ty) : ∀ k : ℕ, k ≤ 18 → ∀ y : S1152x384.Idx, 64 * (18 - k) ≤ (y 0).val →
    arg22.view.read (Elt F) (arg22.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k).2.2.1) y = rOut v4 v6 init.2.1 (arg19.view.read (Elt F) X_arg19) (arg20.view.read (Elt F) X_arg20) (arg23.view.read (Elt F) X_arg23) (arg24.view.read (Elt F) X_arg24) y := by
  refine rows_downward arg22 f (fun k => (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k).2.2.1) (fun n => rY v4 v6 (rSt v4 v6 init.2.1 (arg19.view.read (Elt F) X_arg19) (arg20.view.read (Elt F) X_arg20) (arg23.view.read (Elt F) X_arg23) (17 - n)) (rows384 (arg19.view.read (Elt F) X_arg19) (64 * n)) (rows384 (arg20.view.read (Elt F) X_arg20) (64 * n)) (rows16 (arg23.view.read (Elt F) X_arg23) (64 * n)) (rows16 (arg24.view.read (Elt F) X_arg24) (64 * n))) _ k0_off3_inb off3_eq (fun k hb hk => ?_)
  have e := congrArg (fun r => r.2.2.1) (st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init ⟨k, hb⟩)
  refine e.trans ?_
  show (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 ⟨k, hb⟩ _).2.1 ++ _ = _
  rw [trip_piece1, List.singleton_append]
  rw [state_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k (by omega)]
  rw [load384 arg19 X_arg19 _ _ _ (off3_eq ⟨k, hb⟩) (by show _ + 64 ≤ 1152; dsimp only; omega), load384 arg20 X_arg20 _ _ _ (off3_eq ⟨k, hb⟩) (by show _ + 64 ≤ 1152; dsimp only; omega), load16 arg23 X_arg23 _ _ _ (off4_eq ⟨k, hb⟩) (by show _ + 64 ≤ 1152; dsimp only; omega), load16 arg24 X_arg24 _ _ _ (off4_eq ⟨k, hb⟩) (by show _ + 64 ≤ 1152; dsimp only; omega)]
  beta_reduce
  rw [show 17 - (17 - k) = k from by omega]

/-- What the first `k` trips leave in plane 2. -/
theorem plane2_at (f : BufTy.Contents (Elt F) arg28.view.ty) : ∀ k : ℕ, k ≤ 18 → ∀ y : S1152x384.Idx, (y 0).val < 64 * k →
    arg28.view.read (Elt F) (arg28.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k).2.2.2.1) y = fOut v4 v6 init.2.2.1 (arg25.view.read (Elt F) X_arg25) (arg26.view.read (Elt F) X_arg26) (arg29.view.read (Elt F) X_arg29) (arg30.view.read (Elt F) X_arg30) y := by
  refine rows_upward arg28 f (fun k => (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k).2.2.2.1) (fun n => fY v4 v6 (fSt v4 v6 init.2.2.1 (arg25.view.read (Elt F) X_arg25) (arg26.view.read (Elt F) X_arg26) (arg29.view.read (Elt F) X_arg29) n) (rows384 (arg25.view.read (Elt F) X_arg25) (64 * n)) (rows384 (arg26.view.read (Elt F) X_arg26) (64 * n)) (rows16 (arg29.view.read (Elt F) X_arg29) (64 * n)) (rows16 (arg30.view.read (Elt F) X_arg30) (64 * n))) _ k0_off1_inb off1_eq (fun k hb hk => ?_)
  have e := congrArg (fun r => r.2.2.2.1) (st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init ⟨k, hb⟩)
  refine e.trans ?_
  show (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 ⟨k, hb⟩ _).2.2.1 ++ _ = _
  rw [trip_piece2, List.singleton_append]
  rw [state_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k (by omega)]
  rw [load384 arg25 X_arg25 _ _ _ (off1_eq ⟨k, hb⟩) (by show _ + 64 ≤ 1152; dsimp only; omega), load384 arg26 X_arg26 _ _ _ (off1_eq ⟨k, hb⟩) (by show _ + 64 ≤ 1152; dsimp only; omega), load16 arg29 X_arg29 _ _ _ (off2_eq ⟨k, hb⟩) (by show _ + 64 ≤ 1152; dsimp only; omega), load16 arg30 X_arg30 _ _ _ (off2_eq ⟨k, hb⟩) (by show _ + 64 ≤ 1152; dsimp only; omega)]

/-- What the first `k` trips leave in plane 3. -/
theorem plane3_at (f : BufTy.Contents (Elt F) arg34.view.ty) : ∀ k : ℕ, k ≤ 18 → ∀ y : S1152x384.Idx, 64 * (18 - k) ≤ (y 0).val →
    arg34.view.read (Elt F) (arg34.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k).2.2.2.2) y = rOut v4 v6 init.2.2.2 (arg31.view.read (Elt F) X_arg31) (arg32.view.read (Elt F) X_arg32) (arg35.view.read (Elt F) X_arg35) (arg36.view.read (Elt F) X_arg36) y := by
  refine rows_downward arg34 f (fun k => (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k).2.2.2.2) (fun n => rY v4 v6 (rSt v4 v6 init.2.2.2 (arg31.view.read (Elt F) X_arg31) (arg32.view.read (Elt F) X_arg32) (arg35.view.read (Elt F) X_arg35) (17 - n)) (rows384 (arg31.view.read (Elt F) X_arg31) (64 * n)) (rows384 (arg32.view.read (Elt F) X_arg32) (64 * n)) (rows16 (arg35.view.read (Elt F) X_arg35) (64 * n)) (rows16 (arg36.view.read (Elt F) X_arg36) (64 * n))) _ k0_off3_inb off3_eq (fun k hb hk => ?_)
  have e := congrArg (fun r => r.2.2.2.2) (st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init ⟨k, hb⟩)
  refine e.trans ?_
  show (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 ⟨k, hb⟩ _).2.2.2 ++ _ = _
  rw [trip_piece3, List.singleton_append]
  rw [state_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init k (by omega)]
  rw [load384 arg31 X_arg31 _ _ _ (off3_eq ⟨k, hb⟩) (by show _ + 64 ≤ 1152; dsimp only; omega), load384 arg32 X_arg32 _ _ _ (off3_eq ⟨k, hb⟩) (by show _ + 64 ≤ 1152; dsimp only; omega), load16 arg35 X_arg35 _ _ _ (off4_eq ⟨k, hb⟩) (by show _ + 64 ≤ 1152; dsimp only; omega), load16 arg36 X_arg36 _ _ _ (off4_eq ⟨k, hb⟩) (by show _ + 64 ≤ 1152; dsimp only; omega)]
  beta_reduce
  rw [show 17 - (17 - k) = k from by omega]

end

end Cert.KernelIdeal.Scan
-- ==== Proof.Out.lean ====
module

public import proofs.«01_k».proof.Proof.Gen.KernelIdeal.Frame
public import proofs.«01_k».proof.Proof.Gen.KernelIdeal.Skeleton
public import proofs.«01_k».proof.Proof.Trip

/-
What the kernel's body leaves in its result block, as a function of the blocks it reads.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (X : Vec F S1x1152x192 .f32) (W : Vec F S768x192 .f32) (K0 K1 K2 K3 : Vec F S1x384 .f32)
  (CB : Vec F S1x384 .f32) (XW : Vec F S44x384 .f32) (DW : Vec F S384x12 .f32) (DB : Vec F S1x384 .f32)

/-- The gate's plane of one batch row. -/
def zV : FVec F S1152x384 .f32 := k0_pay48 X W

/-- The forward convolution's plane. -/
def xcF : FVec F S1152x384 .f32 := k0_pay59 (k0_pay50 X W) (k0_pay54 X W K0 K1) K2 K3 CB

/-- The forward projections of the convolution's plane. -/
def xdF : FVec F S1152x44 .f32 := k0_pay60 (k0_pay50 X W) (k0_pay54 X W K0 K1) K2 K3 CB XW

/-- The forward step sizes. -/
def dtF : FVec F S1152x384 .f32 :=
  k0_pay68 (k0_pay62 (k0_pay50 X W) (k0_pay54 X W K0 K1) K2 K3 CB XW DW DB)
    (k0_pay64 (k0_pay50 X W) (k0_pay54 X W K0 K1) K2 K3 CB XW DW DB)
    (k0_pay65 (k0_pay50 X W) (k0_pay54 X W K0 K1) K2 K3 CB XW DW DB)
    (k0_pay66 (k0_pay50 X W) (k0_pay54 X W K0 K1) K2 K3 CB XW DW DB)

/-- The forward drive: step size times convolution. -/
def gF : FVec F S1152x384 .f32 :=
  k0_pay69 (xcF X W K0 K1 K2 K3 CB) (k0_pay62 (k0_pay50 X W) (k0_pay54 X W K0 K1) K2 K3 CB XW DW DB)
    (k0_pay64 (k0_pay50 X W) (k0_pay54 X W K0 K1) K2 K3 CB XW DW DB)
    (k0_pay65 (k0_pay50 X W) (k0_pay54 X W K0 K1) K2 K3 CB XW DW DB)
    (k0_pay66 (k0_pay50 X W) (k0_pay54 X W K0 K1) K2 K3 CB XW DW DB)

/-- The forward input couplings. -/
def bmF : FVec F S1152x16 .f32 := k0_pay71 (xdF X W K0 K1 K2 K3 CB XW)

/-- The forward output couplings. -/
def cmF : FVec F S1152x16 .f32 := k0_pay72 (xdF X W K0 K1 K2 K3 CB XW)

/-- The backward convolution before the activation's last factor. -/
def cvR : FVec F S1152x384 .f32 := k0_pay58 (k0_pay51 X W) (k0_pay55 X W K0 K1) K2 K3

/-- The backward convolution's plane. -/
def xcR : FVec F S1152x384 .f32 := k0_pay73 (cvR X W K0 K1 K2 K3) CB

/-- The backward projections of the convolution's plane. -/
def xdR : FVec F S1152x44 .f32 := k0_pay74 (cvR X W K0 K1 K2 K3) CB XW

/-- The backward step sizes. -/
def dtR : FVec F S1152x384 .f32 := k0_pay77 (k0_pay75 (cvR X W K0 K1 K2 K3) CB XW DW DB)

/-- The backward drive. -/
def gR : FVec F S1152x384 .f32 := k0_pay78 (xcR X W K0 K1 K2 K3 CB) (k0_pay75 (cvR X W K0 K1 K2 K3) CB XW DW DB)

/-- The backward input couplings. -/
def bmR : FVec F S1152x16 .f32 := k0_pay80 (xdR X W K0 K1 K2 K3 CB XW)

/-- The backward output couplings. -/
def cmR : FVec F S1152x16 .f32 := k0_pay81 (xdR X W K0 K1 K2 K3 CB XW)

theorem xcF_first (x : FVec F S1152x384 .f32) : k0_pay70 x = x := by
  unfold k0_pay70
  simp only [shapeCast_self]

theorem xcR_first (x : FVec F S1152x384 .f32) : k0_pay79 x = x := by
  unfold k0_pay79
  simp only [shapeCast_self]

theorem zV_second : k0_pay84 (k0_pay82 X W) = zV X W := rfl
theorem xcF_second : k0_pay97 ((k0_pay90 (k0_pay83 X W) K0 K1 K2 K3)) CB = xcF X W K0 K1 K2 K3 CB := (show _ = k0_pay70 (xcF X W K0 K1 K2 K3 CB) from rfl).trans (xcF_first _)
theorem dtF_second : k0_pay95 ((k0_pay90 (k0_pay83 X W) K0 K1 K2 K3)) CB XW DW DB = dtF X W K0 K1 K2 K3 CB XW DW DB := rfl
theorem gF_second : k0_pay96 ((k0_pay90 (k0_pay83 X W) K0 K1 K2 K3)) CB XW DW DB = gF X W K0 K1 K2 K3 CB XW DW DB := rfl
theorem bmF_second : k0_pay99 (k0_pay98 ((k0_pay90 (k0_pay83 X W) K0 K1 K2 K3)) CB XW) = bmF X W K0 K1 K2 K3 CB XW := rfl
theorem cmF_second : k0_pay100 (k0_pay93 ((k0_pay90 (k0_pay83 X W) K0 K1 K2 K3)) CB XW) = cmF X W K0 K1 K2 K3 CB XW := rfl
theorem xcR_second : k0_pay107 (k0_pay101 ((k0_pay91 (k0_pay83 X W) K0 K1 K2 K3)) CB) = xcR X W K0 K1 K2 K3 CB := (show _ = k0_pay79 (xcR X W K0 K1 K2 K3 CB) from rfl).trans (xcR_first _)
theorem dtR_second : k0_pay104 ((k0_pay91 (k0_pay83 X W) K0 K1 K2 K3)) CB XW DW DB = dtR X W K0 K1 K2 K3 CB XW DW DB := rfl
theorem gR_second : k0_pay106 (k0_pay105 ((k0_pay91 (k0_pay83 X W) K0 K1 K2 K3)) CB XW DW DB) = gR X W K0 K1 K2 K3 CB XW DW DB := rfl
theorem bmR_second : k0_pay108 (k0_pay102 ((k0_pay91 (k0_pay83 X W) K0 K1 K2 K3)) CB XW) = bmR X W K0 K1 K2 K3 CB XW := rfl
theorem cmR_second : k0_pay109 (k0_pay102 ((k0_pay91 (k0_pay83 X W) K0 K1 K2 K3)) CB XW) = cmR X W K0 K1 K2 K3 CB XW := rfl

variable (AL : Vec F S1x6144 .f32) (EM : Vec F S16x6144 .f32) (DV : Vec F S1x384 .f32) (OW : Vec F S192x384 .f32)

/-- The forward scan's plane of one batch row. -/
def ysF : Vec F S1152x384 .f32 :=
  fOut (k0_pay44 AL) (k0_pay45 EM) k0_pay110 (dtF X W K0 K1 K2 K3 CB XW DW DB) (gF X W K0 K1 K2 K3 CB XW DW DB)
    (bmF X W K0 K1 K2 K3 CB XW) (cmF X W K0 K1 K2 K3 CB XW)

/-- The backward scan's plane of one batch row. -/
def ysR : Vec F S1152x384 .f32 :=
  rOut (k0_pay44 AL) (k0_pay45 EM) k0_pay110 (dtR X W K0 K1 K2 K3 CB XW DW DB) (gR X W K0 K1 K2 K3 CB XW DW DB)
    (bmR X W K0 K1 K2 K3 CB XW) (cmR X W K0 K1 K2 K3 CB XW)

/-- One batch row of the result. -/
def outRow : Vec F S1x1152x192 .f32 :=
  k0_pay1 (k0_pay111 (zV X W) (ysF X W K0 K1 K2 K3 CB XW DW DB AL EM) (ysR X W K0 K1 K2 K3 CB XW DW DB AL EM)
    (xcF X W K0 K1 K2 K3 CB) (xcR X W K0 K1 K2 K3 CB) DV) OW

theorem outRow_second (a b c d e : Vec F S1152x384 .f32) : k0_pay2 a b c d e DV OW = k0_pay1 (k0_pay111 a b c d e DV) OW := rfl
end

/-- One batch row of the staged input. -/
def batchRow (x : Vec F S2x1152x192 .f32) (b : Fin 2) : Vec F S1x1152x192 .f32 := fun j => x (ix3 b (j 1) (j 2))

/-- One tap of the staged convolution weights. -/
def tapRow (x : Vec F S4x384 .f32) (t : Fin 4) : Vec F S1x384 .f32 := fun j => x (ix2 t (j 1))

/-- Two batch rows as one block. -/
def stack2 (A B : Vec F S1x1152x192 .f32) : Vec F S2x1152x192 .f32 := fun y =>
  if (y 0).val = 0 then A (ix3 0 (y 1) (y 2)) else B (ix3 0 (y 1) (y 2))

/-- What the body leaves in the result block. -/
def kernelOut (x0 : Vec F S2x1152x192 .f32) (x1 : Vec F S768x192 .f32) (x2 : Vec F S4x384 .f32) (x3 : Vec F S1x384 .f32) (x4 : Vec F S44x384 .f32) (x5 : Vec F S384x12 .f32) (x6 : Vec F S1x384 .f32) (x7 : Vec F S1x6144 .f32) (x8 : Vec F S16x6144 .f32) (x9 : Vec F S1x384 .f32) (x10 : Vec F S192x384 .f32) : Vec F S2x1152x192 .f32 :=
  stack2 (outRow (batchRow x0 0) x1 (tapRow x2 0) (tapRow x2 1) (tapRow x2 2) (tapRow x2 3) x3 x4 x5 x6 x7 x8 x9 x10)
    (outRow (batchRow x0 1) x1 (tapRow x2 0) (tapRow x2 1) (tapRow x2 2) (tapRow x2 3) x3 x4 x5 x6 x7 x8 x9 x10)

/-- A block written batch row by batch row reads as the two rows. -/
theorem read_two (a : Memref sig .tc .vmem S2x1152x192 .f32) (f : BufTy.Contents (Elt F) a.view.ty)
    (i1 : ∀ x, (![1, 0, 0] : Fin 3 → ℕ) x + (![1, 1152, 192] : Fin 3 → ℕ) x ≤ S2x1152x192.size x)
    (i0 : ∀ x, (![0, 0, 0] : Fin 3 → ℕ) x + (![1, 1152, 192] : Fin 3 → ℕ) x ≤ S2x1152x192.size x)
    (A B : Vec F S1x1152x192 .f32) :
    a.view.read (Elt F) (a.view.writes (Elt F) f [⟨Rect.unit (s := S2x1152x192) ![1, 0, 0] ![1, 1152, 192] i1, B⟩,
      ⟨Rect.unit (s := S2x1152x192) ![0, 0, 0] ![1, 1152, 192] i0, A⟩]) = stack2 A B := by
  funext y
  have hy : (y 0).val < 2 := (y 0).isLt
  unfold stack2
  by_cases h : (y 0).val = 0
  · rw [if_pos h]
    refine (View.read_writes_cons_unit_of_not_mem a.view f i1 _ _ y rfl 0 (Or.inl ?_)).trans ?_
    · show (y 0).val < 1; omega
    · refine View.read_writes_cons_unit_of_mem a.view f i0 _ _ y (ix3 0 (y 1) (y 2)) rfl ?_
      intro x
      match x with
      | 0 => show (y 0).val = 0 + 0; omega
      | 1 => show (y 1).val = 0 + (y 1).val; omega
      | 2 => show (y 2).val = 0 + (y 2).val; omega
  · rw [if_neg h]
    refine View.read_writes_cons_unit_of_mem a.view f i1 _ _ y (ix3 0 (y 1) (y 2)) rfl ?_
    intro x
    match x with
    | 0 => show (y 0).val = 1 + 0; omega
    | 1 => show (y 1).val = 0 + (y 1).val; omega
    | 2 => show (y 2).val = 0 + (y 2).val; omega

/-- A plane stored whole reads as what was stored. -/
theorem read_whole {C : ℕ} (a : Memref sig .tc .vmem ⟨2, ![1152, C]⟩ .f32) (f : BufTy.Contents (Elt F) a.view.ty)
    (inb : ∀ x, (![0, 0] : Fin 2 → ℕ) x + (![1152, C] : Fin 2 → ℕ) x ≤ (⟨2, ![1152, C]⟩ : Shape).size x) (A : Vec F ⟨2, ![1152, C]⟩ .f32) :
    a.view.read (Elt F) (a.view.writes (Elt F) f [⟨Rect.unit (s := ⟨2, ![1152, C]⟩) ![0, 0] ![1152, C] inb, A⟩]) = A := by
  funext y
  refine View.read_writes_cons_unit_of_mem a.view f inb _ _ y y rfl ?_
  intro x
  match x with
  | 0 => exact (Nat.zero_add _).symm
  | 1 => exact (Nat.zero_add _).symm

theorem zero2 : (![0, 0] : Fin 2 → ℕ) = fun _ => 0 := by funext x; match x with | 0 => rfl | 1 => rfl

/-- A whole window's load reads the window. -/
theorem load_whole {M N : ℕ} (a : Memref sig .tc .vmem ⟨2, ![M, N]⟩ .f32) (h : a.IsWhole) (x : Vec F ⟨2, ![M, N]⟩ .f32)
    (inb : ∀ i, (![0, 0] : Fin 2 → ℕ) i + (⟨2, ![M, N]⟩ : Shape).size i ≤ (⟨2, ![M, N]⟩ : Shape).size i) :
    View.readAt (Elt F) a.view (Rect.unit (s := ⟨2, ![M, N]⟩) ![0, 0] (⟨2, ![M, N]⟩ : Shape).size inb).toLoadRect (h.unread x) = x := by
  rw [View.readAt_eq_ld, h.read_unread]
  exact View.ld_unit_zero (S := ⟨2, ![M, N]⟩) zero2 inb x

/-- A plane stored whole and loaded whole. -/
theorem load_stored (a : Memref sig .tc .vmem S1152x384 .f32)
    (inb inb' : ∀ x, (![0, 0] : Fin 2 → ℕ) x + (![1152, 384] : Fin 2 → ℕ) x ≤ S1152x384.size x) (A : Vec F S1152x384 .f32) :
    a.view.readCov [⟨Rect.unit (s := S1152x384) ![0, 0] ![1152, 384] inb, A⟩] (Rect.unit (s := S1152x384) ![0, 0] ![1152, 384] inb').toLoadRect = A :=
  View.readCov_unit_zero (S := S1152x384) a.view zero2 inb A

theorem load_batch (a : Memref sig .tc .vmem S2x1152x192 .f32) (h : a.IsWhole) (x : Vec F S2x1152x192 .f32) (b : Fin 2) (o : ℕ) (ho : o = b.val)
    (inb : ∀ i, (![o, 0, 0] : Fin 3 → ℕ) i + S1x1152x192.size i ≤ S2x1152x192.size i) :
    View.readAt (Elt F) a.view (Rect.unit (s := S2x1152x192) ![o, 0, 0] S1x1152x192.size inb).toLoadRect (h.unread x) = batchRow x b := by
  subst ho
  rw [View.readAt_eq_ld, h.read_unread]
  funext j
  show x _ = x _
  congr 1
  funext i
  apply Fin.ext
  have h0 : (j 0).val < 1 := (j 0).isLt
  match i with
  | 0 => show b.val + 1 * (j 0).val = b.val; omega
  | 1 => show 0 + 1 * (j 1).val = (j 1).val; omega
  | 2 => show 0 + 1 * (j 2).val = (j 2).val; omega

theorem load_tap (a : Memref sig .tc .vmem S4x384 .f32) (h : a.IsWhole) (x : Vec F S4x384 .f32) (b : Fin 4) (o : ℕ) (ho : o = b.val)
    (inb : ∀ i, (![o, 0] : Fin 2 → ℕ) i + S1x384.size i ≤ S4x384.size i) :
    View.readAt (Elt F) a.view (Rect.unit (s := S4x384) ![o, 0] S1x384.size inb).toLoadRect (h.unread x) = tapRow x b := by
  subst ho
  rw [View.readAt_eq_ld, h.read_unread]
  funext j
  show x _ = x _
  congr 1
  funext i
  apply Fin.ext
  have h0 : (j 0).val < 1 := (j 0).isLt
  match i with
  | 0 => show b.val + 1 * (j 0).val = b.val; omega
  | 1 => show 0 + 1 * (j 1).val = (j 1).val; omega

/-- The body's stores, each load replaced by what it reads, are `kernelOut`. -/
theorem out_of_reads (x0 : Vec F S2x1152x192 .f32) (x1 : Vec F S768x192 .f32) (x2 : Vec F S4x384 .f32) (x3 : Vec F S1x384 .f32) (x4 : Vec F S44x384 .f32) (x5 : Vec F S384x12 .f32) (x6 : Vec F S1x384 .f32) (x7 : Vec F S1x6144 .f32) (x8 : Vec F S16x6144 .f32) (x9 : Vec F S1x384 .f32) (x10 : Vec F S192x384 .f32)
    {B0 : Vec F S1x1152x192 .f32} {B1 : Vec F S1x1152x192 .f32} {W : Vec F S768x192 .f32} {K0 : Vec F S1x384 .f32} {K1 : Vec F S1x384 .f32} {K2 : Vec F S1x384 .f32} {K3 : Vec F S1x384 .f32} {CB : Vec F S1x384 .f32} {XW : Vec F S44x384 .f32} {DW : Vec F S384x12 .f32} {DB : Vec F S1x384 .f32} {AL : Vec F S1x6144 .f32} {EM : Vec F S16x6144 .f32} {DV : Vec F S1x384 .f32} {OW : Vec F S192x384 .f32}
    {r13 : Vec F S1152x384 .f32} {r14 : Vec F S1152x384 .f32} {r15 : Vec F S1152x384 .f32} {r17 : Vec F S1152x16 .f32} {r18 : Vec F S1152x16 .f32} {r19 : Vec F S1152x384 .f32} {r20 : Vec F S1152x384 .f32} {r21 : Vec F S1152x384 .f32} {r23 : Vec F S1152x16 .f32} {r24 : Vec F S1152x16 .f32} {r25 : Vec F S1152x384 .f32} {r26 : Vec F S1152x384 .f32} {r27 : Vec F S1152x384 .f32} {r29 : Vec F S1152x16 .f32} {r30 : Vec F S1152x16 .f32} {r31 : Vec F S1152x384 .f32} {r32 : Vec F S1152x384 .f32} {r33 : Vec F S1152x384 .f32} {r35 : Vec F S1152x16 .f32} {r36 : Vec F S1152x16 .f32} {i0 i1 i2 i3 : FVec F S1x6144 .f32}
    (hB0 : B0 = batchRow x0 0) (hB1 : B1 = batchRow x0 1) (hW : W = x1) (hK0 : K0 = tapRow x2 0) (hK1 : K1 = tapRow x2 1) (hK2 : K2 = tapRow x2 2) (hK3 : K3 = tapRow x2 3) (hCB : CB = x3) (hXW : XW = x4) (hDW : DW = x5) (hDB : DB = x6) (hAL : AL = x7) (hEM : EM = x8) (hDV : DV = x9) (hOW : OW = x10)
    (h13 : r13 = k0_pay68 (k0_pay62 (k0_pay50 B0 W) (k0_pay54 B0 W K0 K1) K2 K3 CB XW DW DB) (k0_pay64 (k0_pay50 B0 W) (k0_pay54 B0 W K0 K1) K2 K3 CB XW DW DB) (k0_pay65 (k0_pay50 B0 W) (k0_pay54 B0 W K0 K1) K2 K3 CB XW DW DB) (k0_pay66 (k0_pay50 B0 W) (k0_pay54 B0 W K0 K1) K2 K3 CB XW DW DB))
    (h14 : r14 = k0_pay69 (k0_pay59 (k0_pay50 B0 W) (k0_pay54 B0 W K0 K1) K2 K3 CB) (k0_pay62 (k0_pay50 B0 W) (k0_pay54 B0 W K0 K1) K2 K3 CB XW DW DB) (k0_pay64 (k0_pay50 B0 W) (k0_pay54 B0 W K0 K1) K2 K3 CB XW DW DB) (k0_pay65 (k0_pay50 B0 W) (k0_pay54 B0 W K0 K1) K2 K3 CB XW DW DB) (k0_pay66 (k0_pay50 B0 W) (k0_pay54 B0 W K0 K1) K2 K3 CB XW DW DB))
    (h15 : r15 = k0_pay70 (k0_pay59 (k0_pay50 B0 W) (k0_pay54 B0 W K0 K1) K2 K3 CB))
    (h17 : r17 = k0_pay71 (k0_pay60 (k0_pay50 B0 W) (k0_pay54 B0 W K0 K1) K2 K3 CB XW))
    (h18 : r18 = k0_pay72 (k0_pay60 (k0_pay50 B0 W) (k0_pay54 B0 W K0 K1) K2 K3 CB XW))
    (h19 : r19 = k0_pay77 (k0_pay75 (k0_pay58 (k0_pay51 B0 W) (k0_pay55 B0 W K0 K1) K2 K3) CB XW DW DB))
    (h20 : r20 = k0_pay78 (k0_pay73 (k0_pay58 (k0_pay51 B0 W) (k0_pay55 B0 W K0 K1) K2 K3) CB) (k0_pay75 (k0_pay58 (k0_pay51 B0 W) (k0_pay55 B0 W K0 K1) K2 K3) CB XW DW DB))
    (h21 : r21 = k0_pay79 (k0_pay73 (k0_pay58 (k0_pay51 B0 W) (k0_pay55 B0 W K0 K1) K2 K3) CB))
    (h23 : r23 = k0_pay80 (k0_pay74 (k0_pay58 (k0_pay51 B0 W) (k0_pay55 B0 W K0 K1) K2 K3) CB XW))
    (h24 : r24 = k0_pay81 (k0_pay74 (k0_pay58 (k0_pay51 B0 W) (k0_pay55 B0 W K0 K1) K2 K3) CB XW))
    (h25 : r25 = k0_pay95 (k0_pay90 (k0_pay83 B1 W) K0 K1 K2 K3) CB XW DW DB)
    (h26 : r26 = k0_pay96 (k0_pay90 (k0_pay83 B1 W) K0 K1 K2 K3) CB XW DW DB)
    (h27 : r27 = k0_pay97 (k0_pay90 (k0_pay83 B1 W) K0 K1 K2 K3) CB)
    (h29 : r29 = k0_pay99 (k0_pay98 (k0_pay90 (k0_pay83 B1 W) K0 K1 K2 K3) CB XW))
    (h30 : r30 = k0_pay100 (k0_pay93 (k0_pay90 (k0_pay83 B1 W) K0 K1 K2 K3) CB XW))
    (h31 : r31 = k0_pay104 (k0_pay91 (k0_pay83 B1 W) K0 K1 K2 K3) CB XW DW DB)
    (h32 : r32 = k0_pay106 (k0_pay105 (k0_pay91 (k0_pay83 B1 W) K0 K1 K2 K3) CB XW DW DB))
    (h33 : r33 = k0_pay107 (k0_pay101 (k0_pay91 (k0_pay83 B1 W) K0 K1 K2 K3) CB))
    (h35 : r35 = k0_pay108 (k0_pay102 (k0_pay91 (k0_pay83 B1 W) K0 K1 K2 K3) CB XW))
    (h36 : r36 = k0_pay109 (k0_pay102 (k0_pay91 (k0_pay83 B1 W) K0 K1 K2 K3) CB XW))
    (hi0 : i0 = k0_pay110) (hi1 : i1 = k0_pay110) (hi2 : i2 = k0_pay110) (hi3 : i3 = k0_pay110) :
    stack2 (k0_pay1 (k0_pay111 (k0_pay48 B0 W) (fOut (k0_pay44 AL) (k0_pay45 EM) i0 r13 r14 r17 r18) (rOut (k0_pay44 AL) (k0_pay45 EM) i1 r19 r20 r23 r24) r15 r21 DV) OW)
      (k0_pay2 (k0_pay84 (k0_pay82 B1 W)) (fOut (k0_pay44 AL) (k0_pay45 EM) i2 r25 r26 r29 r30) (rOut (k0_pay44 AL) (k0_pay45 EM) i3 r31 r32 r35 r36) r27 r33 DV OW) = kernelOut x0 x1 x2 x3 x4 x5 x6 x7 x8 x9 x10 := by
  subst h13 h14 h15 h17 h18 h19 h20 h21 h23 h24 h25 h26 h27 h29 h30 h31 h32 h33 h35 h36 hi0 hi1 hi2 hi3
  subst hB0 hB1 hW hK0 hK1 hK2 hK3 hCB hXW hDW hDB hAL hEM hDV hOW
  rw [outRow_second, zV_second, xcF_second, dtF_second, gF_second, bmF_second, cmF_second, xcR_second, dtR_second, gR_second, bmR_second, cmR_second, xcF_first, xcR_first]
  rfl

section
variable (𝒱 : Variants) (c : Dev nD) (bd : Option 𝒱.V) (i : grid0.Coords) (arg1 : Memref sig .tc .vmem S2x1152x192 .f32) (harg1 : arg1.IsWhole) (arg2 : Memref sig .tc .vmem S768x192 .f32) (harg2 : arg2.IsWhole) (arg3 : Memref sig .tc .vmem S4x384 .f32) (harg3 : arg3.IsWhole) (arg4 : Memref sig .tc .vmem S1x384 .f32) (harg4 : arg4.IsWhole) (arg5 : Memref sig .tc .vmem S44x384 .f32) (harg5 : arg5.IsWhole) (arg6 : Memref sig .tc .vmem S384x12 .f32) (harg6 : arg6.IsWhole) (arg7 : Memref sig .tc .vmem S1x384 .f32) (harg7 : arg7.IsWhole) (arg8 : Memref sig .tc .vmem S1x6144 .f32) (harg8 : arg8.IsWhole) (arg9 : Memref sig .tc .vmem S16x6144 .f32) (harg9 : arg9.IsWhole) (arg10 : Memref sig .tc .vmem S1x384 .f32) (harg10 : arg10.IsWhole) (arg11 : Memref sig .tc .vmem S192x384 .f32) (harg11 : arg11.IsWhole) (arg12 : Memref sig .tc .vmem S2x1152x192 .f32) (harg12 : arg12.IsWhole) (arg13 : Memref sig .tc .vmem S1152x384 .f32) (harg13 : arg13.IsWhole) (arg14 : Memref sig .tc .vmem S1152x384 .f32) (harg14 : arg14.IsWhole) (arg15 : Memref sig .tc .vmem S1152x384 .f32) (harg15 : arg15.IsWhole) (arg16 : Memref sig .tc .vmem S1152x384 .f32) (harg16 : arg16.IsWhole) (arg17 : Memref sig .tc .vmem S1152x16 .f32) (harg17 : arg17.IsWhole) (arg18 : Memref sig .tc .vmem S1152x16 .f32) (harg18 : arg18.IsWhole) (arg19 : Memref sig .tc .vmem S1152x384 .f32) (harg19 : arg19.IsWhole) (arg20 : Memref sig .tc .vmem S1152x384 .f32) (harg20 : arg20.IsWhole) (arg21 : Memref sig .tc .vmem S1152x384 .f32) (harg21 : arg21.IsWhole) (arg22 : Memref sig .tc .vmem S1152x384 .f32) (harg22 : arg22.IsWhole) (arg23 : Memref sig .tc .vmem S1152x16 .f32) (harg23 : arg23.IsWhole) (arg24 : Memref sig .tc .vmem S1152x16 .f32) (harg24 : arg24.IsWhole) (arg25 : Memref sig .tc .vmem S1152x384 .f32) (harg25 : arg25.IsWhole) (arg26 : Memref sig .tc .vmem S1152x384 .f32) (harg26 : arg26.IsWhole) (arg27 : Memref sig .tc .vmem S1152x384 .f32) (harg27 : arg27.IsWhole) (arg28 : Memref sig .tc .vmem S1152x384 .f32) (harg28 : arg28.IsWhole) (arg29 : Memref sig .tc .vmem S1152x16 .f32) (harg29 : arg29.IsWhole) (arg30 : Memref sig .tc .vmem S1152x16 .f32) (harg30 : arg30.IsWhole) (arg31 : Memref sig .tc .vmem S1152x384 .f32) (harg31 : arg31.IsWhole) (arg32 : Memref sig .tc .vmem S1152x384 .f32) (harg32 : arg32.IsWhole) (arg33 : Memref sig .tc .vmem S1152x384 .f32) (harg33 : arg33.IsWhole) (arg34 : Memref sig .tc .vmem S1152x384 .f32) (harg34 : arg34.IsWhole) (arg35 : Memref sig .tc .vmem S1152x16 .f32) (harg35 : arg35.IsWhole) (arg36 : Memref sig .tc .vmem S1152x16 .f32) (harg36 : arg36.IsWhole) (v4 : FVec F S1x6144 .f32) (v6 : FVec F S16x6144 .f32) (v12 : FVec F S1152x384 .f32) (v255 : FVec F S1152x384 .f32) (v257 : FVec F S1152x44 .f32) (v282 : FVec F S1152x384 .f32) (X_arg13 : BufTy.Contents (Elt F) arg13.view.ty) (X_arg14 : BufTy.Contents (Elt F) arg14.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) (X_arg35 : BufTy.Contents (Elt F) arg35.view.ty) (X_arg36 : BufTy.Contents (Elt F) arg36.view.ty) (k : Fin k0_t1_loop.trips)
variable (init : FVec F S1x6144 .f32 × FVec F S1x6144 .f32 × FVec F S1x6144 .f32 × FVec F S1x6144 .f32)

theorem trips18 : Scf.trips k0_t1_loop.lb k0_t1_loop.ub k0_t1_loop.st = 18 := by decide +kernel

/-- Plane 0, loaded whole after the loop. -/
theorem plane0_load (f : BufTy.Contents (Elt F) arg16.view.ty)
    (inb : ∀ x, (![0, 0] : Fin 2 → ℕ) x + (![1152, 384] : Fin 2 → ℕ) x ≤ S1152x384.size x) :
    View.readAt (Elt F) arg16.view (Rect.unit (s := S1152x384) ![0, 0] ![1152, 384] inb).toLoadRect
      (arg16.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init (Scf.trips k0_t1_loop.lb k0_t1_loop.ub k0_t1_loop.st)).2.1)
      = fOut v4 v6 init.1 (arg13.view.read (Elt F) X_arg13) (arg14.view.read (Elt F) X_arg14) (arg17.view.read (Elt F) X_arg17) (arg18.view.read (Elt F) X_arg18) := by
  rw [trips18, View.readAt_eq_ld]
  refine (View.ld_unit_zero (S := S1152x384) zero2 inb _).trans ?_
  funext y
  exact plane0_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init f 18 (le_refl _) y (by have := (y 0).isLt; change (y 0).val < 1152 at this; omega)

/-- Plane 1, loaded whole after the loop. -/
theorem plane1_load (f : BufTy.Contents (Elt F) arg22.view.ty)
    (inb : ∀ x, (![0, 0] : Fin 2 → ℕ) x + (![1152, 384] : Fin 2 → ℕ) x ≤ S1152x384.size x) :
    View.readAt (Elt F) arg22.view (Rect.unit (s := S1152x384) ![0, 0] ![1152, 384] inb).toLoadRect
      (arg22.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init (Scf.trips k0_t1_loop.lb k0_t1_loop.ub k0_t1_loop.st)).2.2.1)
      = rOut v4 v6 init.2.1 (arg19.view.read (Elt F) X_arg19) (arg20.view.read (Elt F) X_arg20) (arg23.view.read (Elt F) X_arg23) (arg24.view.read (Elt F) X_arg24) := by
  rw [trips18, View.readAt_eq_ld]
  refine (View.ld_unit_zero (S := S1152x384) zero2 inb _).trans ?_
  funext y
  exact plane1_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init f 18 (le_refl _) y (by have := (y 0).isLt; change (y 0).val < 1152 at this; omega)

/-- Plane 2, loaded whole after the loop. -/
theorem plane2_load (f : BufTy.Contents (Elt F) arg28.view.ty)
    (inb : ∀ x, (![0, 0] : Fin 2 → ℕ) x + (![1152, 384] : Fin 2 → ℕ) x ≤ S1152x384.size x) :
    View.readAt (Elt F) arg28.view (Rect.unit (s := S1152x384) ![0, 0] ![1152, 384] inb).toLoadRect
      (arg28.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init (Scf.trips k0_t1_loop.lb k0_t1_loop.ub k0_t1_loop.st)).2.2.2.1)
      = fOut v4 v6 init.2.2.1 (arg25.view.read (Elt F) X_arg25) (arg26.view.read (Elt F) X_arg26) (arg29.view.read (Elt F) X_arg29) (arg30.view.read (Elt F) X_arg30) := by
  rw [trips18, View.readAt_eq_ld]
  refine (View.ld_unit_zero (S := S1152x384) zero2 inb _).trans ?_
  funext y
  exact plane2_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init f 18 (le_refl _) y (by have := (y 0).isLt; change (y 0).val < 1152 at this; omega)

/-- Plane 3, loaded whole after the loop. -/
theorem plane3_load (f : BufTy.Contents (Elt F) arg34.view.ty)
    (inb : ∀ x, (![0, 0] : Fin 2 → ℕ) x + (![1152, 384] : Fin 2 → ℕ) x ≤ S1152x384.size x) :
    View.readAt (Elt F) arg34.view (Rect.unit (s := S1152x384) ![0, 0] ![1152, 384] inb).toLoadRect
      (arg34.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init (Scf.trips k0_t1_loop.lb k0_t1_loop.ub k0_t1_loop.st)).2.2.2.2)
      = rOut v4 v6 init.2.2.2 (arg31.view.read (Elt F) X_arg31) (arg32.view.read (Elt F) X_arg32) (arg35.view.read (Elt F) X_arg35) (arg36.view.read (Elt F) X_arg36) := by
  rw [trips18, View.readAt_eq_ld]
  refine (View.ld_unit_zero (S := S1152x384) zero2 inb _).trans ?_
  funext y
  exact plane3_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v6 v12 v255 v257 v282 X_arg13 X_arg14 X_arg17 X_arg18 X_arg19 X_arg20 X_arg23 X_arg24 X_arg25 X_arg26 X_arg29 X_arg30 X_arg31 X_arg32 X_arg35 X_arg36 init f 18 (le_refl _) y (by have := (y 0).isLt; change (y 0).val < 1152 at this; omega)

end

end Cert.KernelIdeal.Scan
-- ==== Proof.Run.lean ====
module

public import proofs.«01_k».proof.Proof.Stage
public import proofs.«01_k».proof.Proof.Out
public import proofs.«01_k».proof.Proof.Gen.KernelIdeal.Skeleton
public import proofs.«01_k».proof.Proof.Gen.KernelIdeal.Loops

/-
The run of the kernel body.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple. On whole memrefs, with the inputs at their contents and the output and the scratch at anything,
    the body runs to the continuation that holds the inputs as they were, the output at `kernelOut` of the inputs, and
    the scratch at some contents. -/
theorem kernelRun (c : Dev nD) (i : grid0.Coords) (arg1 : Memref sig .tc .vmem S2x1152x192 .f32) (harg1 : arg1.IsWhole) (arg2 : Memref sig .tc .vmem S768x192 .f32) (harg2 : arg2.IsWhole) (arg3 : Memref sig .tc .vmem S4x384 .f32) (harg3 : arg3.IsWhole) (arg4 : Memref sig .tc .vmem S1x384 .f32) (harg4 : arg4.IsWhole) (arg5 : Memref sig .tc .vmem S44x384 .f32) (harg5 : arg5.IsWhole) (arg6 : Memref sig .tc .vmem S384x12 .f32) (harg6 : arg6.IsWhole) (arg7 : Memref sig .tc .vmem S1x384 .f32) (harg7 : arg7.IsWhole) (arg8 : Memref sig .tc .vmem S1x6144 .f32) (harg8 : arg8.IsWhole) (arg9 : Memref sig .tc .vmem S16x6144 .f32) (harg9 : arg9.IsWhole) (arg10 : Memref sig .tc .vmem S1x384 .f32) (harg10 : arg10.IsWhole) (arg11 : Memref sig .tc .vmem S192x384 .f32) (harg11 : arg11.IsWhole) (arg12 : Memref sig .tc .vmem S2x1152x192 .f32) (harg12 : arg12.IsWhole) (arg13 : Memref sig .tc .vmem S1152x384 .f32) (harg13 : arg13.IsWhole) (arg14 : Memref sig .tc .vmem S1152x384 .f32) (harg14 : arg14.IsWhole) (arg15 : Memref sig .tc .vmem S1152x384 .f32) (harg15 : arg15.IsWhole) (arg16 : Memref sig .tc .vmem S1152x384 .f32) (harg16 : arg16.IsWhole) (arg17 : Memref sig .tc .vmem S1152x16 .f32) (harg17 : arg17.IsWhole) (arg18 : Memref sig .tc .vmem S1152x16 .f32) (harg18 : arg18.IsWhole) (arg19 : Memref sig .tc .vmem S1152x384 .f32) (harg19 : arg19.IsWhole) (arg20 : Memref sig .tc .vmem S1152x384 .f32) (harg20 : arg20.IsWhole) (arg21 : Memref sig .tc .vmem S1152x384 .f32) (harg21 : arg21.IsWhole) (arg22 : Memref sig .tc .vmem S1152x384 .f32) (harg22 : arg22.IsWhole) (arg23 : Memref sig .tc .vmem S1152x16 .f32) (harg23 : arg23.IsWhole) (arg24 : Memref sig .tc .vmem S1152x16 .f32) (harg24 : arg24.IsWhole) (arg25 : Memref sig .tc .vmem S1152x384 .f32) (harg25 : arg25.IsWhole) (arg26 : Memref sig .tc .vmem S1152x384 .f32) (harg26 : arg26.IsWhole) (arg27 : Memref sig .tc .vmem S1152x384 .f32) (harg27 : arg27.IsWhole) (arg28 : Memref sig .tc .vmem S1152x384 .f32) (harg28 : arg28.IsWhole) (arg29 : Memref sig .tc .vmem S1152x16 .f32) (harg29 : arg29.IsWhole) (arg30 : Memref sig .tc .vmem S1152x16 .f32) (harg30 : arg30.IsWhole) (arg31 : Memref sig .tc .vmem S1152x384 .f32) (harg31 : arg31.IsWhole) (arg32 : Memref sig .tc .vmem S1152x384 .f32) (harg32 : arg32.IsWhole) (arg33 : Memref sig .tc .vmem S1152x384 .f32) (harg33 : arg33.IsWhole) (arg34 : Memref sig .tc .vmem S1152x384 .f32) (harg34 : arg34.IsWhole) (arg35 : Memref sig .tc .vmem S1152x16 .f32) (harg35 : arg35.IsWhole) (arg36 : Memref sig .tc .vmem S1152x16 .f32) (harg36 : arg36.IsWhole)
    (x0 : Vec F S2x1152x192 .f32) (x1 : Vec F S768x192 .f32) (x2 : Vec F S4x384 .f32) (x3 : Vec F S1x384 .f32) (x4 : Vec F S44x384 .f32) (x5 : Vec F S384x12 .f32) (x6 : Vec F S1x384 .f32) (x7 : Vec F S1x6144 .f32) (x8 : Vec F S16x6144 .f32) (x9 : Vec F S1x384 .f32) (x10 : Vec F S192x384 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (kernelOut x0 x1 x2 x3 x4 x5 x6 x7 x8 x9 x10) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)) -∗ K ⟨⟩))
          ⊢ wp frame (wpE (defs₀ (F := F)) Variants.none c none) E (cc0__k2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
    intro E K
    simp only [cc0__k2_eq_skeleton]; unfold cc0__k2_skel
    simp only [k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, ⟨%ds16, %fs16, -, HS16⟩, ⟨%ds17, %fs17, -, HS17⟩, ⟨%ds18, %fs18, -, HS18⟩, ⟨%ds19, %fs19, -, HS19⟩, ⟨%ds20, %fs20, -, HS20⟩, ⟨%ds21, %fs21, -, HS21⟩, ⟨%ds22, %fs22, -, HS22⟩, ⟨%ds23, %fs23, -, HS23⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      sl_unfold_words
      refine (read_two _ _ _ _ _ _).trans ?_
      rw [plane0_load, plane1_load, plane2_load, plane3_load]
      exact out_of_reads x0 x1 x2 x3 x4 x5 x6 x7 x8 x9 x10
        (hB0 := load_batch arg1 harg1 x0 0 0 rfl _) (hB1 := load_batch arg1 harg1 x0 1 1 rfl _) (hW := load_whole arg2 harg2 x1 _) (hK0 := load_tap arg3 harg3 x2 0 0 rfl _) (hK1 := load_tap arg3 harg3 x2 1 1 rfl _) (hK2 := load_tap arg3 harg3 x2 2 2 rfl _) (hK3 := load_tap arg3 harg3 x2 3 3 rfl _) (hCB := load_whole arg4 harg4 x3 _) (hXW := load_whole arg5 harg5 x4 _) (hDW := load_whole arg6 harg6 x5 _) (hDB := load_whole arg7 harg7 x6 _) (hAL := load_whole arg8 harg8 x7 _) (hEM := load_whole arg9 harg9 x8 _) (hDV := load_whole arg10 harg10 x9 _) (hOW := load_whole arg11 harg11 x10 _) (h13 := read_whole arg13 _ _ _) (h14 := read_whole arg14 _ _ _) (h15 := load_stored arg15 _ _ _) (h17 := read_whole arg17 _ _ _) (h18 := read_whole arg18 _ _ _) (h19 := read_whole arg19 _ _ _) (h20 := read_whole arg20 _ _ _) (h21 := load_stored arg21 _ _ _) (h23 := read_whole arg23 _ _ _) (h24 := read_whole arg24 _ _ _) (h25 := read_whole arg25 _ _ _) (h26 := read_whole arg26 _ _ _) (h27 := load_stored arg27 _ _ _) (h29 := read_whole arg29 _ _ _) (h30 := read_whole arg30 _ _ _) (h31 := read_whole arg31 _ _ _) (h32 := read_whole arg32 _ _ _) (h33 := load_stored arg33 _ _ _) (h35 := read_whole arg35 _ _ _) (h36 := read_whole arg36 _ _ _) rfl rfl rfl rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    isplitl [HS15]
    · iexists _, _; isplitr; swap; · iexact HS15
      ipureintro; rfl
    isplitl [HS16]
    · iexists _, _; isplitr; swap; · iexact HS16
      ipureintro; rfl
    isplitl [HS17]
    · iexists _, _; isplitr; swap; · iexact HS17
      ipureintro; rfl
    isplitl [HS18]
    · iexists _, _; isplitr; swap; · iexact HS18
      ipureintro; rfl
    isplitl [HS19]
    · iexists _, _; isplitr; swap; · iexact HS19
      ipureintro; rfl
    isplitl [HS20]
    · iexists _, _; isplitr; swap; · iexact HS20
      ipureintro; rfl
    isplitl [HS21]
    · iexists _, _; isplitr; swap; · iexact HS21
      ipureintro; rfl
    isplitl [HS22]
    · iexists _, _; isplitr; swap; · iexact HS22
      ipureintro; rfl
    iexists _, _; isplitr; swap; · iexact HS23
    ipureintro; rfl

end Cert.KernelIdeal.Scan

end
-- ==== Proof.Framed.lean ====
module

public import proofs.«01_k».proof.Proof.Run
public import Idealize.ShloMosaic.Lib.Claim

/-
The kernel's frame: the run of @main from the run of the body.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- What the body leaves in the result's block. -/
def result (c : Dev nD) (t : Fin cfg0.N) : Vec F S2x1152x192 .f32 :=
  kernelOut (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The pipeline's proof data: the arrays as the region finds them; after the body each input's buffer holds its block
and the result's buffer `result`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => result m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = result m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 3600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  unfold result
  rw [show (dats m 0 c).Φ t.castSucc = Pipeline.ΦA spec0 c from rfl, PhiA0_eq]
  iintro ⟨⟨⟨HS0, HS1, HS2, HS3, HS4, HS5, HS6, HS7, HS8, HS9, HS10, HS11, HS12, HS13, HS14, HS15, HS16, HS17, HS18, HS19, HS20, HS21, HS22, HS23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  iintro ⟨H0, H1, H2, H3, H4, H5, H6, H7, H8, H9, H10, H11, HS0, HS1, HS2, HS3, HS4, HS5, HS6, HS7, HS8, HS9, HS10, HS11, HS12, HS13, HS14, HS15, HS16, HS17, HS18, HS19, HS20, HS21, HS22, HS23⟩
  isplitl [HS0 HS1 HS2 HS3 HS4 HS5 HS6 HS7 HS8 HS9 HS10 HS11 HS12 HS13 HS14 HS15 HS16 HS17 HS18 HS19 HS20 HS21 HS22 HS23 Hg]
  · isplitl [HS0 HS1 HS2 HS3 HS4 HS5 HS6 HS7 HS8 HS9 HS10 HS11 HS12 HS13 HS14 HS15 HS16 HS17 HS18 HS19 HS20 HS21 HS22 HS23]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      isplitl [HS11]
      · iexact HS11
      isplitl [HS12]
      · iexact HS12
      isplitl [HS13]
      · iexact HS13
      isplitl [HS14]
      · iexact HS14
      isplitl [HS15]
      · iexact HS15
      isplitl [HS16]
      · iexact HS16
      isplitl [HS17]
      · iexact HS17
      isplitl [HS18]
      · iexact HS18
      isplitl [HS19]
      · iexact HS19
      isplitl [HS20]
      · iexact HS20
      isplitl [HS21]
      · iexact HS21
      isplitl [HS22]
      · iexact HS22
      iexact HS23
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, from any memory with zero counters: every input array ends unchanged, the result's array at what the
body left block by block, every other buffer as the region found it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) ∧ r.2.sem = fun _ => 0) :=
  θ_run_and (frame_of m ρ (dats m) (A_eq m) (run_main m ρ)) ((θ_run defs _ _).mono (fun _ h => h.2) (run_main_quiescent m ρ))

end Cert.KernelIdeal.Scan

end
-- ==== Proof.Printed.lean ====
module

public import proofs.«01_k».proof.Defs
public import proofs.«01_k».proof.Proof.Gen.Kernel
public import proofs.«01_k».proof.Proof.Framed

/-
The kernel as printed and the idealized kernel are one program, no operation being rewritten; `Framed` proves the frame of
that program over any floats, so the kernel as printed has it over the bits.
-/

@[expose] public section

set_option maxRecDepth 65536

noncomputable section

namespace Cert.Kernel.Scan

open Idealize.ShloMosaic Idealize.SL.Sem

variable {F : FTy → Type} [FloatOps F]

set_option maxHeartbeats 4000000 in
/-- The body of the kernel as printed and of the idealized one: the same program. -/
theorem body_eq : @Cert.Kernel.cc0__k2 F _ Cert.Kernel.Gen.facts = @Cert.KernelIdeal.cc0__k2 F _ Cert.KernelIdeal.Gen.facts := rfl

set_option maxHeartbeats 1000000 in
/-- So are the tables of bodies. -/
theorem table_eq : @Cert.Kernel.defs₀ F _ Cert.Kernel.Gen.facts = @Cert.KernelIdeal.defs₀ F _ Cert.KernelIdeal.Gen.facts := by
  unfold Cert.Kernel.defs₀ Cert.KernelIdeal.defs₀
  rw [body_eq]
  refine congrArg Defs.onTc (funext fun ℓ => funext fun a => ?_)
  match ℓ, a with
  | 0, (t, s) => rfl
  | ⟨_ + 1, h⟩, _ => exact absurd h (Nat.not_lt.2 (Nat.le_add_left _ _))

set_option maxHeartbeats 1000000 in
/-- So are the tables of all functions. -/
theorem defs_eq : @Cert.Kernel.defs F _ Cert.Kernel.Gen.facts = @Cert.KernelIdeal.defs F _ Cert.KernelIdeal.Gen.facts := by
  unfold Cert.Kernel.defs
  rw [table_eq]
  rfl

/-- So is @main. -/
theorem main_eq : @Cert.Kernel.main F _ Cert.Kernel.Gen.facts = @Cert.KernelIdeal.main F _ Cert.KernelIdeal.Gen.facts := rfl

set_option maxHeartbeats 1000000 in
/-- The printed kernel's frame. -/
theorem frame : Cert.quiescent_Kernel (hKernel := Cert.Kernel.Gen.facts) := by
  intro m g _
  rw [defs_eq, main_eq]
  exact Cert.KernelIdeal.Scan.frame (F := Bits) m g

end Cert.Kernel.Scan

end
-- ==== Proof.KVal.lean ====
module

public import proofs.«01_k».proof.Proof.Framed

/-
What the launch stages: each operand of the kernel, read from the arguments; and what it leaves in the result array.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

open StableHlo in
theorem V_main_v0 (c : Dev nD) : V m c main_v0 = transpose S4x384 [1, 0] (m ((c : Thread nD τ).loc main_arg2)) transposes_S384x4_S4x384_1_0 := by
  unfold V
  simp only [hostOps0, hostOps0_1, List.flatten_cons, List.flatten_nil, List.append_nil, List.cons_append, List.nil_append]
  after_results

open StableHlo in
theorem V_main_v1 (c : Dev nD) : V m c main_v1 = shapeCast S1x384 (m ((c : Thread nD τ).loc main_arg3)) shapeCasts_S384_S1x384 := by
  unfold V
  simp only [hostOps0, hostOps0_1, List.flatten_cons, List.flatten_nil, List.append_nil, List.cons_append, List.nil_append]
  after_results
  rfl

open StableHlo in
theorem V_main_v2 (c : Dev nD) : V m c main_v2 = shapeCast S1x384 (m ((c : Thread nD τ).loc main_arg6)) shapeCasts_S384_S1x384 := by
  unfold V
  simp only [hostOps0, hostOps0_1, List.flatten_cons, List.flatten_nil, List.append_nil, List.cons_append, List.nil_append]
  after_results
  rfl

open StableHlo in
theorem V_main_v3 (c : Dev nD) : V m c main_v3 = shapeCast S1x384 (m ((c : Thread nD τ).loc main_arg8)) shapeCasts_S384_S1x384 := by
  unfold V
  simp only [hostOps0, hostOps0_1, List.flatten_cons, List.flatten_nil, List.append_nil, List.cons_append, List.nil_append]
  after_results
  rfl

open StableHlo in
theorem V_main_v5 (c : Dev nD) : V m c main_v5 =
    shapeCast S1x6144 (transpose S16x384 [1, 0] (m ((c : Thread nD τ).loc main_arg7)) transposes_S384x16_S16x384_1_0) shapeCasts_S16x384_S1x6144 := by
  unfold V
  simp only [hostOps0, hostOps0_1, List.flatten_cons, List.flatten_nil, List.append_nil, List.cons_append, List.nil_append]
  after_results
  rfl

/-- The expansion matrix: the identity, each column repeated 384 times. -/
def kron16 : FVec F S16x6144 .f32 :=
  shapeCast S16x6144 (mulf
    (broadcastInDim S16x1x16x384 ![0, 1, 2, 3] bcast_S16x1x16x1_S16x1x16x384_0_1_2_3 (broadcastInDim S16x1x16x1 ![0, 2] bcast_S16x16_S16x1x16x1_0_2
      (uitofp .f32 (cmpi .eq (addi (iotaInDim S16x16 32 0) (broadcastInDim S16x16 ![] bcast_S_S16x16 (constantI S_ 32 0#32))) (iotaInDim S16x16 32 1)))))
    (broadcastInDim S16x1x16x384 ![0, 1, 2, 3] bcast_S1x1x1x384_S16x1x16x384_0_1_2_3 (broadcastInDim S1x1x1x384 ![1, 3] bcast_S1x384_S1x1x1x384_1_3
      (broadcastInDim S1x384 ![] bcast_S_S1x384 (constant S_ .f32 0x3F800000#32))))) shapeCasts_S16x1x16x384_S16x6144

open StableHlo in
theorem V_main_v13 (c : Dev nD) : V m c main_v13 = kron16 := by
  unfold V
  simp only [hostOps0, hostOps0_1, List.flatten_cons, List.flatten_nil, List.append_nil, List.cons_append, List.nil_append]
  after_results
  rfl

theorem N_one : cfg0.N = 1 := N_0

/-- The one block of every operand is the operand. -/
theorem block0 (c : Dev nD) (t : Fin cfg0.N) : (iblk m c 0 t : Vec F S2x1152x192 .f32) = V m c main_arg0 := by
  have ht : t = t0_0 := fin_N0 t
  subst ht
  funext j
  unfold iblk
  rw [View.read_apply]
  show V m c main_arg0 _ = V m c main_arg0 j
  congr 1
  funext a
  apply Fin.ext
  match a with
  | ⟨0, _⟩ => show win0_0.index t0_0 0 * win0_0.size 0 + 1 * (j 0).val = (j 0).val; rw [show win0_0.index t0_0 0 * win0_0.size 0 = 0 from by decide +kernel]; omega
  | ⟨1, _⟩ => show win0_0.index t0_0 1 * win0_0.size 1 + 1 * (j 1).val = (j 1).val; rw [show win0_0.index t0_0 1 * win0_0.size 1 = 0 from by decide +kernel]; omega
  | ⟨2, _⟩ => show win0_0.index t0_0 2 * win0_0.size 2 + 1 * (j 2).val = (j 2).val; rw [show win0_0.index t0_0 2 * win0_0.size 2 = 0 from by decide +kernel]; omega

theorem block1 (c : Dev nD) (t : Fin cfg0.N) : (iblk m c 1 t : Vec F S768x192 .f32) = V m c main_arg1 := by
  have ht : t = t0_0 := fin_N0 t
  subst ht
  funext j
  unfold iblk
  rw [View.read_apply]
  show V m c main_arg1 _ = V m c main_arg1 j
  congr 1
  funext a
  apply Fin.ext
  match a with
  | ⟨0, _⟩ => show win0_1.index t0_0 0 * win0_1.size 0 + 1 * (j 0).val = (j 0).val; rw [show win0_1.index t0_0 0 * win0_1.size 0 = 0 from by decide +kernel]; omega
  | ⟨1, _⟩ => show win0_1.index t0_0 1 * win0_1.size 1 + 1 * (j 1).val = (j 1).val; rw [show win0_1.index t0_0 1 * win0_1.size 1 = 0 from by decide +kernel]; omega

theorem block2 (c : Dev nD) (t : Fin cfg0.N) : (iblk m c 2 t : Vec F S4x384 .f32) = V m c main_v0 := by
  have ht : t = t0_0 := fin_N0 t
  subst ht
  funext j
  unfold iblk
  rw [View.read_apply]
  show V m c main_v0 _ = V m c main_v0 j
  congr 1
  funext a
  apply Fin.ext
  match a with
  | ⟨0, _⟩ => show win0_2.index t0_0 0 * win0_2.size 0 + 1 * (j 0).val = (j 0).val; rw [show win0_2.index t0_0 0 * win0_2.size 0 = 0 from by decide +kernel]; omega
  | ⟨1, _⟩ => show win0_2.index t0_0 1 * win0_2.size 1 + 1 * (j 1).val = (j 1).val; rw [show win0_2.index t0_0 1 * win0_2.size 1 = 0 from by decide +kernel]; omega

theorem block3 (c : Dev nD) (t : Fin cfg0.N) : (iblk m c 3 t : Vec F S1x384 .f32) = V m c main_v1 := by
  have ht : t = t0_0 := fin_N0 t
  subst ht
  funext j
  unfold iblk
  rw [View.read_apply]
  show V m c main_v1 _ = V m c main_v1 j
  congr 1
  funext a
  apply Fin.ext
  match a with
  | ⟨0, _⟩ => show win0_3.index t0_0 0 * win0_3.size 0 + 1 * (j 0).val = (j 0).val; rw [show win0_3.index t0_0 0 * win0_3.size 0 = 0 from by decide +kernel]; omega
  | ⟨1, _⟩ => show win0_3.index t0_0 1 * win0_3.size 1 + 1 * (j 1).val = (j 1).val; rw [show win0_3.index t0_0 1 * win0_3.size 1 = 0 from by decide +kernel]; omega

theorem block4 (c : Dev nD) (t : Fin cfg0.N) : (iblk m c 4 t : Vec F S44x384 .f32) = V m c main_arg4 := by
  have ht : t = t0_0 := fin_N0 t
  subst ht
  funext j
  unfold iblk
  rw [View.read_apply]
  show V m c main_arg4 _ = V m c main_arg4 j
  congr 1
  funext a
  apply Fin.ext
  match a with
  | ⟨0, _⟩ => show win0_4.index t0_0 0 * win0_4.size 0 + 1 * (j 0).val = (j 0).val; rw [show win0_4.index t0_0 0 * win0_4.size 0 = 0 from by decide +kernel]; omega
  | ⟨1, _⟩ => show win0_4.index t0_0 1 * win0_4.size 1 + 1 * (j 1).val = (j 1).val; rw [show win0_4.index t0_0 1 * win0_4.size 1 = 0 from by decide +kernel]; omega

theorem block5 (c : Dev nD) (t : Fin cfg0.N) : (iblk m c 5 t : Vec F S384x12 .f32) = V m c main_arg5 := by
  have ht : t = t0_0 := fin_N0 t
  subst ht
  funext j
  unfold iblk
  rw [View.read_apply]
  show V m c main_arg5 _ = V m c main_arg5 j
  congr 1
  funext a
  apply Fin.ext
  match a with
  | ⟨0, _⟩ => show win0_5.index t0_0 0 * win0_5.size 0 + 1 * (j 0).val = (j 0).val; rw [show win0_5.index t0_0 0 * win0_5.size 0 = 0 from by decide +kernel]; omega
  | ⟨1, _⟩ => show win0_5.index t0_0 1 * win0_5.size 1 + 1 * (j 1).val = (j 1).val; rw [show win0_5.index t0_0 1 * win0_5.size 1 = 0 from by decide +kernel]; omega

theorem block6 (c : Dev nD) (t : Fin cfg0.N) : (iblk m c 6 t : Vec F S1x384 .f32) = V m c main_v2 := by
  have ht : t = t0_0 := fin_N0 t
  subst ht
  funext j
  unfold iblk
  rw [View.read_apply]
  show V m c main_v2 _ = V m c main_v2 j
  congr 1
  funext a
  apply Fin.ext
  match a with
  | ⟨0, _⟩ => show win0_6.index t0_0 0 * win0_6.size 0 + 1 * (j 0).val = (j 0).val; rw [show win0_6.index t0_0 0 * win0_6.size 0 = 0 from by decide +kernel]; omega
  | ⟨1, _⟩ => show win0_6.index t0_0 1 * win0_6.size 1 + 1 * (j 1).val = (j 1).val; rw [show win0_6.index t0_0 1 * win0_6.size 1 = 0 from by decide +kernel]; omega

theorem block7 (c : Dev nD) (t : Fin cfg0.N) : (iblk m c 7 t : Vec F S1x6144 .f32) = V m c main_v5 := by
  have ht : t = t0_0 := fin_N0 t
  subst ht
  funext j
  unfold iblk
  rw [View.read_apply]
  show V m c main_v5 _ = V m c main_v5 j
  congr 1
  funext a
  apply Fin.ext
  match a with
  | ⟨0, _⟩ => show win0_7.index t0_0 0 * win0_7.size 0 + 1 * (j 0).val = (j 0).val; rw [show win0_7.index t0_0 0 * win0_7.size 0 = 0 from by decide +kernel]; omega
  | ⟨1, _⟩ => show win0_7.index t0_0 1 * win0_7.size 1 + 1 * (j 1).val = (j 1).val; rw [show win0_7.index t0_0 1 * win0_7.size 1 = 0 from by decide +kernel]; omega

theorem block8 (c : Dev nD) (t : Fin cfg0.N) : (iblk m c 8 t : Vec F S16x6144 .f32) = V m c main_v13 := by
  have ht : t = t0_0 := fin_N0 t
  subst ht
  funext j
  unfold iblk
  rw [View.read_apply]
  show V m c main_v13 _ = V m c main_v13 j
  congr 1
  funext a
  apply Fin.ext
  match a with
  | ⟨0, _⟩ => show win0_8.index t0_0 0 * win0_8.size 0 + 1 * (j 0).val = (j 0).val; rw [show win0_8.index t0_0 0 * win0_8.size 0 = 0 from by decide +kernel]; omega
  | ⟨1, _⟩ => show win0_8.index t0_0 1 * win0_8.size 1 + 1 * (j 1).val = (j 1).val; rw [show win0_8.index t0_0 1 * win0_8.size 1 = 0 from by decide +kernel]; omega

theorem block9 (c : Dev nD) (t : Fin cfg0.N) : (iblk m c 9 t : Vec F S1x384 .f32) = V m c main_v3 := by
  have ht : t = t0_0 := fin_N0 t
  subst ht
  funext j
  unfold iblk
  rw [View.read_apply]
  show V m c main_v3 _ = V m c main_v3 j
  congr 1
  funext a
  apply Fin.ext
  match a with
  | ⟨0, _⟩ => show win0_9.index t0_0 0 * win0_9.size 0 + 1 * (j 0).val = (j 0).val; rw [show win0_9.index t0_0 0 * win0_9.size 0 = 0 from by decide +kernel]; omega
  | ⟨1, _⟩ => show win0_9.index t0_0 1 * win0_9.size 1 + 1 * (j 1).val = (j 1).val; rw [show win0_9.index t0_0 1 * win0_9.size 1 = 0 from by decide +kernel]; omega

theorem block10 (c : Dev nD) (t : Fin cfg0.N) : (iblk m c 10 t : Vec F S192x384 .f32) = V m c main_arg9 := by
  have ht : t = t0_0 := fin_N0 t
  subst ht
  funext j
  unfold iblk
  rw [View.read_apply]
  show V m c main_arg9 _ = V m c main_arg9 j
  congr 1
  funext a
  apply Fin.ext
  match a with
  | ⟨0, _⟩ => show win0_10.index t0_0 0 * win0_10.size 0 + 1 * (j 0).val = (j 0).val; rw [show win0_10.index t0_0 0 * win0_10.size 0 = 0 from by decide +kernel]; omega
  | ⟨1, _⟩ => show win0_10.index t0_0 1 * win0_10.size 1 + 1 * (j 1).val = (j 1).val; rw [show win0_10.index t0_0 1 * win0_10.size 1 = 0 from by decide +kernel]; omega

theorem flushed_eq (c : Dev nD) (t : Fin cfg0.N) (hf : (cfg0.win 11).flush t = true) :
    (dats m 0 c).flushed 11 t = ((cfg0.win 11).blk t).view.read (Elt F) (result m c t0_0) := by
  have ht : t = t0_0 := fin_N0 t
  subst ht
  show (cfg0.win 11).cut (grid0.coords t0_0) ((dats m 0 c).after 11 t0_0) = _
  rw [after0_11]
  have hz' : (fun a => win0_11.index t0_0 a * main_v14.ty.shape.size a) = fun _ => 0 := funext fun a => by fin_cases a <;> decide
  exact (Memref.read_access_unit_zero (Elt F) main_v14 hz' (fun a => by rw [congrFun hz' a]; simp) (result m c t0_0)).symm

/-- The result array ends holding the block the body leaves. -/
theorem final_o (c : Dev nD) : (dats m 0 c).arrAt 11 cfg0.N = result m c t0_0 :=
  (dats m 0 c).arrAt_eq_of_cover 11 (result m c t0_0) (flushed_eq m c) fun i =>
    ⟨t0_0, flush0_11 t0_0, by
      show i ∈ ((View.whole main_v14).slice (win0_11.rect t0_0)).set
      rw [View.set_slice_whole, Rect.mem_set_unit]
      intro a
      have h0 : (i 0 : Nat) < 2 := (i 0).isLt
      have h1 : (i 1 : Nat) < 1152 := (i 1).isLt
      have h2 : (i 2 : Nat) < 192 := (i 2).isLt
      match a with
      | ⟨0, _⟩ => show win0_11.index t0_0 0 * win0_11.size 0 ≤ (i 0 : Nat) ∧ (i 0 : Nat) < win0_11.index t0_0 0 * win0_11.size 0 + win0_11.xsize (grid0.coords t0_0) 0
                  rw [show win0_11.index t0_0 0 * win0_11.size 0 = 0 from by decide +kernel, show win0_11.xsize (grid0.coords t0_0) 0 = 2 from by decide +kernel]; omega
      | ⟨1, _⟩ => show win0_11.index t0_0 1 * win0_11.size 1 ≤ (i 1 : Nat) ∧ (i 1 : Nat) < win0_11.index t0_0 1 * win0_11.size 1 + win0_11.xsize (grid0.coords t0_0) 1
                  rw [show win0_11.index t0_0 1 * win0_11.size 1 = 0 from by decide +kernel, show win0_11.xsize (grid0.coords t0_0) 1 = 1152 from by decide +kernel]; omega
      | ⟨2, _⟩ => show win0_11.index t0_0 2 * win0_11.size 2 ≤ (i 2 : Nat) ∧ (i 2 : Nat) < win0_11.index t0_0 2 * win0_11.size 2 + win0_11.xsize (grid0.coords t0_0) 2
                  rw [show win0_11.index t0_0 2 * win0_11.size 2 = 0 from by decide +kernel, show win0_11.xsize (grid0.coords t0_0) 2 = 192 from by decide +kernel]; omega⟩

end Cert.KernelIdeal.Scan
-- ==== Proof.Arith.lean ====
module

public import Idealize.ShloMosaic.Lib.Pointwise
public import Mathlib.Tactic.Ring
public import Mathlib.Tactic.NormNum
public import Mathlib.Tactic.Linarith

/-
Extended reals that are real numbers, the functions of the scan on them, and the doubling scheme that computes a
first-order recurrence over a block of 64 steps.
-/

@[expose] public section

noncomputable section

namespace Cert.Arith

open Idealize.ShloMosaic

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩

theorem IsR.add {x y : EReal} (hx : IsR x) (hy : IsR y) : IsR (x + y) := by
  obtain ⟨a, rfl⟩ := hx; obtain ⟨b, rfl⟩ := hy; exact ⟨a + b, by push_cast; rfl⟩

theorem IsR.mul {x y : EReal} (hx : IsR x) (hy : IsR y) : IsR (x * y) := by
  obtain ⟨a, rfl⟩ := hx; obtain ⟨b, rfl⟩ := hy; exact ⟨a * b, by push_cast; rfl⟩

theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

theorem IsR.logistic {x : EReal} (hx : IsR x) : IsR (Ideal.logistic x) := by
  obtain ⟨a, rfl⟩ := hx; exact ⟨_, Ideal.logistic_coe _⟩

theorem mul_add_real {c x y : EReal} (hc : IsR c) (hx : IsR x) (hy : IsR y) : c * (x + y) = c * x + c * y := by
  obtain ⟨c, rfl⟩ := hc; obtain ⟨a, rfl⟩ := hx; obtain ⟨b, rfl⟩ := hy
  rw [← EReal.coe_add, ← EReal.coe_mul, ← EReal.coe_mul, ← EReal.coe_mul, ← EReal.coe_add, mul_add]

theorem add_mul_real {c x y : EReal} (hc : IsR c) (hx : IsR x) (hy : IsR y) : (x + y) * c = x * c + y * c := by
  rw [mul_comm, mul_add_real hc hx hy, mul_comm c x, mul_comm c y]

/-- The gate: a value times its logistic. -/
def silu (x : EReal) : EReal := x * Ideal.logistic x

theorem IsR.silu {x : EReal} (hx : IsR x) : IsR (silu x) := hx.mul hx.logistic

/-- The step size's map. -/
def softplus (x : EReal) : EReal := max x 0 + Ideal.log1p (Ideal.exp (0 - max (x - 0) (-(x - 0))))

theorem softplus_real {x : EReal} (hx : IsR x) : ∃ r : ℝ, 0 ≤ r ∧ softplus x = (r : EReal) := by
  obtain ⟨a, rfl⟩ := hx
  have cm : ∀ a b : ℝ, ((max a b : ℝ) : EReal) = max (a : EReal) (b : EReal) := fun a b => EReal.coe_strictMono.monotone.map_max
  have e : (0 : EReal) - max ((a : EReal) - 0) (-((a : EReal) - 0)) = ((-(max a (-a)) : ℝ) : EReal) := by
    rw [sub_zero, ← EReal.coe_neg, ← cm, zero_sub, ← EReal.coe_neg]
  have p : 0 < Real.exp (-(max a (-a))) := Real.exp_pos _
  have e2 : Ideal.log1p (Ideal.exp ((-(max a (-a)) : ℝ) : EReal)) = ((Real.log (1 + Real.exp (-(max a (-a)))) : ℝ) : EReal) := by
    unfold Ideal.log1p
    rw [Ideal.exp_coe]
    have : (1 : EReal) + (Real.exp (-(max a (-a))) : ℝ) = ((1 + Real.exp (-(max a (-a))) : ℝ) : EReal) := by push_cast; rfl
    rw [this, Ideal.log_coe, if_neg (by linarith)]
  refine ⟨max a 0 + Real.log (1 + Real.exp (-(max a (-a)))), add_nonneg (le_max_right _ _) (Real.log_nonneg (by linarith)), ?_⟩
  unfold softplus
  rw [e, e2, EReal.coe_add, cm, EReal.coe_zero]

/-- The decay of one step: real even where the rate is infinite. -/
theorem decay_real {t v : EReal} (ht : ∃ r : ℝ, 0 ≤ r ∧ t = (r : EReal)) : IsR (Ideal.exp (t * (0 - Ideal.exp v))) := by
  obtain ⟨r, hr, rfl⟩ := ht
  induction v using EReal.rec with
  | bot => rw [Ideal.exp_bot, sub_zero, mul_zero]; exact ⟨_, Ideal.exp_coe 0⟩
  | coe a =>
    rw [Ideal.exp_coe, zero_sub, ← EReal.coe_neg, ← EReal.coe_mul]; exact ⟨_, Ideal.exp_coe _⟩
  | top =>
    rw [Ideal.exp_top, zero_sub, EReal.neg_top]
    rcases hr.eq_or_lt with h | h
    · rw [← h, EReal.coe_zero, zero_mul]; exact ⟨_, Ideal.exp_coe 0⟩
    · rw [EReal.coe_mul_bot_of_pos h]; exact ⟨0, Ideal.exp_bot⟩

/-! ### The recurrence and the doubling scheme -/

/-- The first-order recurrence `h (t + 1) = a t * h t + b t` from `h₀`. -/
def rec1 (a b : ℕ → EReal) (h₀ : EReal) : ℕ → EReal
  | 0 => h₀
  | t + 1 => a t * rec1 a b h₀ t + b t

/-- A sequence moved `k` steps later, `c` filled in. -/
def shift (k : ℕ) (c : EReal) (x : ℕ → EReal) : ℕ → EReal := fun t => if t < k then c else x (t - k)

/-- One level of doubling on the decays. -/
def lvA (k : ℕ) (A : ℕ → EReal) : ℕ → EReal := fun t => A t * shift k 1 A t

/-- One level of doubling on the drives. -/
def lvB (k : ℕ) (A B : ℕ → EReal) : ℕ → EReal := fun t => A t * shift k 0 B t + B t

theorem rec1_real {a b : ℕ → EReal} {h₀ : EReal} (ha : ∀ t, IsR (a t)) (hb : ∀ t, IsR (b t)) (h : IsR h₀) :
    ∀ t, IsR (rec1 a b h₀ t)
  | 0 => h
  | t + 1 => ((ha t).mul (rec1_real ha hb h t)).add (hb t)

theorem rec1_add (a b : ℕ → EReal) (h₀ : EReal) (s : ℕ) : ∀ t,
    rec1 a b h₀ (s + t) = rec1 (fun i => a (s + i)) (fun i => b (s + i)) (rec1 a b h₀ s) t
  | 0 => rfl
  | t + 1 => by
    show a (s + t) * rec1 a b h₀ (s + t) + b (s + t) = _
    rw [rec1_add a b h₀ s t]; rfl

theorem rec1_congr {a b a' b' : ℕ → EReal} (h₀ : EReal) : ∀ t, (∀ i, i < t → a i = a' i ∧ b i = b' i) →
    rec1 a b h₀ t = rec1 a' b' h₀ t
  | 0, _ => rfl
  | t + 1, h => by
    show a t * rec1 a b h₀ t + b t = a' t * rec1 a' b' h₀ t + b' t
    rw [(h t (Nat.lt_succ_self t)).1, (h t (Nat.lt_succ_self t)).2, rec1_congr h₀ t fun i hi => h i (Nat.lt_succ_of_lt hi)]

/-- What a level of the scheme holds: `k` steps taken at once. -/
structure Level (a b : ℕ → EReal) (h₀ : EReal) (k : ℕ) (A B : ℕ → EReal) : Prop where
  realA : ∀ t, IsR (A t)
  realB : ∀ t, IsR (B t)
  step : ∀ t, A t * rec1 a b h₀ (t + 1 - k) + B t = rec1 a b h₀ (t + 1)

theorem Level.base {a b : ℕ → EReal} {h₀ : EReal} (ha : ∀ t, IsR (a t)) (hb : ∀ t, IsR (b t)) : Level a b h₀ 1 a b :=
  ⟨ha, hb, fun _ => rfl⟩

theorem Level.double {a b : ℕ → EReal} {h₀ : EReal} (ha : ∀ t, IsR (a t)) (hb : ∀ t, IsR (b t)) (hh : IsR h₀) {k : ℕ} (hk : 0 < k)
    {A B : ℕ → EReal} (h : Level a b h₀ k A B) : Level a b h₀ (2 * k) (lvA k A) (lvB k A B) := by
  refine ⟨fun t => (h.realA t).mul ?_, fun t => ((h.realA t).mul ?_).add (h.realB t), fun t => ?_⟩
  · unfold shift; split; exacts [IsR.one, h.realA _]
  · unfold shift; split; exacts [IsR.zero, h.realB _]
  · have hr := rec1_real ha hb hh
    unfold lvA lvB shift
    by_cases ht : t < k
    · rw [if_pos ht, if_pos ht, mul_one, mul_zero, zero_add]
      have e : t + 1 - 2 * k = t + 1 - k := by omega
      rw [e]; exact h.step t
    · rw [if_neg ht, if_neg ht, mul_assoc, ← add_assoc, ← mul_add_real (h.realA t) ((h.realA _).mul (hr _)) (h.realB _)]
      have e : t + 1 - 2 * k = t - k + 1 - k := by omega
      have e' : t - k + 1 = t + 1 - k := by omega
      rw [e, h.step (t - k), e']; exact h.step t

/-- The decays after `1, 2, 4, 8, 16, 32` steps doubled. -/
def A64 (a : ℕ → EReal) : ℕ → EReal := lvA 32 (lvA 16 (lvA 8 (lvA 4 (lvA 2 (lvA 1 a)))))

/-- The drives after `1, 2, 4, 8, 16, 32` steps doubled. -/
def B64 (a b : ℕ → EReal) : ℕ → EReal :=
  lvB 32 (lvA 16 (lvA 8 (lvA 4 (lvA 2 (lvA 1 a))))) (lvB 16 (lvA 8 (lvA 4 (lvA 2 (lvA 1 a)))) (lvB 8 (lvA 4 (lvA 2 (lvA 1 a)))
    (lvB 4 (lvA 2 (lvA 1 a)) (lvB 2 (lvA 1 a) (lvB 1 a b)))))

/-- The scheme computes the recurrence over a block. -/
theorem block {a b : ℕ → EReal} {h₀ : EReal} (ha : ∀ t, IsR (a t)) (hb : ∀ t, IsR (b t)) (hh : IsR h₀) (t : ℕ) (ht : t < 64) :
    A64 a t * h₀ + B64 a b t = rec1 a b h₀ (t + 1) := by
  have l := Level.double ha hb hh (k := 32) (by omega) (Level.double ha hb hh (k := 16) (by omega) (Level.double ha hb hh (k := 8) (by omega)
    (Level.double ha hb hh (k := 4) (by omega) (Level.double ha hb hh (k := 2) (by omega) (Level.double ha hb hh (k := 1) (by omega) (Level.base ha hb))))))
  have e := l.step t
  rw [show t + 1 - 2 * 32 = 0 from by omega] at e
  exact e

end Cert.Arith
-- ==== Proof.Block.lean ====
module

public import proofs.«01_k».proof.Proof.Scan
public import proofs.«01_k».proof.Proof.Arith

/-
One block of 64 rows of the scan at the extended reals: lane by lane it is the recurrence, run forward or backward.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Arith

abbrev V64 := FVec Ideal S64x6144 .f32

/-- Lane `l` of a block holds the sequence `A`, row by row. -/
def Rd (x : V64) (l : Fin 6144) (A : ℕ → EReal) : Prop := ∀ (t : ℕ) (h : t < 64), x (ix2 ⟨t, h⟩ l) = A t

/-- Lane `l` of a block holds the sequence `A`, from the last row to the first. -/
def Ru (x : V64) (l : Fin 6144) (A : ℕ → EReal) : Prop := ∀ (t : ℕ) (h : t < 64), x (ix2 ⟨63 - t, by omega⟩ l) = A t

theorem Rd.mul {x y : V64} {l : Fin 6144} {A B : ℕ → EReal} (hx : Rd x l A) (hy : Rd y l B) : Rd (mulf (φ := .f32) x y : V64) l (fun t => A t * B t) :=
  fun t h => by show x _ * y _ = A t * B t; rw [← hx t h, ← hy t h]
theorem Rd.add {x y : V64} {l : Fin 6144} {A B : ℕ → EReal} (hx : Rd x l A) (hy : Rd y l B) : Rd (addf (φ := .f32) x y : V64) l (fun t => A t + B t) :=
  fun t h => by show x _ + y _ = A t + B t; rw [← hx t h, ← hy t h]
theorem Ru.mul {x y : V64} {l : Fin 6144} {A B : ℕ → EReal} (hx : Ru x l A) (hy : Ru y l B) : Ru (mulf (φ := .f32) x y : V64) l (fun t => A t * B t) :=
  fun t h => by show x _ * y _ = A t * B t; rw [← hx t h, ← hy t h]
theorem Ru.add {x y : V64} {l : Fin 6144} {A B : ℕ → EReal} (hx : Ru x l A) (hy : Ru y l B) : Ru (addf (φ := .f32) x y : V64) l (fun t => A t + B t) :=
  fun t h => by show x _ + y _ = A t + B t; rw [← hx t h, ← hy t h]

/-- `k` rows of the block's width. -/
abbrev rowsOf (k : ℕ) : Shape := ⟨2, ![k, 6144]⟩

/-- A block moved `k` rows down, `c` above. -/
def down (k j : ℕ) (hs : S64x6144.Slices ![0, 0] (rowsOf j)) (hj : Shape.Concatenates [rowsOf k, rowsOf j] S64x6144 0) (c : Ideal .f32) (x : V64) : V64 :=
  concatenate S64x6144 0 [⟨rowsOf k, broadcast (rowsOf k) c⟩, ⟨rowsOf j, extractStridedSlice (rowsOf j) ![0, 0] x hs⟩] hj

/-- A block moved `k` rows up, `c` below. -/
def raise (k j : ℕ) (hs : S64x6144.Slices ![k, 0] (rowsOf j)) (hj : Shape.Concatenates [rowsOf j, rowsOf k] S64x6144 0) (c : Ideal .f32) (x : V64) : V64 :=
  concatenate S64x6144 0 [⟨rowsOf j, extractStridedSlice (rowsOf j) ![k, 0] x hs⟩, ⟨rowsOf k, broadcast (rowsOf k) c⟩] hj

/-- The map moves each lane's sequence by `k`, read from the first row. -/
def Downs (k : ℕ) (s : Ideal .f32 → V64 → V64) : Prop :=
  ∀ (c : EReal) (x : V64) (l : Fin 6144) (A : ℕ → EReal), Rd x l A → Rd (s c x) l (shift k c A)

/-- The map moves each lane's sequence by `k`, read from the last row. -/
def Raises (k : ℕ) (s : Ideal .f32 → V64 → V64) : Prop :=
  ∀ (c : EReal) (x : V64) (l : Fin 6144) (A : ℕ → EReal), Ru x l A → Ru (s c x) l (shift k c A)

/-- Moving a block down moves the sequence of each lane. -/
theorem downs {k j : ℕ} (hk : k + j = 64) (hs : S64x6144.Slices ![0, 0] (rowsOf j)) (hj : Shape.Concatenates [rowsOf k, rowsOf j] S64x6144 0) :
    Downs k (down k j hs hj) := by
  intro c x l A hx t h
  unfold down shift
  by_cases ht : t < k
  · rw [if_pos ht]
    refine (concatenate_pair_apply_left (t := S64x6144) (s₁ := rowsOf k) (s₂ := rowsOf j) 0 _ _ _ (ix2 ⟨t, h⟩ l) rfl (ix2 ⟨t, ht⟩ l) ?_).trans rfl
    intro b
    match b with
    | 0 => rfl
    | 1 => rfl
  · rw [if_neg ht, ← hx (t - k) (by omega)]
    refine (concatenate_pair_apply_right (t := S64x6144) (s₁ := rowsOf k) (s₂ := rowsOf j) 0 _ _ _ (ix2 ⟨t, h⟩ l) rfl rfl (ix2 ⟨t - k, by omega⟩ l) ?_ ?_).trans ?_
    · intro b hb
      match b with
      | 0 => exact absurd rfl hb
      | 1 => rfl
    · show t - k + k = t; omega
    · refine extractStridedSlice_apply _ _ _ _ _ ?_
      intro b
      match b with
      | 0 => show t - k = 0 + (t - k); omega
      | 1 => show l.val = 0 + l.val; omega

/-- Moving a block up moves the sequence of each lane, read from the last row. -/
theorem raises {k j : ℕ} (hk : k + j = 64) (hs : S64x6144.Slices ![k, 0] (rowsOf j)) (hj : Shape.Concatenates [rowsOf j, rowsOf k] S64x6144 0) :
    Raises k (raise k j hs hj) := by
  intro c x l A hx t h
  unfold raise shift
  by_cases ht : t < k
  · rw [if_pos ht]
    refine (concatenate_pair_apply_right (t := S64x6144) (s₁ := rowsOf j) (s₂ := rowsOf k) 0 _ _ _ (ix2 ⟨63 - t, by omega⟩ l) rfl rfl (ix2 ⟨63 - t - j, by omega⟩ l) ?_ ?_).trans rfl
    · intro b hb
      match b with
      | 0 => exact absurd rfl hb
      | 1 => rfl
    · show 63 - t - j + j = 63 - t; omega
  · rw [if_neg ht, ← hx (t - k) (by omega)]
    refine (concatenate_pair_apply_left (t := S64x6144) (s₁ := rowsOf j) (s₂ := rowsOf k) 0 _ _ _ (ix2 ⟨63 - t, by omega⟩ l) rfl (ix2 ⟨63 - t, by omega⟩ l) ?_).trans ?_
    · intro b
      match b with
      | 0 => rfl
      | 1 => rfl
    · refine extractStridedSlice_apply _ _ _ _ _ ?_
      intro b
      match b with
      | 0 => show 63 - (t - k) = k + (63 - t); omega
      | 1 => show l.val = 0 + l.val; omega

/-- A block moved 1 row down, and up. -/
abbrev dn1 (c : Ideal .f32) (x : V64) : V64 := down 1 63 slices_S64x6144_o0_0_S63x6144 concatenates_S1x6144_S63x6144_S64x6144_d0 c x
abbrev up1 (c : Ideal .f32) (x : V64) : V64 := raise 1 63 slices_S64x6144_o1_0_S63x6144 concatenates_S63x6144_S1x6144_S64x6144_d0 c x
theorem downs1 : Downs 1 dn1 := downs rfl _ _
theorem raises1 : Raises 1 up1 := raises rfl _ _

/-- A block moved 2 rows down, and up. -/
abbrev dn2 (c : Ideal .f32) (x : V64) : V64 := down 2 62 slices_S64x6144_o0_0_S62x6144 concatenates_S2x6144_S62x6144_S64x6144_d0 c x
abbrev up2 (c : Ideal .f32) (x : V64) : V64 := raise 2 62 slices_S64x6144_o2_0_S62x6144 concatenates_S62x6144_S2x6144_S64x6144_d0 c x
theorem downs2 : Downs 2 dn2 := downs rfl _ _
theorem raises2 : Raises 2 up2 := raises rfl _ _

/-- A block moved 4 rows down, and up. -/
abbrev dn4 (c : Ideal .f32) (x : V64) : V64 := down 4 60 slices_S64x6144_o0_0_S60x6144 concatenates_S4x6144_S60x6144_S64x6144_d0 c x
abbrev up4 (c : Ideal .f32) (x : V64) : V64 := raise 4 60 slices_S64x6144_o4_0_S60x6144 concatenates_S60x6144_S4x6144_S64x6144_d0 c x
theorem downs4 : Downs 4 dn4 := downs rfl _ _
theorem raises4 : Raises 4 up4 := raises rfl _ _

/-- A block moved 8 rows down, and up. -/
abbrev dn8 (c : Ideal .f32) (x : V64) : V64 := down 8 56 slices_S64x6144_o0_0_S56x6144 concatenates_S8x6144_S56x6144_S64x6144_d0 c x
abbrev up8 (c : Ideal .f32) (x : V64) : V64 := raise 8 56 slices_S64x6144_o8_0_S56x6144 concatenates_S56x6144_S8x6144_S64x6144_d0 c x
theorem downs8 : Downs 8 dn8 := downs rfl _ _
theorem raises8 : Raises 8 up8 := raises rfl _ _

/-- A block moved 16 rows down, and up. -/
abbrev dn16 (c : Ideal .f32) (x : V64) : V64 := down 16 48 slices_S64x6144_o0_0_S48x6144 concatenates_S16x6144_S48x6144_S64x6144_d0 c x
abbrev up16 (c : Ideal .f32) (x : V64) : V64 := raise 16 48 slices_S64x6144_o16_0_S48x6144 concatenates_S48x6144_S16x6144_S64x6144_d0 c x
theorem downs16 : Downs 16 dn16 := downs rfl _ _
theorem raises16 : Raises 16 up16 := raises rfl _ _

/-- A block moved 32 rows down, and up. -/
abbrev dn32 (c : Ideal .f32) (x : V64) : V64 := down 32 32 slices_S64x6144_o0_0_S32x6144 concatenates_S32x6144_S32x6144_S64x6144_d0 c x
abbrev up32 (c : Ideal .f32) (x : V64) : V64 := raise 32 32 slices_S64x6144_o32_0_S32x6144 concatenates_S32x6144_S32x6144_S64x6144_d0 c x
theorem downs32 : Downs 32 dn32 := downs rfl _ _
theorem raises32 : Raises 32 up32 := raises rfl _ _

/-- Sixteen copies of a plane of 384 columns side by side. -/
def cat16 (x : FVec Ideal S64x384 .f32) : V64 :=
  concatenate S64x6144 1 [⟨S64x384, x⟩, ⟨S64x384, x⟩, ⟨S64x384, x⟩, ⟨S64x384, x⟩, ⟨S64x384, x⟩, ⟨S64x384, x⟩, ⟨S64x384, x⟩, ⟨S64x384, x⟩, ⟨S64x384, x⟩, ⟨S64x384, x⟩, ⟨S64x384, x⟩, ⟨S64x384, x⟩, ⟨S64x384, x⟩, ⟨S64x384, x⟩, ⟨S64x384, x⟩, ⟨S64x384, x⟩] concatenates_S64x384_S64x384_S64x384_S64x384_S64x384_S64x384_S64x384_S64x384_S64x384_S64x384_S64x384_S64x384_S64x384_S64x384_S64x384_S64x384_S64x6144_d1

/-- Lane `n * 384 + d`. -/
def lane (n : Fin 16) (d : Fin 384) : Fin 6144 := ⟨n.val * 384 + d.val, by omega⟩

theorem cat16_apply (x : FVec Ideal S64x384 .f32) (t : Fin 64) (n : Fin 16) (d : Fin 384) : cat16 x (ix2 t (lane n d)) = x (ix2 t d) := by
  unfold cat16
  refine concatenate_replicate_apply (t := S64x6144) (s₁ := S64x384) 1 16 x _ rfl (ix2 t (lane n d)) (ix2 t d) ?_ ?_
  · show d.val = (n.val * 384 + d.val) % 384; omega
  · intro b hb
    match b with
    | 0 => rfl
    | 1 => exact absurd rfl hb

section
variable (v4 : FVec Ideal S1x6144 .f32) (v6 : FVec Ideal S16x6144 .f32) (h : FVec Ideal S1x6144 .f32)
  (dt g : FVec Ideal S64x384 .f32) (bm cm : FVec Ideal S64x16 .f32)

def row16 (x : FVec Ideal S64x16 .f32) : V64 :=
  matmul dot_S64x16_S16x6144_S64x6144_1_0_0_1_n_n (some .fp32) x v6 (constant S64x6144 .f32 0x00000000#32)

theorem row16_apply (x : FVec Ideal S64x16 .f32) (t : Fin 64) (l : Fin 6144) :
    row16 v6 x (ix2 t l) = ∑ k : Fin 16, x (ix2 t k) * v6 (ix2 k l) := by
  unfold row16
  pointwise
  try rw [zero_add]

theorem row_apply (v : FVec Ideal S1x6144 .f32) (t : Fin 64) (l : Fin 6144) :
    broadcastTo S64x6144 v broadcasts_S1x6144_S64x6144 (ix2 t l) = v (ix2 0 l) := by
  pointwise

theorem decay_apply (t : Fin 64) (n : Fin 16) (d : Fin 384) :
    k0_pay3 v4 dt (ix2 t (lane n d)) = Ideal.exp (dt (ix2 t d) * v4 (ix2 0 (lane n d))) := by
  rw [← cat16_apply dt t n d, ← row_apply v4 t (lane n d)]
  rfl

theorem drive_apply (t : Fin 64) (n : Fin 16) (d : Fin 384) :
    (mulf (cat16 g) (row16 v6 bm) : V64) (ix2 t (lane n d)) = g (ix2 t d) * ∑ k : Fin 16, bm (ix2 t k) * v6 (ix2 k (lane n d)) := by
  rw [← cat16_apply g t n d, ← row16_apply]; rfl
end

end Cert.KernelIdeal.Scan
-- ==== Proof.Lanes.lean ====
module

public import proofs.«01_k».proof.Proof.Block

/-
The blocks of the two scans, lane by lane: the state and the rows they write follow the recurrence.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Arith

abbrev one32 : Ideal .f32 := FloatOps.ofBits FTy.f32 0x3F800000#32
abbrev zero32 : Ideal .f32 := FloatOps.ofBits FTy.f32 0x00000000#32

theorem one32_eq : one32 = (1 : EReal) := Ideal.ofBits_one_f32
theorem zero32_eq : zero32 = (0 : EReal) := Ideal.ofBits_zero_f32

section
variable (v4 : FVec Ideal S1x6144 .f32) (v6 : FVec Ideal S16x6144 .f32) (h : FVec Ideal S1x6144 .f32)
  (dt g : FVec Ideal S64x384 .f32) (bm cm : FVec Ideal S64x16 .f32)

/-- What a block adds to the state, before the scan. -/
def drive : V64 := mulf (cat16 g) (row16 v6 bm)

/-- One level of the doubling: what becomes of the factors, and of the terms. -/
def upA (s : Ideal .f32 → V64 → V64) (a : V64) : V64 := mulf a (s one32 a)
def upB (s : Ideal .f32 → V64 → V64) (a b : V64) : V64 := addf (mulf a (s zero32 b)) b

theorem Rd.lvA {k : ℕ} {s : Ideal .f32 → V64 → V64} (hs : Downs k s) {a : V64} {l : Fin 6144} {A : ℕ → EReal} (ha : Rd a l A) : Rd (upA s a) l (lvA k A) :=
  ha.mul ((congrArg (fun c => shift k c A) one32_eq : shift k one32 A = shift k (1 : EReal) A) ▸ hs one32 a l A ha)
theorem Rd.lvB {k : ℕ} {s : Ideal .f32 → V64 → V64} (hs : Downs k s) {a b : V64} {l : Fin 6144} {A B : ℕ → EReal} (ha : Rd a l A) (hb : Rd b l B) :
    Rd (upB s a b) l (lvB k A B) :=
  (ha.mul ((congrArg (fun c => shift k c B) zero32_eq : shift k zero32 B = shift k (0 : EReal) B) ▸ hs zero32 b l B hb)).add hb
theorem Ru.lvA {k : ℕ} {s : Ideal .f32 → V64 → V64} (hs : Raises k s) {a : V64} {l : Fin 6144} {A : ℕ → EReal} (ha : Ru a l A) : Ru (upA s a) l (lvA k A) :=
  ha.mul ((congrArg (fun c => shift k c A) one32_eq : shift k one32 A = shift k (1 : EReal) A) ▸ hs one32 a l A ha)
theorem Ru.lvB {k : ℕ} {s : Ideal .f32 → V64 → V64} (hs : Raises k s) {a b : V64} {l : Fin 6144} {A B : ℕ → EReal} (ha : Ru a l A) (hb : Ru b l B) :
    Ru (upB s a b) l (lvB k A B) :=
  (ha.mul ((congrArg (fun c => shift k c B) zero32_eq : shift k zero32 B = shift k (0 : EReal) B) ▸ hs zero32 b l B hb)).add hb

theorem pay4_eq : k0_pay4 v4 dt = upA dn1 (k0_pay3 v4 dt) := rfl
theorem pay5_eq : k0_pay5 v4 dt = upA dn2 (k0_pay4 v4 dt) := rfl
theorem pay7_eq : k0_pay7 v4 dt = upA dn4 (k0_pay5 v4 dt) := rfl
theorem pay6_eq : k0_pay6 v4 v6 dt g bm = upB dn4 (k0_pay5 v4 dt) (upB dn2 (k0_pay4 v4 dt) (upB dn1 (k0_pay3 v4 dt) (drive v6 g bm))) := rfl
theorem pay10_eq (b a : V64) : k0_pay10 h b a k0_pay8 k0_pay9 =
    (addf (mulf (upA dn32 (upA dn16 (upA dn8 a))) (broadcastTo S64x6144 h broadcasts_S1x6144_S64x6144)) (upB dn32 (upA dn16 (upA dn8 a)) (upB dn16 (upA dn8 a) (upB dn8 a b))) : V64) := rfl
theorem pay17_eq : k0_pay17 v4 dt = upA up1 (k0_pay16 v4 dt) := rfl
theorem pay19_eq : k0_pay19 v4 dt = upA up2 (k0_pay17 v4 dt) := rfl
theorem pay18_eq : k0_pay18 v4 v6 dt g bm = upB up2 (k0_pay17 v4 dt) (upB up1 (k0_pay16 v4 dt) (drive v6 g bm)) := rfl
theorem pay20_eq (b a : V64) : k0_pay20 h b a (FloatOps.ofBits FTy.f32 1065353216#32) =
    (addf (mulf (upA up32 (upA up16 (upA up8 (upA up4 a)))) (broadcastTo S64x6144 h broadcasts_S1x6144_S64x6144))
      (upB up32 (upA up16 (upA up8 (upA up4 a))) (upB up16 (upA up8 (upA up4 a)) (upB up8 (upA up4 a) (upB up4 a b)))) : V64) := rfl

/-- The states of a forward block. -/
def fH : V64 := k0_pay10 h (k0_pay6 v4 v6 dt g bm) (k0_pay7 v4 dt) k0_pay8 k0_pay9

/-- The states of a backward block. -/
def rH : V64 := k0_pay20 h (k0_pay18 v4 v6 dt g bm) (k0_pay19 v4 dt) (FloatOps.ofBits FTy.f32 1065353216#32)

theorem pay16_eq : k0_pay16 v4 dt = k0_pay3 v4 dt := rfl

theorem fN_eq (l : Fin 6144) : fN v4 v6 h dt g bm (ix2 0 l) = fH v4 v6 h dt g bm (ix2 63 l) := by
  have e : fN v4 v6 h dt g bm = extractStridedSlice S1x6144 ![63, 0] (fH v4 v6 h dt g bm) slices_S64x6144_o63_0_S1x6144 := rfl
  rw [e]
  refine extractStridedSlice_apply (s := S64x6144) (t := S1x6144) _ _ _ (ix2 0 l) (ix2 63 l) ?_
  intro b
  match b with
  | 0 => rfl
  | 1 => show l.val = 0 + l.val; omega

theorem rN_eq (l : Fin 6144) : rN v4 v6 h dt g bm (ix2 0 l) = rH v4 v6 h dt g bm (ix2 0 l) := by
  have e : rN v4 v6 h dt g bm = extractStridedSlice S1x6144 ![0, 0] (rH v4 v6 h dt g bm) slices_S64x6144_o0_0_S1x6144 := rfl
  rw [e]
  refine extractStridedSlice_apply (s := S64x6144) (t := S1x6144) _ _ _ (ix2 0 l) (ix2 0 l) ?_
  intro b
  match b with
  | 0 => rfl
  | 1 => show l.val = 0 + l.val; omega

theorem fH_apply {l : Fin 6144} {A B : ℕ → EReal} (hA : ∀ t, IsR (A t)) (hB : ∀ t, IsR (B t)) (hh : IsR (h (ix2 0 l)))
    (ha : Rd (k0_pay3 v4 dt) l A) (hb : Rd (drive v6 g bm) l B) (t : ℕ) (ht : t < 64) :
    fH v4 v6 h dt g bm (ix2 ⟨t, ht⟩ l) = rec1 A B (h (ix2 0 l)) (t + 1) := by
  rw [← block hA hB hh t ht]
  unfold fH
  rw [pay10_eq, pay6_eq, pay7_eq, pay5_eq, pay4_eq]
  have r1 := ha.lvA downs1
  have r2 := r1.lvA downs2
  have r4 := r2.lvA downs4
  have r8 := r4.lvA downs8
  have r16 := r8.lvA downs16
  have rA := r16.lvA downs32
  have rB := r16.lvB downs32 (r8.lvB downs16 (r4.lvB downs8 (r2.lvB downs4 (r1.lvB downs2 (ha.lvB downs1 hb)))))
  have eA := rA t ht
  have eB := rB t ht
  have eh := row_apply h ⟨t, ht⟩ l
  unfold A64 B64
  rw [← eA, ← eB, ← eh]
  rfl

theorem rH_apply {l : Fin 6144} {A B : ℕ → EReal} (hA : ∀ t, IsR (A t)) (hB : ∀ t, IsR (B t)) (hh : IsR (h (ix2 0 l)))
    (ha : Ru (k0_pay3 v4 dt) l A) (hb : Ru (drive v6 g bm) l B) (t : ℕ) (ht : t < 64) :
    rH v4 v6 h dt g bm (ix2 ⟨63 - t, by omega⟩ l) = rec1 A B (h (ix2 0 l)) (t + 1) := by
  rw [← block hA hB hh t ht]
  unfold rH
  rw [pay20_eq, pay18_eq, pay19_eq, pay17_eq, pay16_eq]
  have r1 := ha.lvA raises1
  have r2 := r1.lvA raises2
  have r4 := r2.lvA raises4
  have r8 := r4.lvA raises8
  have r16 := r8.lvA raises16
  have rA := r16.lvA raises32
  have rB := r16.lvB raises32 (r8.lvB raises16 (r4.lvB raises8 (r2.lvB raises4 (r1.lvB raises2 (ha.lvB raises1 hb)))))
  have eA := rA t ht
  have eB := rB t ht
  have eh := row_apply h ⟨63 - t, by omega⟩ l
  unfold A64 B64
  rw [← eA, ← eB, ← eh]
  rfl

theorem sum16 (f : Fin 16 → EReal) : ∑ n, f n = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

theorem slice_lane (x : V64) (o : ℕ) (hs : Shape.Slices S64x6144 ![0, o] S64x384) (n : Fin 16) (ho : o = n.val * 384) (t : Fin 64) (d : Fin 384) :
    extractStridedSlice S64x384 ![0, o] x hs (ix2 t d) = x (ix2 t (lane n d)) := by
  refine extractStridedSlice_apply (s := S64x6144) (t := S64x384) _ _ _ (ix2 t d) (ix2 t (lane n d)) ?_
  intro b
  match b with
  | 0 => show t.val = 0 + t.val; omega
  | 1 => show n.val * 384 + d.val = o + d.val; omega

/-- The sixteen groups of lanes of a block added up. -/
def fold16 (x : V64) : FVec Ideal S64x384 .f32 :=
  (addf (addf (addf (addf (addf (addf (addf (addf (addf (addf (addf (addf (addf (addf (addf (extractStridedSlice S64x384 ![0, 0] x slices_S64x6144_o0_0_S64x384) (extractStridedSlice S64x384 ![0, 384] x slices_S64x6144_o0_384_S64x384)) (extractStridedSlice S64x384 ![0, 768] x slices_S64x6144_o0_768_S64x384)) (extractStridedSlice S64x384 ![0, 1152] x slices_S64x6144_o0_1152_S64x384)) (extractStridedSlice S64x384 ![0, 1536] x slices_S64x6144_o0_1536_S64x384)) (extractStridedSlice S64x384 ![0, 1920] x slices_S64x6144_o0_1920_S64x384)) (extractStridedSlice S64x384 ![0, 2304] x slices_S64x6144_o0_2304_S64x384)) (extractStridedSlice S64x384 ![0, 2688] x slices_S64x6144_o0_2688_S64x384)) (extractStridedSlice S64x384 ![0, 3072] x slices_S64x6144_o0_3072_S64x384)) (extractStridedSlice S64x384 ![0, 3456] x slices_S64x6144_o0_3456_S64x384)) (extractStridedSlice S64x384 ![0, 3840] x slices_S64x6144_o0_3840_S64x384)) (extractStridedSlice S64x384 ![0, 4224] x slices_S64x6144_o0_4224_S64x384)) (extractStridedSlice S64x384 ![0, 4608] x slices_S64x6144_o0_4608_S64x384)) (extractStridedSlice S64x384 ![0, 4992] x slices_S64x6144_o0_4992_S64x384)) (extractStridedSlice S64x384 ![0, 5376] x slices_S64x6144_o0_5376_S64x384)) (extractStridedSlice S64x384 ![0, 5760] x slices_S64x6144_o0_5760_S64x384))

theorem fold16_apply (x : V64) (t : Fin 64) (d : Fin 384) : fold16 x (ix2 t d) = ∑ n : Fin 16, x (ix2 t (lane n d)) := by
  rw [sum16]
  rw [← slice_lane x 0 slices_S64x6144_o0_0_S64x384 0 rfl t d, ← slice_lane x 384 slices_S64x6144_o0_384_S64x384 1 rfl t d, ← slice_lane x 768 slices_S64x6144_o0_768_S64x384 2 rfl t d, ← slice_lane x 1152 slices_S64x6144_o0_1152_S64x384 3 rfl t d, ← slice_lane x 1536 slices_S64x6144_o0_1536_S64x384 4 rfl t d, ← slice_lane x 1920 slices_S64x6144_o0_1920_S64x384 5 rfl t d, ← slice_lane x 2304 slices_S64x6144_o0_2304_S64x384 6 rfl t d, ← slice_lane x 2688 slices_S64x6144_o0_2688_S64x384 7 rfl t d, ← slice_lane x 3072 slices_S64x6144_o0_3072_S64x384 8 rfl t d, ← slice_lane x 3456 slices_S64x6144_o0_3456_S64x384 9 rfl t d, ← slice_lane x 3840 slices_S64x6144_o0_3840_S64x384 10 rfl t d, ← slice_lane x 4224 slices_S64x6144_o0_4224_S64x384 11 rfl t d, ← slice_lane x 4608 slices_S64x6144_o0_4608_S64x384 12 rfl t d, ← slice_lane x 4992 slices_S64x6144_o0_4992_S64x384 13 rfl t d, ← slice_lane x 5376 slices_S64x6144_o0_5376_S64x384 14 rfl t d, ← slice_lane x 5760 slices_S64x6144_o0_5760_S64x384 15 rfl t d]
  rfl

theorem fY_apply (t : Fin 64) (d : Fin 384) : fY v4 v6 h dt g bm cm (ix2 t d) =
    ∑ n : Fin 16, fH v4 v6 h dt g bm (ix2 t (lane n d)) * row16 v6 cm (ix2 t (lane n d)) := by
  have e : fY v4 v6 h dt g bm cm = shapeCast S64x384 (fold16 (mulf (fH v4 v6 h dt g bm) (row16 v6 cm))) shapeCasts_S64x384_S64x384 := rfl
  rw [e, shapeCast_self, fold16_apply]
  rfl

theorem rY_apply (t : Fin 64) (d : Fin 384) : rY v4 v6 h dt g bm cm (ix2 t d) =
    ∑ n : Fin 16, rH v4 v6 h dt g bm (ix2 t (lane n d)) * row16 v6 cm (ix2 t (lane n d)) := by
  have e : rY v4 v6 h dt g bm cm = shapeCast S64x384 (fold16 (mulf (rH v4 v6 h dt g bm) (row16 v6 cm))) shapeCasts_S64x384_S64x384 := rfl
  rw [e, shapeCast_self, fold16_apply]
  rfl
end

end Cert.KernelIdeal.Scan
-- ==== Proof.Stream.lean ====
module

public import proofs.«01_k».proof.Proof.Lanes

/-
A whole stream: 18 blocks, forward and backward, are one recurrence over 1152 steps per state element.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Arith

section
variable (v4 : FVec Ideal S1x6144 .f32) (v6 : FVec Ideal S16x6144 .f32) (init : FVec Ideal S1x6144 .f32)
  (DT G : Vec Ideal S1152x384 .f32) (BM CM : Vec Ideal S1152x16 .f32)

/-- The decay at step `t` of the forward scan. -/
def fDec (n : Fin 16) (d : Fin 384) (t : ℕ) : EReal :=
  Ideal.exp (DT (ix2 ⟨t % 1152, Nat.mod_lt _ (by decide)⟩ d) * v4 (ix2 0 (lane n d)))

/-- What step `t` of the forward scan adds. -/
def fAdd (n : Fin 16) (d : Fin 384) (t : ℕ) : EReal :=
  G (ix2 ⟨t % 1152, Nat.mod_lt _ (by decide)⟩ d) * BM (ix2 ⟨t % 1152, Nat.mod_lt _ (by decide)⟩ n)

/-- The decay at step `t` of the backward scan, which starts at the last row. -/
def rDec (n : Fin 16) (d : Fin 384) (t : ℕ) : EReal :=
  Ideal.exp (DT (ix2 ⟨1151 - t, by omega⟩ d) * v4 (ix2 0 (lane n d)))

/-- What step `t` of the backward scan adds. -/
def rAdd (n : Fin 16) (d : Fin 384) (t : ℕ) : EReal :=
  G (ix2 ⟨1151 - t, by omega⟩ d) * BM (ix2 ⟨1151 - t, by omega⟩ n)

theorem pick16 (f : Fin 16 → EReal) (n : Fin 16) : ∑ k : Fin 16, f k * (if k = n then (1 : EReal) else 0) = f n := by
  rw [Finset.sum_eq_single n]
  · rw [if_pos rfl, mul_one]
  · intro b _ hb; rw [if_neg hb, mul_zero]
  · intro h; exact absurd (Finset.mem_univ n) h

variable (hv : ∀ (k n : Fin 16) (d : Fin 384), v6 (ix2 k (lane n d)) = if k = n then (1 : EReal) else 0)
include hv

theorem row16_lane (x : FVec Ideal S64x16 .f32) (t : Fin 64) (n : Fin 16) (d : Fin 384) :
    row16 v6 x (ix2 t (lane n d)) = x (ix2 t n) := by
  rw [row16_apply]
  simp only [hv]
  exact pick16 (fun k => x (ix2 t k)) n

theorem fSt_apply (n : Fin 16) (d : Fin 384) (hA : ∀ t, IsR (fDec v4 DT n d t)) (hB : ∀ t, IsR (fAdd G BM n d t))
    (hi : IsR (init (ix2 0 (lane n d)))) : ∀ k : ℕ,
    fSt v4 v6 init DT G BM k (ix2 0 (lane n d)) = rec1 (fDec v4 DT n d) (fAdd G BM n d) (init (ix2 0 (lane n d))) (64 * k) ∧
    ∀ (t : ℕ) (ht : t < 64), fH v4 v6 (fSt v4 v6 init DT G BM k) (rows384 DT (64 * k)) (rows384 G (64 * k)) (rows16 BM (64 * k))
      (ix2 ⟨t, ht⟩ (lane n d)) = rec1 (fDec v4 DT n d) (fAdd G BM n d) (init (ix2 0 (lane n d))) (64 * k + (t + 1)) := by
  have blk : ∀ k : ℕ, fSt v4 v6 init DT G BM k (ix2 0 (lane n d)) = rec1 (fDec v4 DT n d) (fAdd G BM n d) (init (ix2 0 (lane n d))) (64 * k) →
      ∀ (t : ℕ) (ht : t < 64), fH v4 v6 (fSt v4 v6 init DT G BM k) (rows384 DT (64 * k)) (rows384 G (64 * k)) (rows16 BM (64 * k))
        (ix2 ⟨t, ht⟩ (lane n d)) = rec1 (fDec v4 DT n d) (fAdd G BM n d) (init (ix2 0 (lane n d))) (64 * k + (t + 1)) := by
    intro k hk t ht
    have hr : IsR (fSt v4 v6 init DT G BM k (ix2 0 (lane n d))) := by rw [hk]; exact rec1_real hA hB hi _
    rw [fH_apply v4 v6 _ _ _ _ (A := fun i => fDec v4 DT n d (64 * k + i)) (B := fun i => fAdd G BM n d (64 * k + i))
      (fun i => hA _) (fun i => hB _) hr ?_ ?_ t ht, rec1_add (fDec v4 DT n d) (fAdd G BM n d) (init (ix2 0 (lane n d))) (64 * k) (t + 1), hk]
    · intro i hi'
      rw [decay_apply]; rfl
    · intro i hi'
      unfold drive
      rw [drive_apply, ← row16_apply, row16_lane v6 hv]; rfl
  intro k
  induction k with
  | zero => exact ⟨rfl, blk 0 rfl⟩
  | succ k ih =>
    have e : fSt v4 v6 init DT G BM (k + 1) (ix2 0 (lane n d)) = rec1 (fDec v4 DT n d) (fAdd G BM n d) (init (ix2 0 (lane n d))) (64 * (k + 1)) := by
      show fN v4 v6 (fSt v4 v6 init DT G BM k) (rows384 DT (64 * k)) (rows384 G (64 * k)) (rows16 BM (64 * k)) (ix2 0 (lane n d)) = _
      rw [fN_eq]
      exact ih.2 63 (by omega)
    exact ⟨e, blk (k + 1) e⟩

/-- The forward scan's plane: per row and channel, the states against the read-out. -/
theorem fOut_apply (r : Fin 1152) (d : Fin 384) (hA : ∀ n t, IsR (fDec v4 DT n d t)) (hB : ∀ n t, IsR (fAdd G BM n d t))
    (hi : ∀ n, IsR (init (ix2 0 (lane n d)))) :
    fOut v4 v6 init DT G BM CM (ix2 r d) =
      ∑ n : Fin 16, rec1 (fDec v4 DT n d) (fAdd G BM n d) (init (ix2 0 (lane n d))) (r.val + 1) * CM (ix2 r n) := by
  show fY v4 v6 (fSt v4 v6 init DT G BM (r.val / 64)) (rows384 DT (64 * (r.val / 64))) (rows384 G (64 * (r.val / 64)))
    (rows16 BM (64 * (r.val / 64))) (rows16 CM (64 * (r.val / 64))) (ix2 ⟨r.val % 64, Nat.mod_lt _ (by decide)⟩ d) = _
  rw [fY_apply]
  refine Finset.sum_congr rfl fun n _ => ?_
  rw [(fSt_apply v4 v6 init DT G BM hv n d (hA n) (hB n) (hi n) (r.val / 64)).2 (r.val % 64) (Nat.mod_lt _ (by decide)),
    row16_lane v6 hv, show 64 * (r.val / 64) + (r.val % 64 + 1) = r.val + 1 from by omega]
  congr 1
  show CM (ix2 ⟨(64 * (r.val / 64) + r.val % 64) % 1152, _⟩ n) = _
  congr 2
  apply Fin.ext
  show (64 * (r.val / 64) + r.val % 64) % 1152 = r.val
  have := r.isLt
  omega

theorem rSt_apply (n : Fin 16) (d : Fin 384) (hA : ∀ t, IsR (rDec v4 DT n d t)) (hB : ∀ t, IsR (rAdd G BM n d t))
    (hi : IsR (init (ix2 0 (lane n d)))) : ∀ k : ℕ, k < 18 →
    rSt v4 v6 init DT G BM k (ix2 0 (lane n d)) = rec1 (rDec v4 DT n d) (rAdd G BM n d) (init (ix2 0 (lane n d))) (64 * k) ∧
    ∀ (t : ℕ) (ht : t < 64), rH v4 v6 (rSt v4 v6 init DT G BM k) (rows384 DT (64 * (17 - k))) (rows384 G (64 * (17 - k))) (rows16 BM (64 * (17 - k)))
      (ix2 ⟨63 - t, by omega⟩ (lane n d)) = rec1 (rDec v4 DT n d) (rAdd G BM n d) (init (ix2 0 (lane n d))) (64 * k + (t + 1)) := by
  have blk : ∀ k : ℕ, k < 18 → rSt v4 v6 init DT G BM k (ix2 0 (lane n d)) = rec1 (rDec v4 DT n d) (rAdd G BM n d) (init (ix2 0 (lane n d))) (64 * k) →
      ∀ (t : ℕ) (ht : t < 64), rH v4 v6 (rSt v4 v6 init DT G BM k) (rows384 DT (64 * (17 - k))) (rows384 G (64 * (17 - k))) (rows16 BM (64 * (17 - k)))
        (ix2 ⟨63 - t, by omega⟩ (lane n d)) = rec1 (rDec v4 DT n d) (rAdd G BM n d) (init (ix2 0 (lane n d))) (64 * k + (t + 1)) := by
    intro k hk18 hk t ht
    have hr : IsR (rSt v4 v6 init DT G BM k (ix2 0 (lane n d))) := by rw [hk]; exact rec1_real hA hB hi _
    have row : ∀ i : ℕ, i < 64 → (64 * (17 - k) + (63 - i)) % 1152 = 1151 - (64 * k + i) := by intro i hi'; omega
    rw [rH_apply v4 v6 _ _ _ _ (A := fun i => rDec v4 DT n d (64 * k + i)) (B := fun i => rAdd G BM n d (64 * k + i))
      (fun i => hA _) (fun i => hB _) hr ?_ ?_ t ht, rec1_add (rDec v4 DT n d) (rAdd G BM n d) (init (ix2 0 (lane n d))) (64 * k) (t + 1), hk]
    · intro i hi'
      rw [decay_apply]
      show Ideal.exp (DT (ix2 ⟨(64 * (17 - k) + (63 - i)) % 1152, _⟩ d) * _) = Ideal.exp (DT (ix2 ⟨1151 - (64 * k + i), _⟩ d) * _)
      simp only [row i hi']
    · intro i hi'
      unfold drive
      rw [drive_apply, ← row16_apply, row16_lane v6 hv]
      show G (ix2 ⟨(64 * (17 - k) + (63 - i)) % 1152, _⟩ d) * BM (ix2 ⟨(64 * (17 - k) + (63 - i)) % 1152, _⟩ n) =
        G (ix2 ⟨1151 - (64 * k + i), _⟩ d) * BM (ix2 ⟨1151 - (64 * k + i), _⟩ n)
      simp only [row i hi']
  intro k
  induction k with
  | zero => exact fun h => ⟨rfl, blk 0 h rfl⟩
  | succ k ih =>
    intro hk
    have e : rSt v4 v6 init DT G BM (k + 1) (ix2 0 (lane n d)) = rec1 (rDec v4 DT n d) (rAdd G BM n d) (init (ix2 0 (lane n d))) (64 * (k + 1)) := by
      show rN v4 v6 (rSt v4 v6 init DT G BM k) (rows384 DT (64 * (17 - k))) (rows384 G (64 * (17 - k))) (rows16 BM (64 * (17 - k))) (ix2 0 (lane n d)) = _
      rw [rN_eq]
      exact (ih (by omega)).2 63 (by omega)
    exact ⟨e, blk (k + 1) hk e⟩

/-- The backward scan's plane. -/
theorem rOut_apply (r : Fin 1152) (d : Fin 384) (hA : ∀ n t, IsR (rDec v4 DT n d t)) (hB : ∀ n t, IsR (rAdd G BM n d t))
    (hi : ∀ n, IsR (init (ix2 0 (lane n d)))) :
    rOut v4 v6 init DT G BM CM (ix2 r d) =
      ∑ n : Fin 16, rec1 (rDec v4 DT n d) (rAdd G BM n d) (init (ix2 0 (lane n d))) (1151 - r.val + 1) * CM (ix2 r n) := by
  show rY v4 v6 (rSt v4 v6 init DT G BM (17 - r.val / 64)) (rows384 DT (64 * (r.val / 64))) (rows384 G (64 * (r.val / 64)))
    (rows16 BM (64 * (r.val / 64))) (rows16 CM (64 * (r.val / 64))) (ix2 ⟨r.val % 64, Nat.mod_lt _ (by decide)⟩ d) = _
  have hr := r.isLt
  rw [rY_apply]
  refine Finset.sum_congr rfl fun n _ => ?_
  have e := (rSt_apply v4 v6 init DT G BM hv n d (hA n) (hB n) (hi n) (17 - r.val / 64) (by omega)).2 (63 - r.val % 64) (by omega)
  have i1 : 17 - (17 - r.val / 64) = r.val / 64 := by omega
  have i2 : 63 - (63 - r.val % 64) = r.val % 64 := by omega
  simp only [i1, i2] at e
  rw [e, row16_lane v6 hv, show 64 * (17 - r.val / 64) + (63 - r.val % 64 + 1) = 1151 - r.val + 1 from by omega]
  congr 1
  show CM (ix2 ⟨(64 * (r.val / 64) + r.val % 64) % 1152, _⟩ n) = _
  congr 2
  apply Fin.ext
  show (64 * (r.val / 64) + r.val % 64) % 1152 = r.val
  omega

end

end Cert.KernelIdeal.Scan
-- ==== Proof.Spec.lean ====
module

public import proofs.«01_k».proof.Proof.Arith

/-
The selective scan of one stream, element by element over the extended reals, and the law by which two directions
projected together equal the two projected apart.
-/

@[expose] public section

noncomputable section

namespace Cert.Spec

open Idealize.ShloMosaic Cert.Arith

/-- The layer's weights, by element. -/
structure Wt where
  w1 : Fin 768 → Fin 192 → EReal
  cw : Fin 4 → Fin 384 → EReal
  cb : Fin 384 → EReal
  xw : Fin 44 → Fin 384 → EReal
  dw : Fin 384 → Fin 12 → EReal
  db : Fin 384 → EReal
  al : Fin 384 → Fin 16 → EReal
  dv : Fin 384 → EReal
  ow : Fin 192 → Fin 384 → EReal

/-- Every weight but the rates is a real number. -/
structure Wt.Real (w : Wt) : Prop where
  w1 : ∀ e k, IsR (w.w1 e k)
  cw : ∀ k d, IsR (w.cw k d)
  cb : ∀ d, IsR (w.cb d)
  xw : ∀ j d, IsR (w.xw j d)
  dw : ∀ d k, IsR (w.dw d k)
  db : ∀ d, IsR (w.db d)
  dv : ∀ d, IsR (w.dv d)
  ow : ∀ c d, IsR (w.ow c d)

/-- A row number read backward. -/
def back (r : Fin 1152) : Fin 1152 := ⟨1151 - r.val, by omega⟩

variable (w : Wt) (X : Fin 1152 → Fin 192 → EReal)

/-- The input projection. -/
def proj (e : Fin 768) (t : Fin 1152) : EReal := ∑ k : Fin 192, X t k * w.w1 e k

/-- The projected stream. -/
def px (t : Fin 1152) (d : Fin 384) : EReal := proj w X ⟨d.val, by omega⟩ t

/-- The gate. -/
def gate (t : Fin 1152) (d : Fin 384) : EReal := proj w X ⟨384 + d.val, by omega⟩ t

/-- The row that tap `k` of the convolution reads: three rows of zeros stand before the first. -/
def tap (k : ℕ) (hk : k < 4) (t : Fin 1152) (d : Fin 384) : EReal :=
  if h : t.val + k < 3 then 0 else px w X ⟨t.val + k - 3, by omega⟩ d

/-- The convolution. -/
def cv (t : Fin 1152) (d : Fin 384) : EReal :=
  ((((0 + tap w X 0 (by decide) t d * w.cw 0 d) + tap w X 1 (by decide) t d * w.cw 1 d) + tap w X 2 (by decide) t d * w.cw 2 d)
    + tap w X 3 (by decide) t d * w.cw 3 d) + w.cb d

def xc (t : Fin 1152) (d : Fin 384) : EReal := silu (cv w X t d)

def xd (t : Fin 1152) (j : Fin 44) : EReal := ∑ d : Fin 384, xc w X t d * w.xw j d

/-- The step size before its map. -/
def dtRaw (t : Fin 1152) (d : Fin 384) : EReal := (∑ k : Fin 12, xd w X t ⟨k.val, by omega⟩ * w.dw d k) + w.db d

def dt (t : Fin 1152) (d : Fin 384) : EReal := softplus (dtRaw w X t d)

/-- The input coupling. -/
def bm (t : Fin 1152) (n : Fin 16) : EReal := xd w X t ⟨12 + n.val, by omega⟩

/-- The output coupling. -/
def cm (t : Fin 1152) (n : Fin 16) : EReal := xd w X t ⟨28 + n.val, by omega⟩

def dec (n : Fin 16) (d : Fin 384) (i : ℕ) : EReal :=
  Ideal.exp (dt w X ⟨i % 1152, Nat.mod_lt _ (by decide)⟩ d * (0 - Ideal.exp (w.al d n)))

def drv (n : Fin 16) (d : Fin 384) (i : ℕ) : EReal :=
  (dt w X ⟨i % 1152, Nat.mod_lt _ (by decide)⟩ d * xc w X ⟨i % 1152, Nat.mod_lt _ (by decide)⟩ d) * bm w X ⟨i % 1152, Nat.mod_lt _ (by decide)⟩ n

/-- The state before step `i`. -/
def st (n : Fin 16) (d : Fin 384) (i : ℕ) : EReal := rec1 (dec w X n d) (drv w X n d) 0 i

/-- The scan's output. -/
def ys (t : Fin 1152) (d : Fin 384) : EReal := ∑ n : Fin 16, st w X n d (t.val + 1) * cm w X t n

/-- One direction's result. -/
def out1 (t : Fin 1152) (c : Fin 192) : EReal :=
  ∑ d : Fin 384, ((ys w X t d + xc w X t d * w.dv d) * silu (gate w X t d)) * w.ow c d

/-- Both directions, added before the projection. -/
def out2 (t : Fin 1152) (c : Fin 192) : EReal :=
  ∑ d : Fin 384, (((ys w X t d + ys w (X ∘ back) (back t) d) + (xc w X t d + xc w (X ∘ back) (back t) d) * w.dv d)
    * silu (gate w X t d)) * w.ow c d

theorem back_back (t : Fin 1152) : back (back t) = t := by
  apply Fin.ext; show 1151 - (1151 - t.val) = t.val; omega

theorem px_back (t : Fin 1152) (d : Fin 384) : px w (X ∘ back) t d = px w X (back t) d := rfl

theorem gate_back (t : Fin 1152) (d : Fin 384) : gate w (X ∘ back) (back t) d = gate w X t d := by
  show proj w X _ (back (back t)) = _
  rw [back_back]; rfl

section
variable {w X} (hw : w.Real) (hX : ∀ t k, IsR (X t k))
include hw hX

theorem proj_real (e : Fin 768) (t : Fin 1152) : IsR (proj w X e t) := IsR.sum _ _ fun k => (hX t k).mul (hw.w1 e k)

theorem tap_real (k : ℕ) (hk : k < 4) (t : Fin 1152) (d : Fin 384) : IsR (tap w X k hk t d) := by
  unfold tap; split
  · exact IsR.zero
  · exact proj_real hw hX _ _

theorem xc_real (t : Fin 1152) (d : Fin 384) : IsR (xc w X t d) :=
  (((((IsR.zero.add ((tap_real hw hX _ _ _ _).mul (hw.cw _ _))).add ((tap_real hw hX _ _ _ _).mul (hw.cw _ _))).add
    ((tap_real hw hX _ _ _ _).mul (hw.cw _ _))).add ((tap_real hw hX _ _ _ _).mul (hw.cw _ _))).add (hw.cb d)).silu

theorem xd_real (t : Fin 1152) (j : Fin 44) : IsR (xd w X t j) := IsR.sum _ _ fun d => (xc_real hw hX t d).mul (hw.xw j d)

theorem dtRaw_real (t : Fin 1152) (d : Fin 384) : IsR (dtRaw w X t d) :=
  (IsR.sum _ _ fun k => (xd_real hw hX t _).mul (hw.dw d k)).add (hw.db d)

theorem dt_pos (t : Fin 1152) (d : Fin 384) : ∃ r : ℝ, 0 ≤ r ∧ dt w X t d = (r : EReal) := softplus_real (dtRaw_real hw hX t d)

theorem dt_real (t : Fin 1152) (d : Fin 384) : IsR (dt w X t d) := let ⟨r, _, h⟩ := dt_pos hw hX t d; ⟨r, h⟩

theorem dec_real (n : Fin 16) (d : Fin 384) (i : ℕ) : IsR (dec w X n d i) := decay_real (dt_pos hw hX _ d)

theorem drv_real (n : Fin 16) (d : Fin 384) (i : ℕ) : IsR (drv w X n d i) :=
  ((dt_real hw hX _ d).mul (xc_real hw hX _ d)).mul (xd_real hw hX _ _)

theorem ys_real (t : Fin 1152) (d : Fin 384) : IsR (ys w X t d) :=
  IsR.sum _ _ fun n => (rec1_real (dec_real hw hX n d) (drv_real hw hX n d) IsR.zero _).mul (xd_real hw hX t _)

theorem gate_real (t : Fin 1152) (d : Fin 384) : IsR (gate w X t d) := proj_real hw hX _ _

end

/-- Two directions projected together are the two projected apart. -/
theorem out2_eq (hw : w.Real) (hX : ∀ t k, IsR (X t k)) (t : Fin 1152) (c : Fin 192) :
    out2 w X t c = out1 w X t c + out1 w (X ∘ back) (back t) c := by
  have hX' : ∀ t k, IsR ((X ∘ back) t k) := fun t k => hX _ k
  unfold out2 out1
  rw [← Finset.sum_add_distrib]
  refine Finset.sum_congr rfl fun d _ => ?_
  rw [gate_back]
  obtain ⟨a, ha⟩ := ys_real hw hX t d
  obtain ⟨b, hb⟩ := ys_real hw hX' (back t) d
  obtain ⟨p, hp⟩ := xc_real hw hX t d
  obtain ⟨q, hq⟩ := xc_real hw hX' (back t) d
  obtain ⟨v, hv⟩ := hw.dv d
  obtain ⟨s, hs⟩ := (gate_real hw hX t d).silu
  obtain ⟨o, ho⟩ := hw.ow c d
  rw [ha, hb, hp, hq, hv, hs, ho]
  simp only [← EReal.coe_mul, ← EReal.coe_add]
  congr 1
  ring

end Cert.Spec
-- ==== Proof.Planes.lean ====
module

public import proofs.«01_k».proof.Proof.Stream
public import proofs.«01_k».proof.Proof.Out
public import proofs.«01_k».proof.Proof.Spec

/-
The planes the kernel computes for one batch row, element by element, are those of the specification.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Arith Cert.Spec

section
variable (X : FVec Ideal S1x1152x192 .f32) (W : FVec Ideal S768x192 .f32) (K0 K1 K2 K3 : FVec Ideal S1x384 .f32)
  (CB : FVec Ideal S1x384 .f32) (XW : FVec Ideal S44x384 .f32) (DW : FVec Ideal S384x12 .f32) (DB : FVec Ideal S1x384 .f32)
  (AL : FVec Ideal S1x6144 .f32) (EM : FVec Ideal S16x6144 .f32) (DV : FVec Ideal S1x384 .f32) (OW : FVec Ideal S192x384 .f32)

/-- The staged blocks hold the weights `w`. -/
structure Holds (w : Wt) : Prop where
  w1 : ∀ e k, W (ix2 e k) = w.w1 e k
  k0 : ∀ d, K0 (ix2 0 d) = w.cw 0 d
  k1 : ∀ d, K1 (ix2 0 d) = w.cw 1 d
  k2 : ∀ d, K2 (ix2 0 d) = w.cw 2 d
  k3 : ∀ d, K3 (ix2 0 d) = w.cw 3 d
  cb : ∀ d, CB (ix2 0 d) = w.cb d
  xw : ∀ j d, XW (ix2 j d) = w.xw j d
  dw : ∀ d k, DW (ix2 d k) = w.dw d k
  db : ∀ d, DB (ix2 0 d) = w.db d
  al : ∀ n d, AL (ix2 0 (lane n d)) = w.al d n
  em : ∀ (k n : Fin 16) (d : Fin 384), EM (ix2 k (lane n d)) = if k = n then (1 : EReal) else 0
  dv : ∀ d, DV (ix2 0 d) = w.dv d
  ow : ∀ c d, OW (ix2 c d) = w.ow c d

/-- The rows of the batch row. -/
def rows (t : Fin 1152) (k : Fin 192) : EReal := X (ix3 0 t k)

theorem pay46_apply (t : Fin 1152) (e : Fin 768) : k0_pay46 X W (ix2 t e) = ∑ k : Fin 192, X (ix3 0 t k) * W (ix2 e k) := by
  pointwise [k0_pay46]
  try rw [zero_add]

theorem pay47_apply (t : Fin 1152) (d : Fin 384) : k0_pay47 X W (ix2 t d) = k0_pay46 (F := Ideal) X W (ix2 t ⟨d.val, by omega⟩) := by
  generalize h : k0_pay46 (F := Ideal) X W = y
  unfold k0_pay47
  rw [h]
  pointwise

theorem pay48_apply (t : Fin 1152) (d : Fin 384) : k0_pay48 X W (ix2 t d) = k0_pay46 (F := Ideal) X W (ix2 t ⟨384 + d.val, by omega⟩) := by
  generalize h : k0_pay46 (F := Ideal) X W = y
  unfold k0_pay48
  rw [h]
  pointwise

/-- A slice of the plane padded in front. -/
theorem front_apply (x : FVec Ideal S1152x384 .f32) (k : ℕ) (hk : k < 4) (hs : Shape.Slices S1155x384 ![k, 0] S1152x384) (t : Fin 1152) (d : Fin 384) :
    extractStridedSlice S1152x384 ![k, 0] (concatenate S1155x384 0 [⟨S3x384, k0_pay49 (F := Ideal)⟩, ⟨S1152x384, x⟩] concatenates_S3x384_S1152x384_S1155x384_d0) hs (ix2 t d)
      = if h : t.val + k < 3 then (0 : EReal) else x (ix2 ⟨t.val + k - 3, by omega⟩ d) := by
  refine (extractStridedSlice_apply (s := S1155x384) (t := S1152x384) _ _ _ (ix2 t d) (ix2 ⟨k + t.val, by omega⟩ d) ?_).trans ?_
  · intro b
    match b with
    | 0 => rfl
    | 1 => show d.val = 0 + d.val; omega
  · split
    · rename_i h
      refine (concatenate_pair_apply_left (t := S1155x384) (s₁ := S3x384) (s₂ := S1152x384) 0 _ _ _ (ix2 ⟨k + t.val, by omega⟩ d) rfl (ix2 ⟨k + t.val, by omega⟩ d) ?_).trans ?_
      · intro b
        match b with
        | 0 => rfl
        | 1 => rfl
      · exact Ideal.ofBits_zero_f32
    · rename_i h
      refine (concatenate_pair_apply_right (t := S1155x384) (s₁ := S3x384) (s₂ := S1152x384) 0 _ _ _ (ix2 ⟨k + t.val, by omega⟩ d) rfl rfl (ix2 ⟨t.val + k - 3, by omega⟩ d) ?_ ?_).trans rfl
      · intro b hb
        match b with
        | 0 => exact absurd rfl hb
        | 1 => rfl
      · show t.val + k - 3 + 3 = k + t.val; omega

/-- A slice of the plane padded behind. -/
theorem behind_apply (x : FVec Ideal S1152x384 .f32) (k o : ℕ) (hk : k < 4) (ho : o + k = 3) (hs : Shape.Slices S1155x384 ![o, 0] S1152x384) (t : Fin 1152) (d : Fin 384) :
    extractStridedSlice S1152x384 ![o, 0] (concatenate S1155x384 0 [⟨S1152x384, x⟩, ⟨S3x384, k0_pay49 (F := Ideal)⟩] concatenates_S1152x384_S3x384_S1155x384_d0) hs (ix2 t d)
      = if h : (back t).val + k < 3 then (0 : EReal) else x (ix2 (back ⟨(back t).val + k - 3, by have := (back t).isLt; omega⟩) d) := by
  have hb : (back t).val = 1151 - t.val := rfl
  refine (extractStridedSlice_apply (s := S1155x384) (t := S1152x384) _ _ _ (ix2 t d) (ix2 ⟨o + t.val, by omega⟩ d) ?_).trans ?_
  · intro b
    match b with
    | 0 => rfl
    | 1 => show d.val = 0 + d.val; omega
  · split
    · rename_i h
      refine (concatenate_pair_apply_right (t := S1155x384) (s₁ := S1152x384) (s₂ := S3x384) 0 _ _ _ (ix2 ⟨o + t.val, by omega⟩ d) rfl rfl (ix2 ⟨o + t.val - 1152, by omega⟩ d) ?_ ?_).trans ?_
      · intro b hb
        match b with
        | 0 => exact absurd rfl hb
        | 1 => rfl
      · show o + t.val - 1152 + 1152 = o + t.val; omega
      · exact Ideal.ofBits_zero_f32
    · rename_i h
      have e : (⟨o + t.val, by omega⟩ : Fin 1152) = back ⟨(back t).val + k - 3, by omega⟩ := by
        apply Fin.ext
        show o + t.val = 1151 - ((back t).val + k - 3)
        omega
      rw [← e]
      refine (concatenate_pair_apply_left (t := S1155x384) (s₁ := S1152x384) (s₂ := S3x384) 0 _ _ _ (ix2 ⟨o + t.val, by omega⟩ d) rfl (ix2 ⟨o + t.val, by omega⟩ d) ?_).trans rfl
      intro b
      match b with
      | 0 => rfl
      | 1 => rfl

/-- One tap added to the sum so far. -/
def addTap (v : FVec Ideal S1152x384 .f32) (x : FVec Ideal S1152x384 .f32) (K : FVec Ideal S1x384 .f32) : FVec Ideal S1152x384 .f32 :=
  addf v (mulf x (broadcastTo S1152x384 (shapeCast S1x384 K shapeCasts_S1x384_S1x384) broadcasts_S1x384_S1152x384))

theorem addTap_apply (v x : FVec Ideal S1152x384 .f32) (K : FVec Ideal S1x384 .f32) (t : Fin 1152) (d : Fin 384) :
    addTap v x K (ix2 t d) = v (ix2 t d) + x (ix2 t d) * K (ix2 0 d) := by
  pointwise [addTap]

/-- The bias and the gate's function. -/
def act (v : FVec Ideal S1152x384 .f32) : FVec Ideal S1152x384 .f32 :=
  mulf (addf v (broadcastTo S1152x384 (shapeCast S1x384 CB shapeCasts_S1x384_S1x384) broadcasts_S1x384_S1152x384))
    (logistic (addf v (broadcastTo S1152x384 (shapeCast S1x384 CB shapeCasts_S1x384_S1x384) broadcasts_S1x384_S1152x384)))

theorem act_apply (v : FVec Ideal S1152x384 .f32) (t : Fin 1152) (d : Fin 384) :
    act CB v (ix2 t d) = silu (v (ix2 t d) + CB (ix2 0 d)) := by
  pointwise [act, silu]

theorem zero_apply (t : Fin 1152) (d : Fin 384) : (broadcast S1152x384 (FloatOps.ofBits FTy.f32 0x00000000#32 : Ideal .f32)) (ix2 t d) = (0 : EReal) :=
  Ideal.ofBits_zero_f32

theorem xcF_eq : xcF X W K0 K1 K2 K3 CB = act CB (addTap (addTap (addTap (addTap (broadcast S1152x384 (FloatOps.ofBits FTy.f32 0x00000000#32 : Ideal .f32))
    (extractStridedSlice S1152x384 ![0, 0] (k0_pay50 X W) slices_S1155x384_o0_0_S1152x384) K0)
    (extractStridedSlice S1152x384 ![1, 0] (k0_pay50 X W) slices_S1155x384_o1_0_S1152x384) K1)
    (extractStridedSlice S1152x384 ![2, 0] (k0_pay50 X W) slices_S1155x384_o2_0_S1152x384) K2)
    (extractStridedSlice S1152x384 ![3, 0] (k0_pay50 X W) slices_S1155x384_o3_0_S1152x384) K3) := rfl

theorem xcR_eq : xcR X W K0 K1 K2 K3 CB = act CB (addTap (addTap (addTap (addTap (broadcast S1152x384 (FloatOps.ofBits FTy.f32 0x00000000#32 : Ideal .f32))
    (extractStridedSlice S1152x384 ![3, 0] (k0_pay51 X W) slices_S1155x384_o3_0_S1152x384) K0)
    (extractStridedSlice S1152x384 ![2, 0] (k0_pay51 X W) slices_S1155x384_o2_0_S1152x384) K1)
    (extractStridedSlice S1152x384 ![1, 0] (k0_pay51 X W) slices_S1155x384_o1_0_S1152x384) K2)
    (extractStridedSlice S1152x384 ![0, 0] (k0_pay51 X W) slices_S1155x384_o0_0_S1152x384) K3) := rfl

/-- The narrow projection of a plane. -/
def narrow (v : FVec Ideal S1152x384 .f32) : FVec Ideal S1152x44 .f32 :=
  matmul dot_S1152x384_S44x384_S1152x44_1_1_0_0_n_n (some .fp32) v XW (constant S1152x44 .f32 0x00000000#32)

theorem narrow_apply (v : FVec Ideal S1152x384 .f32) (t : Fin 1152) (j : Fin 44) :
    narrow XW v (ix2 t j) = ∑ d : Fin 384, v (ix2 t d) * XW (ix2 j d) := by
  pointwise [narrow]
  try rw [zero_add]

/-- The step sizes' projection. -/
def wide (v : FVec Ideal S1152x44 .f32) : FVec Ideal S1152x384 .f32 :=
  addf (matmul dot_S1152x12_S384x12_S1152x384_1_1_0_0_n_n (some .fp32) (extractStridedSlice S1152x12 ![0, 0] v slices_S1152x44_o0_0_S1152x12) DW
    (constant S1152x384 .f32 0x00000000#32)) (broadcastTo S1152x384 (shapeCast S1x384 DB shapeCasts_S1x384_S1x384) broadcasts_S1x384_S1152x384)

theorem wide_apply (v : FVec Ideal S1152x44 .f32) (t : Fin 1152) (d : Fin 384) :
    wide DW DB v (ix2 t d) = (∑ k : Fin 12, v (ix2 t ⟨k.val, by omega⟩) * DW (ix2 d k)) + DB (ix2 0 d) := by
  pointwise [wide]
  try rw [zero_add]

theorem step_apply (v : FVec Ideal S1152x384 .f32) (t : Fin 1152) (d : Fin 384) :
    k0_pay76 v (ix2 t d) = softplus (v (ix2 t d)) := by
  pointwise [k0_pay76, softplus]
  rw [if_neg (fun h => h rfl)]
  rfl

theorem bmOf_apply (v : FVec Ideal S1152x44 .f32) (t : Fin 1152) (n : Fin 16) : k0_pay71 v (ix2 t n) = v (ix2 t ⟨12 + n.val, by omega⟩) := by
  pointwise [k0_pay71]

theorem cmOf_apply (v : FVec Ideal S1152x44 .f32) (t : Fin 1152) (n : Fin 16) : k0_pay72 v (ix2 t n) = v (ix2 t ⟨28 + n.val, by omega⟩) := by
  pointwise [k0_pay72]

theorem same384 (v : FVec Ideal S1152x384 .f32) : shapeCast S1152x384 v shapeCasts_S1152x384_S1152x384 = v := shapeCast_self _ _

theorem xdF_eq : xdF X W K0 K1 K2 K3 CB XW = narrow XW (xcF X W K0 K1 K2 K3 CB) := rfl
theorem xdR_eq : xdR X W K0 K1 K2 K3 CB XW = narrow XW (xcR X W K0 K1 K2 K3 CB) := rfl
theorem dtF_eq : dtF X W K0 K1 K2 K3 CB XW DW DB = k0_pay76 (wide DW DB (xdF X W K0 K1 K2 K3 CB XW)) :=
  (show _ = shapeCast S1152x384 (k0_pay76 (wide DW DB (xdF X W K0 K1 K2 K3 CB XW))) shapeCasts_S1152x384_S1152x384 from rfl).trans (same384 _)
theorem dtR_eq : dtR X W K0 K1 K2 K3 CB XW DW DB = k0_pay76 (wide DW DB (xdR X W K0 K1 K2 K3 CB XW)) :=
  (show _ = shapeCast S1152x384 (k0_pay76 (wide DW DB (xdR X W K0 K1 K2 K3 CB XW))) shapeCasts_S1152x384_S1152x384 from rfl).trans (same384 _)
theorem gF_eq : gF X W K0 K1 K2 K3 CB XW DW DB = (mulf (dtF (F := Ideal) X W K0 K1 K2 K3 CB XW DW DB) (xcF (F := Ideal) X W K0 K1 K2 K3 CB) : FVec Ideal S1152x384 .f32) := by
  rw [dtF_eq]
  exact (show _ = shapeCast S1152x384 (mulf (k0_pay76 (wide DW DB (xdF X W K0 K1 K2 K3 CB XW))) (xcF X W K0 K1 K2 K3 CB) : FVec Ideal S1152x384 .f32) shapeCasts_S1152x384_S1152x384 from rfl).trans (same384 _)
theorem gR_eq : gR X W K0 K1 K2 K3 CB XW DW DB = (mulf (dtR (F := Ideal) X W K0 K1 K2 K3 CB XW DW DB) (xcR (F := Ideal) X W K0 K1 K2 K3 CB) : FVec Ideal S1152x384 .f32) := by
  rw [dtR_eq]
  exact (show _ = shapeCast S1152x384 (mulf (k0_pay76 (wide DW DB (xdR X W K0 K1 K2 K3 CB XW))) (xcR X W K0 K1 K2 K3 CB) : FVec Ideal S1152x384 .f32) shapeCasts_S1152x384_S1152x384 from rfl).trans (same384 _)

theorem rate_apply (l : Fin 6144) : k0_pay44 (F := Ideal) AL (ix2 0 l) = 0 - Ideal.exp (AL (ix2 0 l)) := by
  pointwise [k0_pay44]

theorem emat_apply (k : Fin 16) (l : Fin 6144) : k0_pay45 EM (ix2 k l) = EM (ix2 k l) := by
  pointwise [k0_pay45]

theorem init_apply (l : Fin 6144) : (k0_pay110 : FVec Ideal S1x6144 .f32) (ix2 0 l) = (0 : EReal) := Ideal.ofBits_zero_f32

theorem mix_apply (z a b p q : FVec Ideal S1152x384 .f32) (t : Fin 1152) (d : Fin 384) :
    k0_pay111 z a b p q DV (ix2 t d) =
      ((a (ix2 t d) + b (ix2 t d)) + (p (ix2 t d) + q (ix2 t d)) * DV (ix2 0 d)) * silu (z (ix2 t d)) := by
  pointwise [k0_pay111, silu]

theorem last_apply (v : FVec Ideal S1152x384 .f32) (t : Fin 1152) (c : Fin 192) :
    k0_pay1 v OW (ix3 0 t c) = ∑ d : Fin 384, v (ix2 t d) * OW (ix2 c d) := by
  pointwise [k0_pay1]
  try rw [zero_add]

section
variable {X W K0 K1 K2 K3 CB XW DW DB AL EM DV OW} {w : Wt} (hh : Holds W K0 K1 K2 K3 CB XW DW DB AL EM DV OW w)
include hh

theorem xz_spec (t : Fin 1152) (e : Fin 768) : k0_pay46 (F := Ideal) X W (ix2 t e) = proj w (rows X) e t := by
  rw [pay46_apply]
  exact Finset.sum_congr rfl fun k _ => by rw [hh.w1]; rfl

theorem x_spec (t : Fin 1152) (d : Fin 384) : k0_pay47 (F := Ideal) X W (ix2 t d) = px w (rows X) t d := by
  rw [pay47_apply, xz_spec hh]; rfl

theorem z_spec (t : Fin 1152) (d : Fin 384) : zV (F := Ideal) X W (ix2 t d) = gate w (rows X) t d := by
  unfold zV
  rw [pay48_apply, xz_spec hh]; rfl

theorem front_spec (k : ℕ) (hk : k < 4) (hs : Shape.Slices S1155x384 ![k, 0] S1152x384) (t : Fin 1152) (d : Fin 384) :
    extractStridedSlice S1152x384 ![k, 0] (k0_pay50 (F := Ideal) X W) hs (ix2 t d) = tap w (rows X) k hk t d := by
  unfold k0_pay50
  refine (front_apply (k0_pay47 (F := Ideal) X W) k hk hs t d).trans ?_
  unfold tap
  split
  · rfl
  · rw [x_spec hh]

theorem behind_spec (k o : ℕ) (hk : k < 4) (ho : o + k = 3) (hs : Shape.Slices S1155x384 ![o, 0] S1152x384) (t : Fin 1152) (d : Fin 384) :
    extractStridedSlice S1152x384 ![o, 0] (k0_pay51 (F := Ideal) X W) hs (ix2 t d) = tap w (rows X ∘ back) k hk (back t) d := by
  unfold k0_pay51
  refine (behind_apply (k0_pay47 (F := Ideal) X W) k o hk ho hs t d).trans ?_
  unfold tap
  split
  · rfl
  · rw [x_spec hh, px_back]

theorem xcF_spec (t : Fin 1152) (d : Fin 384) : xcF (F := Ideal) X W K0 K1 K2 K3 CB (ix2 t d) = xc w (rows X) t d := by
  rw [xcF_eq, act_apply, addTap_apply, addTap_apply, addTap_apply, addTap_apply, front_spec hh 0 (by decide), front_spec hh 1 (by decide),
    front_spec hh 2 (by decide), front_spec hh 3 (by decide), zero_apply, hh.k0, hh.k1, hh.k2, hh.k3, hh.cb]
  rfl

theorem xcR_spec (t : Fin 1152) (d : Fin 384) : xcR (F := Ideal) X W K0 K1 K2 K3 CB (ix2 t d) = xc w (rows X ∘ back) (back t) d := by
  rw [xcR_eq, act_apply, addTap_apply, addTap_apply, addTap_apply, addTap_apply, behind_spec hh 0 3 (by decide) rfl, behind_spec hh 1 2 (by decide) rfl,
    behind_spec hh 2 1 (by decide) rfl, behind_spec hh 3 0 (by decide) rfl, zero_apply, hh.k0, hh.k1, hh.k2, hh.k3, hh.cb]
  rfl

theorem xdF_spec (t : Fin 1152) (j : Fin 44) : xdF (F := Ideal) X W K0 K1 K2 K3 CB XW (ix2 t j) = xd w (rows X) t j := by
  rw [xdF_eq, narrow_apply]
  exact Finset.sum_congr rfl fun d _ => by rw [xcF_spec hh, hh.xw]

theorem dtF_spec (t : Fin 1152) (d : Fin 384) : dtF (F := Ideal) X W K0 K1 K2 K3 CB XW DW DB (ix2 t d) = dt w (rows X) t d := by
  rw [dtF_eq, step_apply, wide_apply, hh.db]
  unfold dt dtRaw
  congr 2
  exact Finset.sum_congr rfl fun k _ => by rw [xdF_spec hh, hh.dw]

theorem gF_spec (t : Fin 1152) (d : Fin 384) : gF (F := Ideal) X W K0 K1 K2 K3 CB XW DW DB (ix2 t d) = dt w (rows X) t d * xc w (rows X) t d := by
  rw [gF_eq, ← dtF_spec hh, ← xcF_spec hh]; rfl

theorem bmF_spec (t : Fin 1152) (n : Fin 16) : bmF (F := Ideal) X W K0 K1 K2 K3 CB XW (ix2 t n) = bm w (rows X) t n := by
  refine (bmOf_apply (xdF (F := Ideal) X W K0 K1 K2 K3 CB XW) t n).trans ?_
  rw [xdF_spec hh]; rfl

theorem cmF_spec (t : Fin 1152) (n : Fin 16) : cmF (F := Ideal) X W K0 K1 K2 K3 CB XW (ix2 t n) = cm w (rows X) t n := by
  refine (cmOf_apply (xdF (F := Ideal) X W K0 K1 K2 K3 CB XW) t n).trans ?_
  rw [xdF_spec hh]; rfl

theorem xdR_spec (t : Fin 1152) (j : Fin 44) : xdR (F := Ideal) X W K0 K1 K2 K3 CB XW (ix2 t j) = xd w (rows X ∘ back) (back t) j := by
  rw [xdR_eq, narrow_apply]
  exact Finset.sum_congr rfl fun d _ => by rw [xcR_spec hh, hh.xw]

theorem dtR_spec (t : Fin 1152) (d : Fin 384) : dtR (F := Ideal) X W K0 K1 K2 K3 CB XW DW DB (ix2 t d) = dt w (rows X ∘ back) (back t) d := by
  rw [dtR_eq, step_apply, wide_apply, hh.db]
  unfold dt dtRaw
  congr 2
  exact Finset.sum_congr rfl fun k _ => by rw [xdR_spec hh, hh.dw]

theorem gR_spec (t : Fin 1152) (d : Fin 384) : gR (F := Ideal) X W K0 K1 K2 K3 CB XW DW DB (ix2 t d) = dt w (rows X ∘ back) (back t) d * xc w (rows X ∘ back) (back t) d := by
  rw [gR_eq, ← dtR_spec hh, ← xcR_spec hh]; rfl

theorem bmR_spec (t : Fin 1152) (n : Fin 16) : bmR (F := Ideal) X W K0 K1 K2 K3 CB XW (ix2 t n) = bm w (rows X ∘ back) (back t) n := by
  refine (bmOf_apply (xdR (F := Ideal) X W K0 K1 K2 K3 CB XW) t n).trans ?_
  rw [xdR_spec hh]; rfl

theorem cmR_spec (t : Fin 1152) (n : Fin 16) : cmR (F := Ideal) X W K0 K1 K2 K3 CB XW (ix2 t n) = cm w (rows X ∘ back) (back t) n := by
  refine (cmOf_apply (xdR (F := Ideal) X W K0 K1 K2 K3 CB XW) t n).trans ?_
  rw [xdR_spec hh]; rfl

theorem rate_spec (n : Fin 16) (d : Fin 384) : k0_pay44 (F := Ideal) AL (ix2 0 (lane n d)) = 0 - Ideal.exp (w.al d n) := by
  rw [rate_apply, hh.al]

theorem emat_spec (k n : Fin 16) (d : Fin 384) : k0_pay45 (F := Ideal) EM (ix2 k (lane n d)) = if k = n then (1 : EReal) else 0 := by
  rw [emat_apply, hh.em]

theorem fDec_spec (n : Fin 16) (d : Fin 384) : fDec (k0_pay44 (F := Ideal) AL) (dtF (F := Ideal) X W K0 K1 K2 K3 CB XW DW DB) n d = dec w (rows X) n d := by
  funext i
  unfold fDec dec
  rw [rate_spec hh, dtF_spec hh]

theorem fAdd_spec (n : Fin 16) (d : Fin 384) : fAdd (gF (F := Ideal) X W K0 K1 K2 K3 CB XW DW DB) (bmF (F := Ideal) X W K0 K1 K2 K3 CB XW) n d = drv w (rows X) n d := by
  funext i
  unfold fAdd drv
  rw [gF_spec hh, bmF_spec hh]

theorem back_row (i : ℕ) (hi : i < 1152) : back ⟨1151 - i, by omega⟩ = ⟨i % 1152, Nat.mod_lt _ (by decide)⟩ := by
  apply Fin.ext; show 1151 - (1151 - i) = i % 1152; omega

theorem rDec_spec (n : Fin 16) (d : Fin 384) (i : ℕ) (hi : i < 1152) :
    rDec (k0_pay44 (F := Ideal) AL) (dtR (F := Ideal) X W K0 K1 K2 K3 CB XW DW DB) n d i = dec w (rows X ∘ back) n d i := by
  unfold rDec dec
  rw [rate_spec hh, dtR_spec hh, back_row hh i hi]

theorem rAdd_spec (n : Fin 16) (d : Fin 384) (i : ℕ) (hi : i < 1152) :
    rAdd (gR (F := Ideal) X W K0 K1 K2 K3 CB XW DW DB) (bmR (F := Ideal) X W K0 K1 K2 K3 CB XW) n d i = drv w (rows X ∘ back) n d i := by
  unfold rAdd drv
  rw [gR_spec hh, bmR_spec hh, back_row hh i hi]

variable (hw : w.Real) (hX : ∀ t k, IsR (rows X t k))
include hw hX

theorem ysF_spec (t : Fin 1152) (d : Fin 384) :
    ysF (F := Ideal) X W K0 K1 K2 K3 CB XW DW DB AL EM (ix2 t d) = ys w (rows X) t d := by
  unfold ysF ys
  rw [fOut_apply _ _ _ _ _ _ _ (emat_spec hh) t d ?_ ?_ ?_]
  · refine Finset.sum_congr rfl fun n _ => ?_
    rw [fDec_spec hh, fAdd_spec hh, init_apply, cmF_spec hh]; rfl
  · intro n i; rw [fDec_spec hh]; exact dec_real hw hX n d i
  · intro n i; rw [fAdd_spec hh]; exact drv_real hw hX n d i
  · intro n; rw [init_apply]; exact IsR.zero

theorem rDec_real (n : Fin 16) (d : Fin 384) (i : ℕ) : IsR (rDec (k0_pay44 (F := Ideal) AL) (dtR (F := Ideal) X W K0 K1 K2 K3 CB XW DW DB) n d i) := by
  have hX' : ∀ t k, IsR ((rows X ∘ back) t k) := fun t k => hX _ k
  unfold rDec
  rw [rate_spec hh, dtR_spec hh]
  exact decay_real (dt_pos hw hX' _ d)

theorem rAdd_real (n : Fin 16) (d : Fin 384) (i : ℕ) : IsR (rAdd (gR (F := Ideal) X W K0 K1 K2 K3 CB XW DW DB) (bmR (F := Ideal) X W K0 K1 K2 K3 CB XW) n d i) := by
  have hX' : ∀ t k, IsR ((rows X ∘ back) t k) := fun t k => hX _ k
  unfold rAdd
  rw [gR_spec hh, bmR_spec hh]
  exact ((dt_real hw hX' _ d).mul (xc_real hw hX' _ d)).mul (xd_real hw hX' _ _)

theorem ysR_spec (t : Fin 1152) (d : Fin 384) :
    ysR (F := Ideal) X W K0 K1 K2 K3 CB XW DW DB AL EM (ix2 t d) = ys w (rows X ∘ back) (back t) d := by
  unfold ysR ys
  rw [rOut_apply _ _ _ _ _ _ _ (emat_spec hh) t d (fun n i => rDec_real hh hw hX n d i) (fun n i => rAdd_real hh hw hX n d i) ?_]
  · refine Finset.sum_congr rfl fun n _ => ?_
    rw [init_apply, cmR_spec hh, rec1_congr (a' := dec w (rows X ∘ back) n d) (b' := drv w (rows X ∘ back) n d) 0]
    · rfl
    · intro i hi
      exact ⟨rDec_spec hh n d i (by omega), rAdd_spec hh n d i (by omega)⟩
  · intro n; rw [init_apply]; exact IsR.zero

/-- One batch row of the kernel's result. -/
theorem outRow_spec (t : Fin 1152) (c : Fin 192) :
    outRow (F := Ideal) X W K0 K1 K2 K3 CB XW DW DB AL EM DV OW (ix3 0 t c) = out2 w (rows X) t c := by
  unfold outRow out2
  rw [last_apply]
  refine Finset.sum_congr rfl fun d _ => ?_
  rw [mix_apply, ysF_spec hh hw hX, ysR_spec hh hw hX, xcF_spec hh, xcR_spec hh, z_spec hh, hh.dv, hh.ow]

end

end

end Cert.KernelIdeal.Scan
-- ==== Proof.WtOf.lean ====
module

public import proofs.«01_k».proof.Proof.Spec

/-
The weights read off the argument arrays.
-/

@[expose] public section

noncomputable section

namespace Cert.Spec

open Idealize.ShloMosaic Cert.Arith

/-- The layer's weights, from the nine arrays that hold them. -/
def wtOf (a1 : FVec Ideal ⟨2, ![768, 192]⟩ .f32) (a2 : FVec Ideal ⟨2, ![384, 4]⟩ .f32) (a3 : FVec Ideal ⟨1, ![384]⟩ .f32)
    (a4 : FVec Ideal ⟨2, ![44, 384]⟩ .f32) (a5 : FVec Ideal ⟨2, ![384, 12]⟩ .f32) (a6 : FVec Ideal ⟨1, ![384]⟩ .f32)
    (a7 : FVec Ideal ⟨2, ![384, 16]⟩ .f32) (a8 : FVec Ideal ⟨1, ![384]⟩ .f32) (a9 : FVec Ideal ⟨2, ![192, 384]⟩ .f32) : Wt where
  w1 e k := a1 (ix2 e k)
  cw k d := a2 (ix2 d k)
  cb d := a3 (ix1 d)
  xw j d := a4 (ix2 j d)
  dw d k := a5 (ix2 d k)
  db d := a6 (ix1 d)
  al d n := a7 (ix2 d n)
  dv d := a8 (ix1 d)
  ow c d := a9 (ix2 c d)

/-- The rows of sequence `b`. -/
def seqOf (a0 : FVec Ideal ⟨3, ![2, 1152, 192]⟩ .f32) (b : Fin 2) : Fin 1152 → Fin 192 → EReal := fun t k => a0 (ix3 b t k)

end Cert.Spec
-- ==== Proof.KSpec.lean ====
module

public import proofs.«01_k».proof.Proof.KVal
public import proofs.«01_k».proof.Proof.Planes
public import proofs.«01_k».proof.Proof.WtOf

/-
The kernel's result array, element by element, from the arguments.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Arith Cert.Spec

theorem rowVec_apply (x : FVec Ideal S384 .f32) (d : Fin 384) : shapeCast S1x384 x shapeCasts_S384_S1x384 (ix2 0 d) = x (ix1 d) := by
  pointwise

theorem taps_apply (x : FVec Ideal S384x4 .f32) (k : Fin 4) (d : Fin 384) :
    tapRow (F := Ideal) (transpose S4x384 [1, 0] x transposes_S384x4_S4x384_1_0) k (ix2 0 d) = x (ix2 d k) := by
  show transpose S4x384 [1, 0] x transposes_S384x4_S4x384_1_0 (ix2 k d) = _
  pointwise

theorem rates_apply (x : FVec Ideal S384x16 .f32) (n : Fin 16) (d : Fin 384) :
    shapeCast S1x6144 (transpose S16x384 [1, 0] x transposes_S384x16_S16x384_1_0) shapeCasts_S16x384_S1x6144 (ix2 0 (lane n d)) = x (ix2 d n) := by
  have e : ∀ y : FVec Ideal S16x384 .f32, shapeCast S1x6144 y shapeCasts_S16x384_S1x6144 (ix2 0 (lane n d)) = y (ix2 n d) := by
    intro y
    refine shapeCast_apply _ _ _ _ ?_
    rw [Shape.rowMajor_val_two, Shape.rowMajor_val_two]
    show n.val * 384 + d.val = 0 * 6144 + (n.val * 384 + d.val)
    omega
  rw [e]
  pointwise

theorem kron16_apply (k n : Fin 16) (d : Fin 384) : kron16 (F := Ideal) (ix2 k (lane n d)) = if k = n then (1 : EReal) else 0 := by
  unfold kron16
  have e : ∀ y : FVec Ideal S16x1x16x384 .f32, shapeCast S16x6144 y shapeCasts_S16x1x16x384_S16x6144 (ix2 k (lane n d)) = y (ix4 k 0 n d) := by
    intro y
    refine shapeCast_apply _ _ _ _ ?_
    rw [Shape.rowMajor_val_four, Shape.rowMajor_val_two]
    show ((k.val * 1 + 0) * 16 + n.val) * 384 + d.val = k.val * 6144 + (n.val * 384 + d.val)
    omega
  rw [e]
  pointwise
  have h : IntOp.cmpi CmpIPredicate.eq (IntOp.addi (BitVec.ofNat 32 k.val) 0#32) (BitVec.ofNat 32 n.val) = if k = n then 1#1 else 0#1 := by
    clear e
    decide +revert
  rw [h]
  by_cases e : k = n
  · rw [if_pos e, if_pos e]; show (((1#1 : BitVec 1).toNat : ℝ) : EReal) = 1; norm_num
  · rw [if_neg e, if_neg e]; show (((0#1 : BitVec 1).toNat : ℝ) : EReal) = 0; norm_num

/-- The staged blocks of one launch hold the argument's weights. -/
theorem holds (a1 : FVec Ideal S768x192 .f32) (a2 : FVec Ideal S384x4 .f32) (a3 : FVec Ideal S384 .f32) (a4 : FVec Ideal S44x384 .f32)
    (a5 : FVec Ideal S384x12 .f32) (a6 : FVec Ideal S384 .f32) (a7 : FVec Ideal S384x16 .f32) (a8 : FVec Ideal S384 .f32) (a9 : FVec Ideal S192x384 .f32) :
    Holds a1 (tapRow (F := Ideal) (transpose S4x384 [1, 0] a2 transposes_S384x4_S4x384_1_0) 0) (tapRow (F := Ideal) (transpose S4x384 [1, 0] a2 transposes_S384x4_S4x384_1_0) 1)
      (tapRow (F := Ideal) (transpose S4x384 [1, 0] a2 transposes_S384x4_S4x384_1_0) 2) (tapRow (F := Ideal) (transpose S4x384 [1, 0] a2 transposes_S384x4_S4x384_1_0) 3)
      (shapeCast S1x384 a3 shapeCasts_S384_S1x384) a4 a5 (shapeCast S1x384 a6 shapeCasts_S384_S1x384)
      (shapeCast S1x6144 (transpose S16x384 [1, 0] a7 transposes_S384x16_S16x384_1_0) shapeCasts_S16x384_S1x6144) (kron16 (F := Ideal))
      (shapeCast S1x384 a8 shapeCasts_S384_S1x384) a9 (wtOf a1 a2 a3 a4 a5 a6 a7 a8 a9) where
  w1 _ _ := rfl
  k0 d := taps_apply a2 0 d
  k1 d := taps_apply a2 1 d
  k2 d := taps_apply a2 2 d
  k3 d := taps_apply a2 3 d
  cb d := rowVec_apply a3 d
  xw _ _ := rfl
  dw _ _ := rfl
  db d := rowVec_apply a6 d
  al n d := rates_apply a7 n d
  em k n d := kron16_apply k n d
  dv d := rowVec_apply a8 d
  ow _ _ := rfl

variable (m : (ℓ : Loc nD τ sig) → Buf (Elt Ideal) ℓ) (ρ : Dev nD → PrngReg) (c : Dev nD)

/-- An argument array as launched. -/
abbrev arg (r : Ref sig .tc) : Buf (Elt Ideal) ((c : Thread nD τ).loc r) := m ((c : Thread nD τ).loc r)

/-- The weights, from the arguments. -/
def wt : Wt := wtOf (arg m c main_arg1) (arg m c main_arg2) (arg m c main_arg3) (arg m c main_arg4) (arg m c main_arg5) (arg m c main_arg6)
  (arg m c main_arg7) (arg m c main_arg8) (arg m c main_arg9)

theorem result_eq : result m c t0_0 = kernelOut (F := Ideal) (arg m c main_arg0) (arg m c main_arg1)
    (transpose S4x384 [1, 0] (arg m c main_arg2) transposes_S384x4_S4x384_1_0) (shapeCast S1x384 (arg m c main_arg3) shapeCasts_S384_S1x384)
    (arg m c main_arg4) (arg m c main_arg5) (shapeCast S1x384 (arg m c main_arg6) shapeCasts_S384_S1x384)
    (shapeCast S1x6144 (transpose S16x384 [1, 0] (arg m c main_arg7) transposes_S384x16_S16x384_1_0) shapeCasts_S16x384_S1x6144) (kron16 (F := Ideal))
    (shapeCast S1x384 (arg m c main_arg8) shapeCasts_S384_S1x384) (arg m c main_arg9) := by
  unfold result
  rw [block0, block1, block2, block3, block4, block5, block6, block7, block8, block9, block10,
    V_main_arg0, V_main_arg1, V_main_v0, V_main_v1, V_main_arg4, V_main_arg5, V_main_v2, V_main_v5, V_main_v13, V_main_v3, V_main_arg9]

theorem stack2_zero (A B : FVec Ideal S1x1152x192 .f32) (t : Fin 1152) (e : Fin 192) : stack2 (F := Ideal) A B (ix3 0 t e) = A (ix3 0 t e) := rfl

theorem stack2_one (A B : FVec Ideal S1x1152x192 .f32) (t : Fin 1152) (e : Fin 192) : stack2 (F := Ideal) A B (ix3 1 t e) = B (ix3 0 t e) := rfl

/-- The result array, by element, where the weights and the input are real numbers. -/
theorem result_apply (hw : (wt m c).Real) (hX : ∀ b t k, IsR (seqOf (arg m c main_arg0) b t k)) (b : Fin 2) (t : Fin 1152) (e : Fin 192) :
    (result m c t0_0 : FVec Ideal S2x1152x192 .f32) (ix3 b t e) = out2 (wt m c) (seqOf (arg m c main_arg0) b) t e := by
  have h := holds (arg m c main_arg1) (arg m c main_arg2) (arg m c main_arg3) (arg m c main_arg4) (arg m c main_arg5) (arg m c main_arg6)
    (arg m c main_arg7) (arg m c main_arg8) (arg m c main_arg9)
  have hr : ∀ b : Fin 2, rows (batchRow (F := Ideal) (arg m c main_arg0) b) = seqOf (arg m c main_arg0) b := fun b => rfl
  rw [result_eq]
  unfold kernelOut
  match b with
  | 0 => exact (stack2_zero _ _ t e).trans (outRow_spec (X := batchRow (F := Ideal) (arg m c main_arg0) 0) h hw (hX 0) t e)
  | 1 => exact (stack2_one _ _ t e).trans (outRow_spec (X := batchRow (F := Ideal) (arg m c main_arg0) 1) h hw (hX 1) t e)

/-- The run: the result array ends at `result`. -/
theorem run_result : θ_run defs (onTc (τ := τ) (main (F := Ideal))) ⟨m, fun _ => 0, ρ⟩ (fun r => ∀ c : Dev nD,
    r.2.mem ((c.tc : Thread nD τ).loc main_v14) = result m c t0_0) :=
  (θ_run defs _ _).mono (fun _ h c => ((h c).1 11).trans (final_o m c)) (run_main m ρ)

end Cert.KernelIdeal.Scan
-- ==== Proof.RefRun.lean ====
/- The reference's run: what its argument arrays and its semaphores end at, and which buffers its stretches leave alone. -/
module

public import proofs.«01_k».proof.Proof.Gen.ReferenceIdeal.Run
public import Idealize.ShloMosaic.Lib.Quiescent
public import Idealize.ShloMosaic.Lib.Claim

@[expose] public section

set_option maxRecDepth 8192

noncomputable section

namespace Cert.ReferenceIdeal.Scan

open Idealize.ShloMosaic Idealize.ShloMosaic.TcCoe
open Idealize.SL Idealize.SL.RA Idealize.SL.BI
open scoped Idealize.SL.BI
open Idealize.SL.BI.BIBase Idealize.SL.Sem
open Idealize.ShloMosaic.StableHlo
open Cert.ReferenceIdeal Cert.ReferenceIdeal.Gen Cert.ReferenceIdeal.Value

variable {F : FTy → Type} [FloatOps F]

variable (m : (ℓ : Loc nD τ sig) → Buf (Elt F) ℓ) (ρ : Dev nD → PrngReg)

/-- The buffers the stretches after the loop write. -/
abbrev hostOps0_8_W : List (Ref sig .tc) := [main_v72, main_v73, main_v74, main_v75, main_cst_3, main_v76, main_v77, main_v78, main_v79, main_v80]
abbrev hostOps0_9_W : List (Ref sig .tc) := [main_call7_v0, main_call7_v1, main_call7_cst, main_call7_v2, main_call7_v3, main_call7_cst_0, main_call7_v4, main_call7_v5, main_v81]
abbrev hostOps0_10_W : List (Ref sig .tc) := [main_v82, main_v83, main_v84, main_v85, main_v86]
abbrev hostOps0_11_W : List (Ref sig .tc) := [main_v87]
abbrev hostOps0_12_W : List (Ref sig .tc) := [main_v88]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_11_writes : (hostOps0_11 : List (HloOp τ sig (Elt F))).Forall fun op => op.writes ⊆ (hostOps0_11_W.map (Proc.devRef (τ := τ) .tc)).toFinset :=
  StableHlo.forall_writes_sub_of_map rfl
theorem hostOps0_12_writes : (hostOps0_12 : List (HloOp τ sig (Elt F))).Forall fun op => op.writes ⊆ (hostOps0_12_W.map (Proc.devRef (τ := τ) .tc)).toFinset :=
  StableHlo.forall_writes_sub_of_map rfl

/-- Every buffer the stretches before the loop write. -/
abbrev preW : List (Ref sig .tc) :=
  hostOps0_W ++ (hostOps0_1_W ++ (hostOps0_2_W ++ (hostOps0_3_W ++ (hostOps0_4_W ++ (hostOps0_5_W ++ (hostOps0_6_W ++ hostOps0_7_W))))))
/-- Every buffer one trip of the loop writes, its condition's included. -/
abbrev tripW : List (Ref sig .tc) :=
  condOps_W ++ (while0Ops0_W ++ (while0Ops0_1_W ++ (while0Ops0_2_W ++ (while0Ops0_3_W ++ while0Ops0_4_W))))
/-- Every buffer the stretches after the loop write. -/
abbrev postW : List (Ref sig .tc) :=
  hostOps0_8_W ++ (hostOps0_9_W ++ (hostOps0_10_W ++ (hostOps0_11_W ++ hostOps0_12_W)))

/-- A buffer the stretches before the loop do not write keeps its contents through them. -/
theorem pre_keep (V : Valuation τ sig (Elt F)) (r : Ref sig .tc) (h : r ∉ preW) :
    afterL preI V (Proc.devRef .tc r) = V (Proc.devRef .tc r) := by
  simp only [preW, List.mem_append, not_or] at h
  obtain ⟨h0, h1, h2, h3, h4, h5, h6, h7⟩ := h
  simp only [afterL_cons, afterL_nil]
  rw [after_of_writes_sub hostOps0_7 _ hostOps0_7_writes h7, after_of_writes_sub hostOps0_6 _ hostOps0_6_writes h6,
    after_of_writes_sub hostOps0_5 _ hostOps0_5_writes h5, after_of_writes_sub hostOps0_4 _ hostOps0_4_writes h4,
    after_of_writes_sub hostOps0_3 _ hostOps0_3_writes h3, after_of_writes_sub hostOps0_2 _ hostOps0_2_writes h2,
    after_of_writes_sub hostOps0_1 _ hostOps0_1_writes h1, after_of_writes_sub hostOps0 _ hostOps0_writes h0]

/-- A buffer one trip does not write keeps its contents through it. -/
theorem trip_keep (V : Valuation τ sig (Elt F)) (r : Ref sig .tc) (h : r ∉ tripW) :
    afterL bodyI (after condOps V) (Proc.devRef .tc r) = V (Proc.devRef .tc r) := by
  simp only [tripW, List.mem_append, not_or] at h
  obtain ⟨hc, h0, h1, h2, h3, h4⟩ := h
  simp only [afterL_cons, afterL_nil]
  rw [after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

/-- A buffer no trip writes is at every condition as at the loop's entry. -/
theorem atK_keep (c : Dev nD) (r : Ref sig .tc) (h : r ∉ tripW) :
    ∀ k, atK m k c (Proc.devRef .tc r) = entryContents preI m c (Proc.devRef .tc r)
  | 0 => rfl
  | k + 1 => (trip_keep (atK m k c) r h).trans (atK_keep c r h k)

/-- A buffer the stretches after the loop do not write keeps its contents through them. -/
theorem post_keep (V : Valuation τ sig (Elt F)) (r : Ref sig .tc) (h : r ∉ postW) :
    afterL postI V (Proc.devRef .tc r) = V (Proc.devRef .tc r) := by
  simp only [postW, List.mem_append, not_or] at h
  obtain ⟨h0, h1, h2, h3, h4⟩ := h
  simp only [afterL_cons, afterL_nil]
  rw [after_of_writes_sub hostOps0_12 _ hostOps0_12_writes h4, after_of_writes_sub hostOps0_11 _ hostOps0_11_writes h3,
    after_of_writes_sub hostOps0_10 _ hostOps0_10_writes h2, after_of_writes_sub hostOps0_9 _ hostOps0_9_writes h1,
    after_of_writes_sub hostOps0_8 _ hostOps0_8_writes h0]

/-- A buffer the program never writes ends as it was launched. -/
theorem final_keep (c : Dev nD) (r : Ref sig .tc) (h₀ : r ∉ preW) (h₁ : r ∉ tripW) (h₂ : r ∉ postW) :
    finalContents condOps preI bodyI postI 1152 m c (Proc.devRef .tc r) = m ((c.tc : Thread nD τ).loc r) := by
  rw [show finalContents condOps preI bodyI postI 1152 m c = afterL postI (after condOps (atK m 1152 c)) from rfl,
    post_keep _ r h₂, after_of_writes_sub condOps _ condOps_writes (fun hm => h₁ (List.mem_append_left _ hm)),
    atK_keep m c r h₁, show entryContents preI m c = afterL preI (launchContents m c) from rfl, pre_keep _ r h₀]

/-- The program has no semaphore. -/
theorem sem_zero (s : MemSt nD τ sig (Elt F)) : s.sem = fun _ => 0 := sem_eq_zero_of_no_sems (by decide) s

/-- The argument arrays end unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c =>
    ⟨(h c main_arg0 rfl).trans (final_keep m c main_arg0 (by decide +kernel) (by decide +kernel) (by decide +kernel)),
     (h c main_arg1 rfl).trans (final_keep m c main_arg1 (by decide +kernel) (by decide +kernel) (by decide +kernel)),
     (h c main_arg2 rfl).trans (final_keep m c main_arg2 (by decide +kernel) (by decide +kernel) (by decide +kernel)),
     (h c main_arg3 rfl).trans (final_keep m c main_arg3 (by decide +kernel) (by decide +kernel) (by decide +kernel)),
     (h c main_arg4 rfl).trans (final_keep m c main_arg4 (by decide +kernel) (by decide +kernel) (by decide +kernel)),
     (h c main_arg5 rfl).trans (final_keep m c main_arg5 (by decide +kernel) (by decide +kernel) (by decide +kernel)),
     (h c main_arg6 rfl).trans (final_keep m c main_arg6 (by decide +kernel) (by decide +kernel) (by decide +kernel)),
     (h c main_arg7 rfl).trans (final_keep m c main_arg7 (by decide +kernel) (by decide +kernel) (by decide +kernel)),
     (h c main_arg8 rfl).trans (final_keep m c main_arg8 (by decide +kernel) (by decide +kernel) (by decide +kernel)),
     (h c main_arg9 rfl).trans (final_keep m c main_arg9 (by decide +kernel) (by decide +kernel) (by decide +kernel))⟩,
    sem_zero _⟩) (run_fold m ρ)

end Cert.ReferenceIdeal.Scan

end
-- ==== Proof.RRead.lean ====
module

public import proofs.«01_k».proof.Proof.RefRun

/-
What the reference's stretches compute: each stretch's results as functions of what it reads, and with them the loop's
entry and the result array.
-/

@[expose] public section

set_option maxRecDepth 16384

noncomputable section

namespace Cert.ReferenceIdeal.Scan

open Idealize.ShloMosaic Idealize.ShloMosaic.TcCoe
open Idealize.SL Idealize.SL.RA Idealize.SL.BI
open scoped Idealize.SL.BI
open Idealize.SL.BI.BIBase Idealize.SL.Sem
open Idealize.ShloMosaic.StableHlo
open Cert.ReferenceIdeal Cert.ReferenceIdeal.Gen Cert.ReferenceIdeal.Value

variable {F : FTy → Type} [FloatOps F]

/-- A vector along the last axis of a 4×1152×384 array. -/
abbrev along (v : FVec F S384 .f32) : FVec F S4x1152x384 .f32 :=
  broadcastInDim S4x1152x384 ![0, 1, 2] bcast_S1x1x384_S4x1152x384_0_1_2 (broadcastInDim S1x1x384 ![2] bcast_S384_S1x1x384_2 v)

/-- One number everywhere in a 4×1152×384 array. -/
abbrev every (b : BitVec 32) : FVec F S4x1152x384 .f32 :=
  broadcastInDim S4x1152x384 ![] bcast_S_S4x1152x384 (constant S_ .f32 b)

/-- The input's rows forward and backward, as four sequences. -/
def qx (x : FVec F S2x1152x192 .f32) : FVec F S4x1152x192 .f32 :=
  concatenate S4x1152x192 0 [⟨S2x1152x192, x⟩, ⟨S2x1152x192, Host.reverse [1] x⟩] concatenates_S2x1152x192_S2x1152x192_S4x1152x192_d0

/-- The input projection. -/
def qp (x : FVec F S4x1152x192 .f32) (w : FVec F S768x192 .f32) : FVec F S4x1152x768 .f32 :=
  Host.dotGeneral dot_S4x1152x192_S192x768_S4x1152x768_2_0_01_1_n_n none x (transpose S192x768 [1, 0] w transposes_S768x192_S192x768_1_0)

/-- The projected stream. -/
def qa (p : FVec F S4x1152x768 .f32) : FVec F S4x1152x384 .f32 := extractStridedSlice S4x1152x384 ![0, 0, 0] p slices_S4x1152x768_S4x1152x384_0_0_0

/-- The gate. -/
def qz (p : FVec F S4x1152x768 .f32) : FVec F S4x1152x384 .f32 := extractStridedSlice S4x1152x384 ![0, 0, 384] p slices_S4x1152x768_S4x1152x384_0_0_384

/-- The stream behind three rows of zeros. -/
def qpad (a : FVec F S4x1152x384 .f32) : FVec F S4x1155x384 .f32 :=
  pad S4x1155x384 ![0, 3, 0] ![0, 0, 0] ![0, 0, 0] a (sitofp .f32 (constantI S_ 32 0#32)) pads_S4x1152x384_S4x1155x384_000_300_000 h_S_

/-- The convolution. -/
def qcv (p : FVec F S4x1155x384 .f32) (w : FVec F S384x4 .f32) (b : FVec F S384 .f32) : FVec F S4x1152x384 .f32 :=
  addf (addf (addf (addf (addf (every 0x00000000#32)
    (mulf (extractStridedSlice S4x1152x384 ![0, 0, 0] p slices_S4x1155x384_S4x1152x384_0_0_0)
      (along (shapeCast S384 (extractStridedSlice S384x1 ![0, 0] w slices_S384x4_S384x1_0_0) shapeCasts_S384x1_S384))))
    (mulf (extractStridedSlice S4x1152x384 ![0, 1, 0] p slices_S4x1155x384_S4x1152x384_0_1_0)
      (along (shapeCast S384 (extractStridedSlice S384x1 ![0, 1] w slices_S384x4_S384x1_0_1) shapeCasts_S384x1_S384))))
    (mulf (extractStridedSlice S4x1152x384 ![0, 2, 0] p slices_S4x1155x384_S4x1152x384_0_2_0)
      (along (shapeCast S384 (extractStridedSlice S384x1 ![0, 2] w slices_S384x4_S384x1_0_2) shapeCasts_S384x1_S384))))
    (mulf (extractStridedSlice S4x1152x384 ![0, 3, 0] p slices_S4x1155x384_S4x1152x384_0_3_0)
      (along (shapeCast S384 (extractStridedSlice S384x1 ![0, 3] w slices_S384x4_S384x1_0_3) shapeCasts_S384x1_S384))))
    (along b)

/-- The gate's map. -/
def qsilu (x : FVec F S4x1152x384 .f32) : FVec F S4x1152x384 .f32 :=
  mulf x (Host.divf (every 0x3F800000#32) (addf (every 0x3F800000#32) (Host.exp (Host.negf x))))

/-- The projection to step size and couplings. -/
def qxd (x : FVec F S4x1152x384 .f32) (w : FVec F S44x384 .f32) : FVec F S4x1152x44 .f32 :=
  Host.dotGeneral dot_S4x1152x384_S384x44_S4x1152x44_2_0_01_1_n_n none x (transpose S384x44 [1, 0] w transposes_S44x384_S384x44_1_0)

/-- The input coupling. -/
def qb (p : FVec F S4x1152x44 .f32) : FVec F S4x1152x16 .f32 := extractStridedSlice S4x1152x16 ![0, 0, 12] p slices_S4x1152x44_S4x1152x16_0_0_12

/-- The output coupling. -/
def qc (p : FVec F S4x1152x44 .f32) : FVec F S4x1152x16 .f32 := extractStridedSlice S4x1152x16 ![0, 0, 28] p slices_S4x1152x44_S4x1152x16_0_0_28

/-- The step size before its map. -/
def qraw (p : FVec F S4x1152x44 .f32) (w : FVec F S384x12 .f32) (b : FVec F S384 .f32) : FVec F S4x1152x384 .f32 :=
  addf (Host.dotGeneral dot_S4x1152x12_S12x384_S4x1152x384_2_0_01_1_n_n none
    (extractStridedSlice S4x1152x12 ![0, 0, 0] p slices_S4x1152x44_S4x1152x12_0_0_0) (transpose S12x384 [1, 0] w transposes_S384x12_S12x384_1_0)) (along b)

/-- The step size's map. -/
def qsp (x : FVec F S4x1152x384 .f32) : FVec F S4x1152x384 .f32 :=
  select (cmpf .une (subf x (every 0x00000000#32)) (subf x (every 0x00000000#32))) (addf x (every 0x00000000#32))
    (addf (maximumf x (every 0x00000000#32)) (Host.log1p (Host.exp (Host.negf (Host.absf (subf x (every 0x00000000#32)))))))

/-- A 4×1152×384 array over the 16 states. -/
abbrev overN (x : FVec F S4x1152x384 .f32) : FVec F S4x1152x384x16 .f32 :=
  broadcastInDim S4x1152x384x16 ![0, 1, 2, 3] bcast_S4x1152x384x1_S4x1152x384x16_0_1_2_3 (broadcastInDim S4x1152x384x1 ![0, 1, 2] bcast_S4x1152x384_S4x1152x384x1_0_1_2 x)

/-- A coupling over the 384 channels. -/
abbrev overD (x : FVec F S4x1152x16 .f32) : FVec F S4x1152x384x16 .f32 :=
  broadcastInDim S4x1152x384x16 ![0, 1, 2, 3] bcast_S4x1152x1x16_S4x1152x384x16_0_1_2_3 (broadcastInDim S4x1152x1x16 ![0, 1, 3] bcast_S4x1152x16_S4x1152x1x16_0_1_3 x)

/-- The decays, time first. -/
def qdec (t : FVec F S4x1152x384 .f32) (a : FVec F S384x16 .f32) : FVec F S1152x4x384x16 .f32 :=
  transpose S1152x4x384x16 [1, 0, 2, 3] (Host.exp (mulf (overN t)
    (broadcastInDim S4x1152x384x16 ![0, 1, 2, 3] bcast_S1x1x384x16_S4x1152x384x16_0_1_2_3 (broadcastInDim S1x1x384x16 ![2, 3] bcast_S384x16_S1x1x384x16_2_3
      (Host.negf (Host.exp a)))))) transposes_S4x1152x384x16_S1152x4x384x16_1_0_2_3

/-- The drives, time first. -/
def qdrv (t x : FVec F S4x1152x384 .f32) (b : FVec F S4x1152x16 .f32) : FVec F S1152x4x384x16 .f32 :=
  transpose S1152x4x384x16 [1, 0, 2, 3] (mulf (mulf (overN t) (overD b)) (overN x)) transposes_S4x1152x384x16_S1152x4x384x16_1_0_2_3

/-- The scan's output with the skip connection. -/
def qy (h : FVec F S1152x4x384x16 .f32) (c : FVec F S4x1152x16 .f32) (x : FVec F S4x1152x384 .f32) (v : FVec F S384 .f32) : FVec F S4x1152x384 .f32 :=
  addf (Host.reduceAdd (mulf (transpose S4x1152x384x16 [1, 0, 2, 3] h transposes_S1152x4x384x16_S4x1152x384x16_1_0_2_3) (overD c))
    (constant S_ .f32 0x00000000#32) reducesTo_S4x1152x384x16_S4x1152x384_d3 h_S_) (mulf x (along v))

/-- The output projection. -/
def qo (y z : FVec F S4x1152x384 .f32) (w : FVec F S192x384 .f32) : FVec F S4x1152x192 .f32 :=
  Host.dotGeneral dot_S4x1152x384_S384x192_S4x1152x192_2_0_01_1_n_n none (mulf y z) (transpose S384x192 [1, 0] w transposes_S192x384_S384x192_1_0)

/-- The two directions added. -/
def qr (o : FVec F S4x1152x192 .f32) : FVec F S2x1152x192 .f32 :=
  addf (extractStridedSlice S2x1152x192 ![0, 0, 0] o slices_S4x1152x192_S2x1152x192_0_0_0)
    (Host.reverse [1] (extractStridedSlice S2x1152x192 ![2, 0, 0] o slices_S4x1152x192_S2x1152x192_2_0_0))

theorem s0_v0 (V : Valuation τ sig (Elt F)) : after hostOps0 V (no_index (Proc.devRef .tc main_v0)) = Host.reverse [1] (V main_arg0 : FVec F S2x1152x192 .f32) := by
  after_results
  rfl

theorem s1_v4 (V : Valuation τ sig (Elt F)) : after hostOps0_1 V (no_index (Proc.devRef .tc main_v4)) = qa (qp (concatenate S4x1152x192 0 [⟨S2x1152x192, V main_arg0⟩, ⟨S2x1152x192, V main_v0⟩] concatenates_S2x1152x192_S2x1152x192_S4x1152x192_d0) (V main_arg1)) := by
  after_results
  rfl

theorem s1_v5 (V : Valuation τ sig (Elt F)) : after hostOps0_1 V (no_index (Proc.devRef .tc main_v5)) = qz (qp (concatenate S4x1152x192 0 [⟨S2x1152x192, V main_arg0⟩, ⟨S2x1152x192, V main_v0⟩] concatenates_S2x1152x192_S2x1152x192_S4x1152x192_d0) (V main_arg1)) := by
  after_results
  rfl

theorem s1_c (V : Valuation τ sig (Elt F)) : after hostOps0_1 V (no_index (Proc.devRef .tc main_c)) = constantI S_ 32 0#32 := by
  after_results

theorem s2_v6 (V : Valuation τ sig (Elt F)) : after hostOps0_2 V (no_index (Proc.devRef .tc main_v6)) = pad S4x1155x384 ![0, 3, 0] ![0, 0, 0] ![0, 0, 0] (V main_v4 : FVec F S4x1152x384 .f32) (sitofp .f32 (V main_c : IVec S_ 32)) pads_S4x1152x384_S4x1155x384_000_300_000 h_S_ := by
  after_results
  rfl

theorem s3_v38 (V : Valuation τ sig (Elt F)) : after hostOps0_3 V (no_index (Proc.devRef .tc main_v38)) = qcv (V main_v6) (V main_arg2) (V main_arg3) := by
  after_results
  rfl

theorem s4_v39 (V : Valuation τ sig (Elt F)) : after hostOps0_4 V (no_index (Proc.devRef .tc main_v39)) = qsilu (V main_v38) := by
  after_results
  rfl

theorem s5_v43 (V : Valuation τ sig (Elt F)) : after hostOps0_5 V (no_index (Proc.devRef .tc main_v43)) = qb (qxd (V main_v39) (V main_arg4)) := by
  after_results
  rfl

theorem s5_v44 (V : Valuation τ sig (Elt F)) : after hostOps0_5 V (no_index (Proc.devRef .tc main_v44)) = qc (qxd (V main_v39) (V main_arg4)) := by
  after_results
  rfl

theorem s5_v49 (V : Valuation τ sig (Elt F)) : after hostOps0_5 V (no_index (Proc.devRef .tc main_v49)) = qraw (qxd (V main_v39) (V main_arg4)) (V main_arg5) (V main_arg6) := by
  after_results
  rfl

theorem s6_v50 (V : Valuation τ sig (Elt F)) : after hostOps0_6 V (no_index (Proc.devRef .tc main_v50)) = qsp (V main_v49) := by
  after_results
  rfl

theorem s7_v71_0 (V : Valuation τ sig (Elt F)) : after hostOps0_7 V (no_index (Proc.devRef .tc main_v71_0)) = qdec (V main_v50) (V main_arg7) := by
  after_results
  rfl

theorem s7_v71_1 (V : Valuation τ sig (Elt F)) : after hostOps0_7 V (no_index (Proc.devRef .tc main_v71_1)) = qdrv (V main_v50) (V main_v39) (V main_v43) := by
  after_results
  rfl

theorem s7_v71_3 (V : Valuation τ sig (Elt F)) : after hostOps0_7 V (no_index (Proc.devRef .tc main_v71_3)) = broadcastInDim S4x384x16 ![] bcast_S_S4x384x16 (constant (F := F) S_ .f32 0x00000000#32) := by
  after_results
  rfl

theorem s8_v80 (V : Valuation τ sig (Elt F)) : after hostOps0_8 V (no_index (Proc.devRef .tc main_v80)) = qy (V main_v71_4) (V main_v44) (V main_v39) (V main_arg8) := by
  after_results
  rfl

theorem s9_v81 (V : Valuation τ sig (Elt F)) : after hostOps0_9 V (no_index (Proc.devRef .tc main_v81)) = qsilu (V main_v5) := by
  after_results
  rfl

theorem s10_v85 (V : Valuation τ sig (Elt F)) : after hostOps0_10 V (no_index (Proc.devRef .tc main_v85)) = extractStridedSlice S2x1152x192 ![0, 0, 0] (qo (V main_v80) (V main_v81) (V main_arg9)) slices_S4x1152x192_S2x1152x192_0_0_0 := by
  after_results
  rfl

theorem s10_v86 (V : Valuation τ sig (Elt F)) : after hostOps0_10 V (no_index (Proc.devRef .tc main_v86)) = extractStridedSlice S2x1152x192 ![2, 0, 0] (qo (V main_v80) (V main_v81) (V main_arg9)) slices_S4x1152x192_S2x1152x192_2_0_0 := by
  after_results
  rfl

theorem s11_v87 (V : Valuation τ sig (Elt F)) : after hostOps0_11 V (no_index (Proc.devRef .tc main_v87)) = Host.reverse [1] (V main_v86 : FVec F S2x1152x192 .f32) := by
  after_results
  rfl

theorem s12_v88 (V : Valuation τ sig (Elt F)) : after hostOps0_12 V (no_index (Proc.devRef .tc main_v88)) = addf (V main_v85 : FVec F S2x1152x192 .f32) (V main_v87) := by
  after_results

theorem k0_arg0 (V : Valuation τ sig (Elt F)) : after hostOps0 V (no_index (Proc.devRef .tc main_arg0)) = V main_arg0 := after_of_writes_sub hostOps0 V hostOps0_writes (by decide)
theorem k0_arg1 (V : Valuation τ sig (Elt F)) : after hostOps0 V (no_index (Proc.devRef .tc main_arg1)) = V main_arg1 := after_of_writes_sub hostOps0 V hostOps0_writes (by decide)
theorem k0_arg2 (V : Valuation τ sig (Elt F)) : after hostOps0 V (no_index (Proc.devRef .tc main_arg2)) = V main_arg2 := after_of_writes_sub hostOps0 V hostOps0_writes (by decide)
theorem k0_arg3 (V : Valuation τ sig (Elt F)) : after hostOps0 V (no_index (Proc.devRef .tc main_arg3)) = V main_arg3 := after_of_writes_sub hostOps0 V hostOps0_writes (by decide)
theorem k0_arg4 (V : Valuation τ sig (Elt F)) : after hostOps0 V (no_index (Proc.devRef .tc main_arg4)) = V main_arg4 := after_of_writes_sub hostOps0 V hostOps0_writes (by decide)
theorem k0_arg5 (V : Valuation τ sig (Elt F)) : after hostOps0 V (no_index (Proc.devRef .tc main_arg5)) = V main_arg5 := after_of_writes_sub hostOps0 V hostOps0_writes (by decide)
theorem k0_arg6 (V : Valuation τ sig (Elt F)) : after hostOps0 V (no_index (Proc.devRef .tc main_arg6)) = V main_arg6 := after_of_writes_sub hostOps0 V hostOps0_writes (by decide)
theorem k0_arg7 (V : Valuation τ sig (Elt F)) : after hostOps0 V (no_index (Proc.devRef .tc main_arg7)) = V main_arg7 := after_of_writes_sub hostOps0 V hostOps0_writes (by decide)

theorem k1_arg2 (V : Valuation τ sig (Elt F)) : after hostOps0_1 V (no_index (Proc.devRef .tc main_arg2)) = V main_arg2 := after_of_writes_sub hostOps0_1 V hostOps0_1_writes (by decide)
theorem k1_arg3 (V : Valuation τ sig (Elt F)) : after hostOps0_1 V (no_index (Proc.devRef .tc main_arg3)) = V main_arg3 := after_of_writes_sub hostOps0_1 V hostOps0_1_writes (by decide)
theorem k1_arg4 (V : Valuation τ sig (Elt F)) : after hostOps0_1 V (no_index (Proc.devRef .tc main_arg4)) = V main_arg4 := after_of_writes_sub hostOps0_1 V hostOps0_1_writes (by decide)
theorem k1_arg5 (V : Valuation τ sig (Elt F)) : after hostOps0_1 V (no_index (Proc.devRef .tc main_arg5)) = V main_arg5 := after_of_writes_sub hostOps0_1 V hostOps0_1_writes (by decide)
theorem k1_arg6 (V : Valuation τ sig (Elt F)) : after hostOps0_1 V (no_index (Proc.devRef .tc main_arg6)) = V main_arg6 := after_of_writes_sub hostOps0_1 V hostOps0_1_writes (by decide)
theorem k1_arg7 (V : Valuation τ sig (Elt F)) : after hostOps0_1 V (no_index (Proc.devRef .tc main_arg7)) = V main_arg7 := after_of_writes_sub hostOps0_1 V hostOps0_1_writes (by decide)

theorem k2_v5 (V : Valuation τ sig (Elt F)) : after hostOps0_2 V (no_index (Proc.devRef .tc main_v5)) = V main_v5 := after_of_writes_sub hostOps0_2 V hostOps0_2_writes (by decide)
theorem k2_arg2 (V : Valuation τ sig (Elt F)) : after hostOps0_2 V (no_index (Proc.devRef .tc main_arg2)) = V main_arg2 := after_of_writes_sub hostOps0_2 V hostOps0_2_writes (by decide)
theorem k2_arg3 (V : Valuation τ sig (Elt F)) : after hostOps0_2 V (no_index (Proc.devRef .tc main_arg3)) = V main_arg3 := after_of_writes_sub hostOps0_2 V hostOps0_2_writes (by decide)
theorem k2_arg4 (V : Valuation τ sig (Elt F)) : after hostOps0_2 V (no_index (Proc.devRef .tc main_arg4)) = V main_arg4 := after_of_writes_sub hostOps0_2 V hostOps0_2_writes (by decide)
theorem k2_arg5 (V : Valuation τ sig (Elt F)) : after hostOps0_2 V (no_index (Proc.devRef .tc main_arg5)) = V main_arg5 := after_of_writes_sub hostOps0_2 V hostOps0_2_writes (by decide)
theorem k2_arg6 (V : Valuation τ sig (Elt F)) : after hostOps0_2 V (no_index (Proc.devRef .tc main_arg6)) = V main_arg6 := after_of_writes_sub hostOps0_2 V hostOps0_2_writes (by decide)
theorem k2_arg7 (V : Valuation τ sig (Elt F)) : after hostOps0_2 V (no_index (Proc.devRef .tc main_arg7)) = V main_arg7 := after_of_writes_sub hostOps0_2 V hostOps0_2_writes (by decide)

theorem k3_v5 (V : Valuation τ sig (Elt F)) : after hostOps0_3 V (no_index (Proc.devRef .tc main_v5)) = V main_v5 := after_of_writes_sub hostOps0_3 V hostOps0_3_writes (by decide)
theorem k3_arg4 (V : Valuation τ sig (Elt F)) : after hostOps0_3 V (no_index (Proc.devRef .tc main_arg4)) = V main_arg4 := after_of_writes_sub hostOps0_3 V hostOps0_3_writes (by decide)
theorem k3_arg5 (V : Valuation τ sig (Elt F)) : after hostOps0_3 V (no_index (Proc.devRef .tc main_arg5)) = V main_arg5 := after_of_writes_sub hostOps0_3 V hostOps0_3_writes (by decide)
theorem k3_arg6 (V : Valuation τ sig (Elt F)) : after hostOps0_3 V (no_index (Proc.devRef .tc main_arg6)) = V main_arg6 := after_of_writes_sub hostOps0_3 V hostOps0_3_writes (by decide)
theorem k3_arg7 (V : Valuation τ sig (Elt F)) : after hostOps0_3 V (no_index (Proc.devRef .tc main_arg7)) = V main_arg7 := after_of_writes_sub hostOps0_3 V hostOps0_3_writes (by decide)

theorem k4_v5 (V : Valuation τ sig (Elt F)) : after hostOps0_4 V (no_index (Proc.devRef .tc main_v5)) = V main_v5 := after_of_writes_sub hostOps0_4 V hostOps0_4_writes (by decide)
theorem k4_arg4 (V : Valuation τ sig (Elt F)) : after hostOps0_4 V (no_index (Proc.devRef .tc main_arg4)) = V main_arg4 := after_of_writes_sub hostOps0_4 V hostOps0_4_writes (by decide)
theorem k4_arg5 (V : Valuation τ sig (Elt F)) : after hostOps0_4 V (no_index (Proc.devRef .tc main_arg5)) = V main_arg5 := after_of_writes_sub hostOps0_4 V hostOps0_4_writes (by decide)
theorem k4_arg6 (V : Valuation τ sig (Elt F)) : after hostOps0_4 V (no_index (Proc.devRef .tc main_arg6)) = V main_arg6 := after_of_writes_sub hostOps0_4 V hostOps0_4_writes (by decide)
theorem k4_arg7 (V : Valuation τ sig (Elt F)) : after hostOps0_4 V (no_index (Proc.devRef .tc main_arg7)) = V main_arg7 := after_of_writes_sub hostOps0_4 V hostOps0_4_writes (by decide)

theorem k5_v5 (V : Valuation τ sig (Elt F)) : after hostOps0_5 V (no_index (Proc.devRef .tc main_v5)) = V main_v5 := after_of_writes_sub hostOps0_5 V hostOps0_5_writes (by decide)
theorem k5_v39 (V : Valuation τ sig (Elt F)) : after hostOps0_5 V (no_index (Proc.devRef .tc main_v39)) = V main_v39 := after_of_writes_sub hostOps0_5 V hostOps0_5_writes (by decide)
theorem k5_arg7 (V : Valuation τ sig (Elt F)) : after hostOps0_5 V (no_index (Proc.devRef .tc main_arg7)) = V main_arg7 := after_of_writes_sub hostOps0_5 V hostOps0_5_writes (by decide)

theorem k6_v5 (V : Valuation τ sig (Elt F)) : after hostOps0_6 V (no_index (Proc.devRef .tc main_v5)) = V main_v5 := after_of_writes_sub hostOps0_6 V hostOps0_6_writes (by decide)
theorem k6_v39 (V : Valuation τ sig (Elt F)) : after hostOps0_6 V (no_index (Proc.devRef .tc main_v39)) = V main_v39 := after_of_writes_sub hostOps0_6 V hostOps0_6_writes (by decide)
theorem k6_v43 (V : Valuation τ sig (Elt F)) : after hostOps0_6 V (no_index (Proc.devRef .tc main_v43)) = V main_v43 := after_of_writes_sub hostOps0_6 V hostOps0_6_writes (by decide)
theorem k6_v44 (V : Valuation τ sig (Elt F)) : after hostOps0_6 V (no_index (Proc.devRef .tc main_v44)) = V main_v44 := after_of_writes_sub hostOps0_6 V hostOps0_6_writes (by decide)
theorem k6_arg7 (V : Valuation τ sig (Elt F)) : after hostOps0_6 V (no_index (Proc.devRef .tc main_arg7)) = V main_arg7 := after_of_writes_sub hostOps0_6 V hostOps0_6_writes (by decide)

theorem k7_v5 (V : Valuation τ sig (Elt F)) : after hostOps0_7 V (no_index (Proc.devRef .tc main_v5)) = V main_v5 := after_of_writes_sub hostOps0_7 V hostOps0_7_writes (by decide)
theorem k7_v39 (V : Valuation τ sig (Elt F)) : after hostOps0_7 V (no_index (Proc.devRef .tc main_v39)) = V main_v39 := after_of_writes_sub hostOps0_7 V hostOps0_7_writes (by decide)
theorem k7_v44 (V : Valuation τ sig (Elt F)) : after hostOps0_7 V (no_index (Proc.devRef .tc main_v44)) = V main_v44 := after_of_writes_sub hostOps0_7 V hostOps0_7_writes (by decide)

theorem k8_v5 (V : Valuation τ sig (Elt F)) : after hostOps0_8 V (no_index (Proc.devRef .tc main_v5)) = V main_v5 := after_of_writes_sub hostOps0_8 V hostOps0_8_writes (by decide)
theorem k8_arg9 (V : Valuation τ sig (Elt F)) : after hostOps0_8 V (no_index (Proc.devRef .tc main_arg9)) = V main_arg9 := after_of_writes_sub hostOps0_8 V hostOps0_8_writes (by decide)

theorem k9_v80 (V : Valuation τ sig (Elt F)) : after hostOps0_9 V (no_index (Proc.devRef .tc main_v80)) = V main_v80 := after_of_writes_sub hostOps0_9 V hostOps0_9_writes (by decide)
theorem k9_arg9 (V : Valuation τ sig (Elt F)) : after hostOps0_9 V (no_index (Proc.devRef .tc main_arg9)) = V main_arg9 := after_of_writes_sub hostOps0_9 V hostOps0_9_writes (by decide)

theorem k11_v85 (V : Valuation τ sig (Elt F)) : after hostOps0_11 V (no_index (Proc.devRef .tc main_v85)) = V main_v85 := after_of_writes_sub hostOps0_11 V hostOps0_11_writes (by decide)

variable (m : (ℓ : Loc nD τ sig) → Buf (Elt F) ℓ) (c : Dev nD)

/-- An argument array as launched. -/
abbrev arg (r : Ref sig .tc) : Buf (Elt F) ((c.tc : Thread nD τ).loc r) := m ((c.tc : Thread nD τ).loc r)

/-- The four sequences' projections. -/
def eP : FVec F S4x1152x768 .f32 := qp (qx (arg m c main_arg0)) (arg m c main_arg1)
/-- The convolved stream. -/
def eX : FVec F S4x1152x384 .f32 := qsilu (qcv (qpad (qa (eP m c))) (arg m c main_arg2) (arg m c main_arg3))
/-- Step size and couplings, unmapped. -/
def eXd : FVec F S4x1152x44 .f32 := qxd (eX m c) (arg m c main_arg4)
/-- The step size. -/
def eT : FVec F S4x1152x384 .f32 := qsp (qraw (eXd m c) (arg m c main_arg5) (arg m c main_arg6))

theorem entry_v5 : entryContents preI m c main_v5 = qz (eP m c) := by
  simp only [entryContents, afterL_cons, afterL_nil]
  simp only [s7_v71_0, s7_v71_1, s7_v71_3, s6_v50, s5_v43, s5_v44, s5_v49, s4_v39, s3_v38, s2_v6, s1_v4, s1_v5, s1_c, s0_v0, k0_arg0, k0_arg1, k0_arg2, k0_arg3, k0_arg4, k0_arg5, k0_arg6, k0_arg7, k1_arg2, k1_arg3, k1_arg4, k1_arg5, k1_arg6, k1_arg7, k2_v5, k2_arg2, k2_arg3, k2_arg4, k2_arg5, k2_arg6, k2_arg7, k3_v5, k3_arg4, k3_arg5, k3_arg6, k3_arg7, k4_v5, k4_arg4, k4_arg5, k4_arg6, k4_arg7, k5_v5, k5_v39, k5_arg7, k6_v5, k6_v39, k6_v43, k6_v44, k6_arg7, k7_v5, k7_v39, k7_v44]
  rfl

theorem entry_v39 : entryContents preI m c main_v39 = eX m c := by
  simp only [entryContents, afterL_cons, afterL_nil]
  simp only [s7_v71_0, s7_v71_1, s7_v71_3, s6_v50, s5_v43, s5_v44, s5_v49, s4_v39, s3_v38, s2_v6, s1_v4, s1_v5, s1_c, s0_v0, k0_arg0, k0_arg1, k0_arg2, k0_arg3, k0_arg4, k0_arg5, k0_arg6, k0_arg7, k1_arg2, k1_arg3, k1_arg4, k1_arg5, k1_arg6, k1_arg7, k2_v5, k2_arg2, k2_arg3, k2_arg4, k2_arg5, k2_arg6, k2_arg7, k3_v5, k3_arg4, k3_arg5, k3_arg6, k3_arg7, k4_v5, k4_arg4, k4_arg5, k4_arg6, k4_arg7, k5_v5, k5_v39, k5_arg7, k6_v5, k6_v39, k6_v43, k6_v44, k6_arg7, k7_v5, k7_v39, k7_v44]
  rfl

theorem entry_v44 : entryContents preI m c main_v44 = qc (eXd m c) := by
  simp only [entryContents, afterL_cons, afterL_nil]
  simp only [s7_v71_0, s7_v71_1, s7_v71_3, s6_v50, s5_v43, s5_v44, s5_v49, s4_v39, s3_v38, s2_v6, s1_v4, s1_v5, s1_c, s0_v0, k0_arg0, k0_arg1, k0_arg2, k0_arg3, k0_arg4, k0_arg5, k0_arg6, k0_arg7, k1_arg2, k1_arg3, k1_arg4, k1_arg5, k1_arg6, k1_arg7, k2_v5, k2_arg2, k2_arg3, k2_arg4, k2_arg5, k2_arg6, k2_arg7, k3_v5, k3_arg4, k3_arg5, k3_arg6, k3_arg7, k4_v5, k4_arg4, k4_arg5, k4_arg6, k4_arg7, k5_v5, k5_v39, k5_arg7, k6_v5, k6_v39, k6_v43, k6_v44, k6_arg7, k7_v5, k7_v39, k7_v44]
  rfl

theorem entry_v71_0 : entryContents preI m c main_v71_0 = qdec (eT m c) (arg m c main_arg7) := by
  simp only [entryContents, afterL_cons, afterL_nil]
  simp only [s7_v71_0, s7_v71_1, s7_v71_3, s6_v50, s5_v43, s5_v44, s5_v49, s4_v39, s3_v38, s2_v6, s1_v4, s1_v5, s1_c, s0_v0, k0_arg0, k0_arg1, k0_arg2, k0_arg3, k0_arg4, k0_arg5, k0_arg6, k0_arg7, k1_arg2, k1_arg3, k1_arg4, k1_arg5, k1_arg6, k1_arg7, k2_v5, k2_arg2, k2_arg3, k2_arg4, k2_arg5, k2_arg6, k2_arg7, k3_v5, k3_arg4, k3_arg5, k3_arg6, k3_arg7, k4_v5, k4_arg4, k4_arg5, k4_arg6, k4_arg7, k5_v5, k5_v39, k5_arg7, k6_v5, k6_v39, k6_v43, k6_v44, k6_arg7, k7_v5, k7_v39, k7_v44]
  rfl

theorem entry_v71_1 : entryContents preI m c main_v71_1 = qdrv (eT m c) (eX m c) (qb (eXd m c)) := by
  simp only [entryContents, afterL_cons, afterL_nil]
  simp only [s7_v71_0, s7_v71_1, s7_v71_3, s6_v50, s5_v43, s5_v44, s5_v49, s4_v39, s3_v38, s2_v6, s1_v4, s1_v5, s1_c, s0_v0, k0_arg0, k0_arg1, k0_arg2, k0_arg3, k0_arg4, k0_arg5, k0_arg6, k0_arg7, k1_arg2, k1_arg3, k1_arg4, k1_arg5, k1_arg6, k1_arg7, k2_v5, k2_arg2, k2_arg3, k2_arg4, k2_arg5, k2_arg6, k2_arg7, k3_v5, k3_arg4, k3_arg5, k3_arg6, k3_arg7, k4_v5, k4_arg4, k4_arg5, k4_arg6, k4_arg7, k5_v5, k5_v39, k5_arg7, k6_v5, k6_v39, k6_v43, k6_v44, k6_arg7, k7_v5, k7_v39, k7_v44]
  rfl

theorem entry_v71_3 : entryContents preI m c main_v71_3 = broadcastInDim S4x384x16 ![] bcast_S_S4x384x16 (constant (F := F) S_ .f32 0x00000000#32) := by
  simp only [entryContents, afterL_cons, afterL_nil]
  simp only [s7_v71_0, s7_v71_1, s7_v71_3, s6_v50, s5_v43, s5_v44, s5_v49, s4_v39, s3_v38, s2_v6, s1_v4, s1_v5, s1_c, s0_v0, k0_arg0, k0_arg1, k0_arg2, k0_arg3, k0_arg4, k0_arg5, k0_arg6, k0_arg7, k1_arg2, k1_arg3, k1_arg4, k1_arg5, k1_arg6, k1_arg7, k2_v5, k2_arg2, k2_arg3, k2_arg4, k2_arg5, k2_arg6, k2_arg7, k3_v5, k3_arg4, k3_arg5, k3_arg6, k3_arg7, k4_v5, k4_arg4, k4_arg5, k4_arg6, k4_arg7, k5_v5, k5_v39, k5_arg7, k6_v5, k6_v39, k6_v43, k6_v44, k6_arg7, k7_v5, k7_v39, k7_v44]

/-- The stretches after the loop, from any contents. -/
theorem post_v88 (V : Valuation τ sig (Elt F)) : afterL postI V main_v88 =
    qr (qo (qy (V main_v71_4) (V main_v44) (V main_v39) (V main_arg8)) (qsilu (V main_v5)) (V main_arg9)) := by
  simp only [afterL_cons, afterL_nil]
  simp only [s12_v88, s11_v87, s10_v85, s10_v86, s9_v81, s8_v80, k8_v5, k8_arg9, k9_v80, k9_arg9, k11_v85]
  rfl

/-- The result array, from the states the loop leaves. -/
theorem final_v88 : finalContents condOps preI bodyI postI 1152 m c main_v88 =
    qr (qo (qy (atK m 1152 c main_v71_4) (qc (eXd m c)) (eX m c) (arg m c main_arg8)) (qsilu (qz (eP m c))) (arg m c main_arg9)) := by
  have hc : ∀ (r : Ref sig .tc), r ∉ condOps_W → after condOps (atK m 1152 c) (Proc.devRef .tc r) = atK m 1152 c (Proc.devRef .tc r) :=
    fun r h => after_of_writes_sub condOps _ condOps_writes h
  have ha : ∀ (r : Ref sig .tc), r ∉ preW → r ∉ tripW → atK m 1152 c (Proc.devRef .tc r) = m ((c.tc : Thread nD τ).loc r) := fun r h₀ h₁ => by
    rw [atK_keep m c r h₁, show entryContents preI m c = afterL preI (launchContents m c) from rfl, pre_keep _ r h₀]
  rw [show finalContents condOps preI bodyI postI 1152 m c = afterL postI (after condOps (atK m 1152 c)) from rfl, post_v88,
    hc main_v71_4 (by decide), hc main_v44 (by decide), hc main_v39 (by decide), hc main_arg8 (by decide), hc main_v5 (by decide), hc main_arg9 (by decide),
    ha main_arg8 (by decide +kernel) (by decide +kernel), ha main_arg9 (by decide +kernel) (by decide +kernel),
    atK_keep m c main_v44 (by decide +kernel), atK_keep m c main_v39 (by decide +kernel), atK_keep m c main_v5 (by decide +kernel),
    entry_v44, entry_v39, entry_v5]

end Cert.ReferenceIdeal.Scan
-- ==== Proof.RScan.lean ====
module

public import proofs.«01_k».proof.Proof.RRead
public import proofs.«01_k».proof.Proof.Arith
public import Idealize.ShloMosaic.Lib.WordCmp

/-
The reference's loop: before trip `k` the state is the recurrence after `k` steps, and the rows below `k` of the record
hold the states of their steps.
-/

@[expose] public section

set_option maxRecDepth 16384

noncomputable section

namespace Cert.ReferenceIdeal.Scan

open Idealize.ShloMosaic Idealize.ShloMosaic.TcCoe
open Idealize.SL Idealize.SL.RA Idealize.SL.BI
open scoped Idealize.SL.BI
open Idealize.SL.BI.BIBase Idealize.SL.Sem
open Idealize.ShloMosaic.StableHlo
open Cert.ReferenceIdeal Cert.ReferenceIdeal.Gen Cert.ReferenceIdeal.Value Cert.Arith

section
variable {F : FTy → Type} [FloatOps F]

/-- The row of time `k`, of an array whose first axis is time. -/
def timeRow (x : FVec F S1152x4x384x16 .f32) (k : ℕ) : FVec F S4x384x16 .f32 :=
  fun j => x (ix4 ⟨k % 1152, Nat.mod_lt _ (by decide)⟩ (j 0) (j 1) (j 2))

/-- The four starts of a row's block. -/
theorem starts {k : ℕ} (hk : k < 1152) (v : IVec S_ 32) (hv : v = fun _ => Scf.iv 0#32 1#32 k) (a : Fin 4) :
    (((![v, constantI S_ 32 0#32, constantI S_ 32 0#32, constantI S_ 32 0#32] : Fin 4 → IVec S_ 32)) a (Shape.Idx.first h_S_)).toInt
      = ((![k, 0, 0, 0] : Fin 4 → ℕ) a : ℤ) := by
  subst hv
  have e : (Scf.iv 0#32 1#32 k).toInt = (k : ℤ) := by
    have : Scf.iv 0#32 1#32 k = BitVec.ofNat 32 k := by unfold Scf.iv; simp
    rw [this]; exact WordCmp.toInt_ofNat_of_lt (by omega)
  match a with
  | ⟨0, _⟩ => exact e
  | ⟨1, _⟩ => rfl
  | ⟨2, _⟩ => rfl
  | ⟨3, _⟩ => rfl

theorem fits {k : ℕ} (hk : k < 1152) : S1152x4x384x16.Slices (![k, 0, 0, 0] : Fin 4 → ℕ) S1x4x384x16 := by
  refine ⟨rfl, fun a => ?_⟩
  match a with
  | ⟨0, _⟩ => show k + 1 ≤ 1152; omega
  | ⟨1, _⟩ => show 0 + 4 ≤ 4; omega
  | ⟨2, _⟩ => show 0 + 384 ≤ 384; omega
  | ⟨3, _⟩ => show 0 + 16 ≤ 16; omega

/-- A row read at the counter. -/
theorem slice_row {k : ℕ} (hk : k < 1152) (x : FVec F S1152x4x384x16 .f32) (start : Fin 4 → ℤ) (hs : ∀ a, start a = ((![k, 0, 0, 0] : Fin 4 → ℕ) a : ℤ)) :
    shapeCast S4x384x16 (Host.dynamicSlice S1x4x384x16 x start sliceFits_S1152x4x384x16_S1x4x384x16) shapeCasts_S1x4x384x16_S4x384x16 = timeRow x k := by
  rw [WordCmp.dynamicSlice_eq_extract S1x4x384x16 x start _ _ (fits hk) hs]
  funext j
  obtain ⟨b, d, n, rfl⟩ : ∃ b d n, j = ix3 b d n := ⟨j 0, j 1, j 2, eq_ix3 j⟩
  have e : shapeCast S4x384x16 (extractStridedSlice S1x4x384x16 ![k, 0, 0, 0] x (fits hk)) shapeCasts_S1x4x384x16_S4x384x16 (ix3 b d n)
      = extractStridedSlice S1x4x384x16 ![k, 0, 0, 0] x (fits hk) (ix4 0 b d n) := by
    pointwise
  rw [e]
  refine extractStridedSlice_apply (s := S1152x4x384x16) (t := S1x4x384x16) _ _ _ _ _ fun a => ?_
  match a with
  | ⟨0, _⟩ => show k % 1152 = k + 0; rw [Nat.mod_eq_of_lt hk]; rfl
  | ⟨1, _⟩ => show b.val = 0 + b.val; omega
  | ⟨2, _⟩ => show d.val = 0 + d.val; omega
  | ⟨3, _⟩ => show n.val = 0 + n.val; omega

/-- The record with the row of the counter replaced. -/
theorem update_row {k : ℕ} (hk : k < 1152) (x : FVec F S1152x4x384x16 .f32) (y : FVec F S4x384x16 .f32) (start : Fin 4 → ℤ)
    (hs : ∀ a, start a = ((![k, 0, 0, 0] : Fin 4 → ℕ) a : ℤ)) (t : Fin 1152) (b : Fin 4) (d : Fin 384) (n : Fin 16) :
    Host.dynamicUpdateSlice x (broadcastInDim S1x4x384x16 ![1, 2, 3] bcast_S4x384x16_S1x4x384x16_1_2_3 y) start updateFits_S1152x4x384x16_S1x4x384x16 (ix4 t b d n)
      = if t.val = k then y (ix3 b d n) else x (ix4 t b d n) := by
  rw [WordCmp.dynamicUpdateSlice_eq_update x _ start _ _ (fits hk) hs]
  unfold updateSlice
  by_cases h : t.val = k
  · rw [if_pos h, dif_pos]
    · pointwise
    · intro a
      match a with
      | ⟨0, _⟩ => show k ≤ t.val ∧ t.val < k + 1; omega
      | ⟨1, _⟩ => show 0 ≤ b.val ∧ b.val < 0 + 4; omega
      | ⟨2, _⟩ => show 0 ≤ d.val ∧ d.val < 0 + 384; omega
      | ⟨3, _⟩ => show 0 ≤ n.val ∧ n.val < 0 + 16; omega
  · rw [if_neg h, dif_neg]
    intro H
    have := H 0
    have h1 : k ≤ t.val ∧ t.val < k + 1 := this
    omega

variable (m : (ℓ : Loc nD τ sig) → Buf (Elt F) ℓ) (c : Dev nD)

theorem at_v71_0 (k : ℕ) : atK m k c main_v71_0 = entryContents preI m c main_v71_0 := by
  induction k with
  | zero => rfl
  | succ k ih => exact (trip_agree (atK m k c) main_v71_0 (by decide)).trans ((STEP_main_v71_0 _).trans ih)

theorem at_v71_1 (k : ℕ) : atK m k c main_v71_1 = entryContents preI m c main_v71_1 := by
  induction k with
  | zero => rfl
  | succ k ih => exact (trip_agree (atK m k c) main_v71_1 (by decide)).trans ((STEP_main_v71_1 _).trans ih)

/-- One step of the state. -/
theorem at_v71_3 {k : ℕ} (hk : k < 1152) : (atK m (k + 1) c main_v71_3 : FVec F S4x384x16 .f32) =
    addf (mulf (timeRow (entryContents preI m c main_v71_0) k) (atK m k c main_v71_3)) (timeRow (entryContents preI m c main_v71_1) k) := by
  refine (trip_agree (atK m k c) main_v71_3 (by decide)).trans ((STEP_main_v71_3 _).trans ?_)
  unfold step_main_v71_3 res_main_while0b_v92
  have e0 := slice_row hk (atK m k c main_v71_0) _ (starts hk _ (atK_ctr m c k))
  have e1 := slice_row hk (atK m k c main_v71_1) _ (starts hk _ (atK_ctr m c k))
  rw [at_v71_0] at e0
  rw [at_v71_1] at e1
  rw [at_v71_0, at_v71_1]
  exact congrArg₂ addf (congrArg₂ mulf e0 rfl) e1

/-- One step of the record. -/
theorem at_v71_4 {k : ℕ} (hk : k < 1152) (t : Fin 1152) (b : Fin 4) (d : Fin 384) (n : Fin 16) :
    (atK m (k + 1) c main_v71_4 : FVec F S1152x4x384x16 .f32) (ix4 t b d n) =
      if t.val = k then (atK m (k + 1) c main_v71_3 : FVec F S4x384x16 .f32) (ix3 b d n) else (atK m k c main_v71_4 : FVec F S1152x4x384x16 .f32) (ix4 t b d n) := by
  have e3 : (atK m (k + 1) c main_v71_3 : FVec F S4x384x16 .f32) = res_main_while0b_v92 (atK m k c) :=
    (trip_agree (atK m k c) main_v71_3 (by decide)).trans (STEP_main_v71_3 _)
  have e4 : (atK m (k + 1) c main_v71_4 : FVec F S1152x4x384x16 .f32) = step_main_v71_4 (atK m k c) :=
    (trip_agree (atK m k c) main_v71_4 (by decide)).trans (STEP_main_v71_4 _)
  rw [e3, e4]
  unfold step_main_v71_4
  rw [id]
  exact update_row hk _ _ _ (starts hk _ (atK_ctr m c k)) t b d n

/-- The record keeps a row once written. -/
theorem at_v71_4_row (t : Fin 1152) (b : Fin 4) (d : Fin 384) (n : Fin 16) : ∀ k, t.val < k → k ≤ 1152 →
    (atK m k c main_v71_4 : FVec F S1152x4x384x16 .f32) (ix4 t b d n) = (atK m (t.val + 1) c main_v71_3 : FVec F S4x384x16 .f32) (ix3 b d n)
  | 0, h, _ => absurd h (Nat.not_lt_zero _)
  | k + 1, h, hk => by
    rw [at_v71_4 m c (by omega)]
    by_cases e : t.val = k
    · rw [if_pos e, e]
    · rw [if_neg e]; exact at_v71_4_row t b d n k (by omega) (by omega)

end

variable (m : (ℓ : Loc nD τ sig) → Buf (Elt Ideal) ℓ) (c : Dev nD)

/-- The state after `k` steps, by element. -/
theorem at_state (b : Fin 4) (d : Fin 384) (n : Fin 16) : ∀ k, k ≤ 1152 →
    (atK m k c main_v71_3 : FVec Ideal S4x384x16 .f32) (ix3 b d n) =
      rec1 (fun i => timeRow (F := Ideal) (entryContents preI m c main_v71_0) i (ix3 b d n)) (fun i => timeRow (F := Ideal) (entryContents preI m c main_v71_1) i (ix3 b d n)) 0 k
  | 0, _ => by
    show (entryContents preI m c main_v71_3 : S4x384x16.Idx → EReal) (ix3 b d n) = (0 : EReal)
    rw [entry_v71_3]
    pointwise
  | k + 1, hk => by
    rw [at_v71_3 m c (by omega)]
    show timeRow (F := Ideal) _ k (ix3 b d n) * (atK m k c main_v71_3 : FVec Ideal S4x384x16 .f32) (ix3 b d n) + _ = _
    rw [at_state b d n k (by omega)]
    rfl

/-- The record after the loop. -/
theorem at_record (t : Fin 1152) (b : Fin 4) (d : Fin 384) (n : Fin 16) :
    (atK m 1152 c main_v71_4 : FVec Ideal S1152x4x384x16 .f32) (ix4 t b d n) =
      rec1 (fun i => timeRow (F := Ideal) (qdec (eT m c) (arg m c main_arg7)) i (ix3 b d n)) (fun i => timeRow (F := Ideal) (qdrv (eT m c) (eX m c) (qb (eXd m c))) i (ix3 b d n)) 0 (t.val + 1) := by
  rw [at_v71_4_row m c t b d n 1152 t.isLt le_rfl, at_state m c b d n (t.val + 1) t.isLt, entry_v71_0, entry_v71_1]

end Cert.ReferenceIdeal.Scan
-- ==== Proof.RPoint.lean ====
module

public import proofs.«01_k».proof.Proof.RScan
public import proofs.«01_k».proof.Proof.WtOf

/-
The reference's stages, element by element.
-/

@[expose] public section

set_option maxRecDepth 16384

noncomputable section

namespace Cert.ReferenceIdeal.Scan

open Idealize.ShloMosaic Idealize.ShloMosaic.TcCoe
open Idealize.ShloMosaic.StableHlo
open Idealize.SL.Sem
open Cert.ReferenceIdeal Cert.ReferenceIdeal.Gen Cert.ReferenceIdeal.Value Cert.Arith Cert.Spec

theorem qx_apply (x : FVec Ideal S2x1152x192 .f32) (b : Fin 2) (t : Fin 1152) (k : Fin 192) :
    qx x (ix3 ⟨b.val, by omega⟩ t k) = x (ix3 b t k) := by
  unfold qx
  refine (concatenate_pair_apply_left (t := S4x1152x192) (s₁ := S2x1152x192) (s₂ := S2x1152x192) 0 _ _ _ (ix3 ⟨b.val, by omega⟩ t k) rfl (ix3 b t k) ?_).trans rfl
  intro a
  match a with
  | 0 => rfl
  | 1 => rfl
  | 2 => rfl

/-- A number counted down is the row read backward. -/
theorem rev_back (t : Fin 1152) : t.rev = back t := by
  apply Fin.ext; show 1152 - (t.val + 1) = 1151 - t.val; omega

theorem reverse_apply (x : FVec Ideal S2x1152x192 .f32) (b : Fin 2) (t : Fin 1152) (k : Fin 192) :
    Host.reverse [1] x (ix3 b t k) = x (ix3 b (back t) k) := by
  have e : Host.reverse [1] x (ix3 b t k) = x (ix3 b t.rev k) := by
    unfold Host.reverse
    refine congrArg x (funext fun a => ?_)
    match a with
    | 0 => rfl
    | 1 => rfl
    | 2 => rfl
  rw [e, rev_back]

theorem qx_back (x : FVec Ideal S2x1152x192 .f32) (b : Fin 2) (t : Fin 1152) (k : Fin 192) :
    qx x (ix3 ⟨2 + b.val, by omega⟩ t k) = x (ix3 b (back t) k) := by
  unfold qx
  refine (concatenate_pair_apply_right (t := S4x1152x192) (s₁ := S2x1152x192) (s₂ := S2x1152x192) 0 _ _ _ (ix3 ⟨2 + b.val, by omega⟩ t k) rfl rfl (ix3 b t k) ?_ ?_).trans
    (reverse_apply x b t k)
  · intro a ha
    match a with
    | 0 => exact absurd rfl ha
    | 1 => rfl
    | 2 => rfl
  · show b.val + 2 = 2 + b.val; omega

theorem qp_apply (x : FVec Ideal S4x1152x192 .f32) (w : FVec Ideal S768x192 .f32) (s : Fin 4) (t : Fin 1152) (e : Fin 768) :
    qp x w (ix3 s t e) = ∑ k : Fin 192, x (ix3 s t k) * w (ix2 e k) := by
  pointwise [qp]

theorem qa_apply (p : FVec Ideal S4x1152x768 .f32) (s : Fin 4) (t : Fin 1152) (d : Fin 384) :
    qa p (ix3 s t d) = p (ix3 s t ⟨d.val, by omega⟩) := by
  pointwise [qa]

theorem qz_apply (p : FVec Ideal S4x1152x768 .f32) (s : Fin 4) (t : Fin 1152) (d : Fin 384) :
    qz p (ix3 s t d) = p (ix3 s t ⟨384 + d.val, by omega⟩) := by
  pointwise [qz]

theorem qpad_apply (a : FVec Ideal S4x1152x384 .f32) (s : Fin 4) (r : Fin 1155) (d : Fin 384) :
    qpad a (ix3 s r d) = if h : r.val < 3 then 0 else a (ix3 s ⟨r.val - 3, by omega⟩ d) := by
  have e : qpad a (ix3 s r d) = if h : 3 ≤ r.val ∧ r.val - 3 < 1152 then a (ix3 s ⟨r.val - 3, h.2⟩ d) else FloatOps.sitofp (F := Ideal) .f32 (0#32 : BitVec 32) := by
    pointwise [qpad]
  rw [e]
  by_cases h : r.val < 3
  · rw [dif_pos h, dif_neg (by omega)]
    show (((0#32 : BitVec 32).toInt : ℝ) : EReal) = 0
    norm_num
  · rw [dif_neg h, dif_pos ⟨by omega, by omega⟩]

theorem qcv_apply (p : FVec Ideal S4x1155x384 .f32) (w : FVec Ideal S384x4 .f32) (b : FVec Ideal S384 .f32) (s : Fin 4) (t : Fin 1152) (d : Fin 384) :
    qcv p w b (ix3 s t d) =
      ((((0 + p (ix3 s ⟨t.val + 0, by omega⟩ d) * w (ix2 d 0)) + p (ix3 s ⟨t.val + 1, by omega⟩ d) * w (ix2 d 1))
        + p (ix3 s ⟨t.val + 2, by omega⟩ d) * w (ix2 d 2)) + p (ix3 s ⟨t.val + 3, by omega⟩ d) * w (ix2 d 3)) + b (ix1 d) := by
  pointwise [qcv]
  simp only [Nat.add_comm]

theorem qsilu_apply (x : FVec Ideal S4x1152x384 .f32) (s : Fin 4) (t : Fin 1152) (d : Fin 384) :
    qsilu x (ix3 s t d) = silu (x (ix3 s t d)) := by
  pointwise [qsilu]
  rfl

theorem qxd_apply (x : FVec Ideal S4x1152x384 .f32) (w : FVec Ideal S44x384 .f32) (s : Fin 4) (t : Fin 1152) (j : Fin 44) :
    qxd x w (ix3 s t j) = ∑ d : Fin 384, x (ix3 s t d) * w (ix2 j d) := by
  pointwise [qxd]

theorem qb_apply (p : FVec Ideal S4x1152x44 .f32) (s : Fin 4) (t : Fin 1152) (n : Fin 16) :
    qb p (ix3 s t n) = p (ix3 s t ⟨12 + n.val, by omega⟩) := by
  pointwise [qb]

theorem qc_apply (p : FVec Ideal S4x1152x44 .f32) (s : Fin 4) (t : Fin 1152) (n : Fin 16) :
    qc p (ix3 s t n) = p (ix3 s t ⟨28 + n.val, by omega⟩) := by
  pointwise [qc]

theorem qraw_apply (p : FVec Ideal S4x1152x44 .f32) (w : FVec Ideal S384x12 .f32) (b : FVec Ideal S384 .f32) (s : Fin 4) (t : Fin 1152) (d : Fin 384) :
    qraw p w b (ix3 s t d) = (∑ k : Fin 12, p (ix3 s t ⟨k.val, by omega⟩) * w (ix2 d k)) + b (ix1 d) := by
  pointwise [qraw]

theorem qsp_apply (x : FVec Ideal S4x1152x384 .f32) (s : Fin 4) (t : Fin 1152) (d : Fin 384) :
    qsp x (ix3 s t d) = softplus (x (ix3 s t d)) := by
  pointwise [qsp]
  rw [if_neg (fun h => h rfl)]
  unfold softplus
  rw [sub_zero, zero_sub]
  rfl

theorem qdec_apply (t : FVec Ideal S4x1152x384 .f32) (a : FVec Ideal S384x16 .f32) (r : Fin 1152) (s : Fin 4) (d : Fin 384) (n : Fin 16) :
    qdec t a (ix4 r s d n) = Ideal.exp (t (ix3 s r d) * (0 - Ideal.exp (a (ix2 d n)))) := by
  pointwise [qdec]
  rw [zero_sub]

theorem qdrv_apply (t x : FVec Ideal S4x1152x384 .f32) (b : FVec Ideal S4x1152x16 .f32) (r : Fin 1152) (s : Fin 4) (d : Fin 384) (n : Fin 16) :
    qdrv t x b (ix4 r s d n) = (t (ix3 s r d) * x (ix3 s r d)) * b (ix3 s r n) := by
  pointwise [qdrv]
  exact mul_right_comm _ _ _

theorem qy_apply (h : FVec Ideal S1152x4x384x16 .f32) (c : FVec Ideal S4x1152x16 .f32) (x : FVec Ideal S4x1152x384 .f32) (v : FVec Ideal S384 .f32)
    (s : Fin 4) (t : Fin 1152) (d : Fin 384) :
    qy h c x v (ix3 s t d) = (∑ n : Fin 16, h (ix4 t s d n) * c (ix3 s t n)) + x (ix3 s t d) * v (ix1 d) := by
  pointwise [qy]

theorem qo_apply (y z : FVec Ideal S4x1152x384 .f32) (w : FVec Ideal S192x384 .f32) (s : Fin 4) (t : Fin 1152) (e : Fin 192) :
    qo y z w (ix3 s t e) = ∑ d : Fin 384, (y (ix3 s t d) * z (ix3 s t d)) * w (ix2 e d) := by
  pointwise [qo]

theorem qr_apply (o : FVec Ideal S4x1152x192 .f32) (b : Fin 2) (t : Fin 1152) (k : Fin 192) :
    qr o (ix3 b t k) = o (ix3 ⟨b.val, by omega⟩ t k) + o (ix3 ⟨2 + b.val, by omega⟩ (back t) k) := by
  unfold qr
  generalize hp : extractStridedSlice S2x1152x192 ![2, 0, 0] o slices_S4x1152x192_S2x1152x192_2_0_0 = p
  have e : addf (extractStridedSlice S2x1152x192 ![0, 0, 0] o slices_S4x1152x192_S2x1152x192_0_0_0) (Host.reverse [1] p) (ix3 b t k)
      = o (ix3 ⟨b.val, by omega⟩ t k) + Host.reverse [1] p (ix3 b t k) := by
    generalize Host.reverse [1] p = q
    pointwise
  rw [e, reverse_apply, ← hp]
  pointwise

section
variable (m : (ℓ : Loc nD τ sig) → Buf (Elt Ideal) ℓ) (c : Dev nD)

/-- The weights, from the arguments. -/
def wt : Wt := wtOf (arg m c main_arg1) (arg m c main_arg2) (arg m c main_arg3) (arg m c main_arg4) (arg m c main_arg5) (arg m c main_arg6)
  (arg m c main_arg7) (arg m c main_arg8) (arg m c main_arg9)

/-- The rows of the reference's sequence `s`. -/
def seq (s : Fin 4) : Fin 1152 → Fin 192 → EReal := fun t k => qx (F := Ideal) (arg m c main_arg0) (ix3 s t k)

theorem eP_apply (s : Fin 4) (t : Fin 1152) (e : Fin 768) : eP (F := Ideal) m c (ix3 s t e) = proj (wt m c) (seq m c s) e t :=
  qp_apply _ _ s t e

theorem eX_apply (s : Fin 4) (t : Fin 1152) (d : Fin 384) : eX (F := Ideal) m c (ix3 s t d) = xc (wt m c) (seq m c s) t d := by
  have hp : ∀ (k : ℕ) (hk : k < 4) (h : t.val + k < 1155), qpad (qa (eP (F := Ideal) m c)) (ix3 s ⟨t.val + k, h⟩ d) = tap (wt m c) (seq m c s) k hk t d := by
    intro k hk h
    rw [qpad_apply]
    unfold tap
    by_cases h3 : t.val + k < 3
    · rw [dif_pos h3, dif_pos h3]
    · rw [dif_neg h3, dif_neg h3, qa_apply, eP_apply]; rfl
  unfold eX
  rw [qsilu_apply, qcv_apply, hp 0 (by decide), hp 1 (by decide), hp 2 (by decide), hp 3 (by decide)]
  rfl

theorem eXd_apply (s : Fin 4) (t : Fin 1152) (j : Fin 44) : eXd (F := Ideal) m c (ix3 s t j) = xd (wt m c) (seq m c s) t j := by
  unfold eXd
  rw [qxd_apply]
  exact Finset.sum_congr rfl fun d _ => by rw [eX_apply]; rfl

theorem eT_apply (s : Fin 4) (t : Fin 1152) (d : Fin 384) : eT (F := Ideal) m c (ix3 s t d) = dt (wt m c) (seq m c s) t d := by
  unfold eT
  rw [qsp_apply, qraw_apply]
  refine congrArg softplus (congrArg₂ (· + ·) (Finset.sum_congr rfl fun k _ => ?_) rfl)
  rw [eXd_apply]; rfl

/-- The record holds the states of the specification. -/
theorem record_apply (t : Fin 1152) (s : Fin 4) (d : Fin 384) (n : Fin 16) :
    (atK m 1152 c main_v71_4 : FVec Ideal S1152x4x384x16 .f32) (ix4 t s d n) = st (wt m c) (seq m c s) n d (t.val + 1) := by
  rw [at_record]
  unfold st
  congr 1
  · funext i
    show qdec (F := Ideal) _ _ (ix4 _ s d n) = _
    rw [qdec_apply, eT_apply]; rfl
  · funext i
    show qdrv (F := Ideal) _ _ _ (ix4 _ s d n) = _
    rw [qdrv_apply, eT_apply, eX_apply, qb_apply, eXd_apply]; rfl

/-- What the result array ends at. -/
def ends : FVec Ideal S2x1152x192 .f32 := finalContents condOps preI bodyI postI 1152 m c main_v88

/-- The result array, by element. -/
theorem final_apply (b : Fin 2) (t : Fin 1152) (e : Fin 192) :
    ends m c (ix3 b t e) =
      out1 (wt m c) (seqOf (arg m c main_arg0) b) t e + out1 (wt m c) (seqOf (arg m c main_arg0) b ∘ back) (back t) e := by
  have ho : ∀ (s : Fin 4) (t : Fin 1152),
      qo (F := Ideal) (qy (atK m 1152 c main_v71_4) (qc (eXd m c)) (eX m c) (arg m c main_arg8)) (qsilu (qz (eP m c))) (arg m c main_arg9) (ix3 s t e)
        = out1 (wt m c) (seq m c s) t e := by
    intro s t
    rw [qo_apply]
    unfold out1
    refine Finset.sum_congr rfl fun d _ => ?_
    rw [qy_apply, qsilu_apply, qz_apply, eP_apply, eX_apply]
    unfold ys
    refine congrArg₂ (· * ·) (congrArg₂ (· * ·) (congrArg₂ (· + ·) (Finset.sum_congr rfl fun n _ => ?_) rfl) rfl) rfl
    rw [record_apply, qc_apply, eXd_apply]; rfl
  have h0 : seq m c ⟨b.val, by omega⟩ = seqOf (arg m c main_arg0) b := funext fun t => funext fun k => qx_apply _ b t k
  have h1 : seq m c ⟨2 + b.val, by omega⟩ = seqOf (arg m c main_arg0) b ∘ back := funext fun t => funext fun k => qx_back _ b t k
  unfold ends
  rw [final_v88, qr_apply, ho, ho, h0, h1]

/-- The run: the result array ends at `ends`. -/
theorem run_ends (ρ : Dev nD → PrngReg) : θ_run (defs (F := Ideal)) (onTc (τ := τ) (main (F := Ideal))) ⟨m, fun _ => 0, ρ⟩
    (fun r => ∀ c : Dev nD, r.2.mem ((c.tc : Thread nD τ).loc main_v88) = ends m c) :=
  (θ_run defs _ _).mono (fun r h c => h c main_v88 rfl) (run_fold m ρ)

end

end Cert.ReferenceIdeal.Scan
-- ==== Proof.Finite.lean ====
module

public import proofs.«01_k».proof.Defs
public import proofs.«01_k».proof.Proof.WtOf
public import Idealize.ShloMosaic.Lib.ReduceAll

/-
What the precondition says: every entry of every argument but the rates is a real number.
-/

@[expose] public section

noncomputable section

namespace Cert.Pre_finite

open Idealize.ShloMosaic Cert.Arith Cert.Spec

theorem facts : Facts := by
  constructor <;> first | decide +kernel | exact ⟨rfl, by decide +kernel⟩

/-- An extended real smaller in size than infinity is a real number. -/
theorem isR_of_lt {x : EReal} (h : max x (-x) < ⊤) : IsR x := by
  induction x using EReal.rec with
  | bot => simp at h
  | coe a => exact ⟨a, rfl⟩
  | top => simp at h

instance : Subsingleton S_.Idx := ⟨fun a b => funext fun i => i.elim0⟩

/-- An array whose test came out one holds real numbers. -/
theorem isR_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : IsR (x i) := by
  have h := Host.reduce_andi_all _ _ hr hu j e i
  have h' : Ideal.cmp .olt (max (x i) (-x i)) (Ideal.ofBits .f32 0x7F800000#32) = 1#1 := h
  have ht : Ideal.ofBits .f32 0x7F800000#32 = ⊤ := by simp [Ideal.ofBits, Ideal.ieee]
  rw [ht] at h'
  exact isR_of_lt ((Ideal.cmp_olt_eq_one _ _).1 h')

variable [Facts]

/-- The precondition, array by array. -/
theorem split (a0 : FVec Ideal S2x1152x192 .f32) (a1 : FVec Ideal S768x192 .f32) (a2 : FVec Ideal S384x4 .f32) (a3 : FVec Ideal S384 .f32)
    (a4 : FVec Ideal S44x384 .f32) (a5 : FVec Ideal S384x12 .f32) (a6 : FVec Ideal S384 .f32) (a7 : FVec Ideal S384x16 .f32) (a8 : FVec Ideal S384 .f32)
    (a9 : FVec Ideal S192x384 .f32) (h : fn (F := Ideal) a0 a1 a2 a3 a4 a5 a6 a7 a8 a9 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) ∧ (∀ i, IsR (a6 i))
      ∧ (∀ i, IsR (a8 i)) ∧ (∀ i, IsR (a9 i)) := by
  have h' := congrFun h (fun i => i.elim0)
  unfold fn fn_part1 fn_part2 at h'
  obtain ⟨h', e9⟩ := IntOp.andi_eq_one.1 h'
  obtain ⟨h', e8⟩ := IntOp.andi_eq_one.1 h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨isR_of_all a0 _ _ _ _ e0, isR_of_all a1 _ _ _ _ e1, isR_of_all a2 _ _ _ _ e2, isR_of_all a3 _ _ _ _ e3, isR_of_all a4 _ _ _ _ e4,
    isR_of_all a5 _ _ _ _ e5, isR_of_all a6 _ _ _ _ e6, isR_of_all a8 _ _ _ _ e8, isR_of_all a9 _ _ _ _ e9⟩

/-- The precondition makes the weights and the input real. -/
theorem real (a0 : FVec Ideal S2x1152x192 .f32) (a1 : FVec Ideal S768x192 .f32) (a2 : FVec Ideal S384x4 .f32) (a3 : FVec Ideal S384 .f32)
    (a4 : FVec Ideal S44x384 .f32) (a5 : FVec Ideal S384x12 .f32) (a6 : FVec Ideal S384 .f32) (a7 : FVec Ideal S384x16 .f32) (a8 : FVec Ideal S384 .f32)
    (a9 : FVec Ideal S192x384 .f32) (h : fn (F := Ideal) a0 a1 a2 a3 a4 a5 a6 a7 a8 a9 = fun _ => 1#1) :
    (wtOf a1 a2 a3 a4 a5 a6 a7 a8 a9).Real ∧ ∀ b t k, IsR (seqOf a0 b t k) :=
  let ⟨h0, h1, h2, h3, h4, h5, h6, h8, h9⟩ := split a0 a1 a2 a3 a4 a5 a6 a7 a8 a9 h
  ⟨⟨fun _ _ => h1 _, fun _ _ => h2 _, fun _ => h3 _, fun _ _ => h4 _, fun _ _ => h5 _, fun _ => h6 _, fun _ => h8 _, fun _ _ => h9 _⟩, fun _ _ _ => h0 _⟩

end Cert.Pre_finite
-- ==== Proof.Equal.lean ====
module

public import proofs.«01_k».proof.Proof.KSpec
public import proofs.«01_k».proof.Proof.RPoint
public import proofs.«01_k».proof.Proof.Finite

/-
The kernel's result array is the reference's.
-/

@[expose] public section

set_option maxRecDepth 16384

noncomputable section

namespace Cert.Equal

open Idealize.ShloMosaic Idealize.SL.Sem
open Cert.Arith Cert.Spec

/-- From memories that agree on the arguments, the two result arrays are equal wherever the precondition holds. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hw : (Cert.KernelIdeal.Scan.wt m c).Real) (hX : ∀ b t k, IsR (seqOf (Cert.KernelIdeal.Scan.arg m c Cert.KernelIdeal.main_arg0) b t k))
    (e : Cert.ReferenceIdeal.Scan.wt m' c = Cert.KernelIdeal.Scan.wt m c)
    (e0 : seqOf (Cert.ReferenceIdeal.Scan.arg m' c Cert.ReferenceIdeal.main_arg0) = seqOf (Cert.KernelIdeal.Scan.arg m c Cert.KernelIdeal.main_arg0)) :
    Cert.ReferenceIdeal.Scan.ends m' c = (Cert.KernelIdeal.Scan.result m c Cert.KernelIdeal.Gen.t0_0 : FVec Ideal ⟨3, ![2, 1152, 192]⟩ .f32) := by
  funext i
  obtain ⟨b, t, k, rfl⟩ : ∃ (b : Fin 2) (t : Fin 1152) (k : Fin 192), i = ix3 b t k := ⟨i 0, i 1, i 2, eq_ix3 i⟩
  refine (Cert.ReferenceIdeal.Scan.final_apply m' c b t k).trans (Eq.trans ?_ (Cert.KernelIdeal.Scan.result_apply m c hw hX b t k).symm)
  rw [e, e0, out2_eq _ _ hw (hX b)]

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  haveI := Cert.Pre_finite.facts
  have hreal := fun c => Cert.Pre_finite.real _ _ _ _ _ _ _ _ _ _ (hpre c)
  have hwt : ∀ c, Cert.ReferenceIdeal.Scan.wt m' c = Cert.KernelIdeal.Scan.wt m c := fun c => by
    obtain ⟨h0, h1, h2, h3, h4, h5, h6, h7, h8, h9⟩ := hargs c
    unfold Cert.ReferenceIdeal.Scan.wt Cert.KernelIdeal.Scan.wt
    exact congr (congr (congr (congr (congr (congr (congr (congr (congrArg wtOf h1) h2) h3) h4) h5) h6) h7) h8) h9
  refine ⟨fun c => Cert.KernelIdeal.Scan.result m c Cert.KernelIdeal.Gen.t0_0, ?_, ?_⟩
  · exact (θ_run _ _ _).mono (fun r h c => ⟨h.1 c, h.2.1 c⟩) (θ_run_and (Cert.KernelIdeal.Scan.run_result m g) (Cert.KernelIdeal.Scan.frame m g))
  · exact (θ_run _ _ _).mono (fun r h c => ⟨(h.1 c).trans
        (results m m' c (hreal c).1 (hreal c).2 (hwt c) (congrArg seqOf (hargs c).1)), h.2.1 c⟩)
      (θ_run_and (Cert.ReferenceIdeal.Scan.run_ends m' g') (Cert.ReferenceIdeal.Scan.frame m' g'))

end Cert.Equal
-- ==== Proof.Mixed.lean ====
module

public import Idealize.ShloMosaic.Lib.Pointwise
public import Mathlib.Tactic.NormNum

/-
The second half of the token mixer's last layer, element by element over the extended reals: gathering the selected tokens
into their places, transforming each place and adding it back to its token is transforming each selected token where it stands.
-/

@[expose] public section

noncomputable section

namespace Cert.Mixed

open Idealize.ShloMosaic
open scoped Classical

/-- One half. -/
def half : EReal := Ideal.ofBits .f32 0x3F000000#32

/-- The scale inside the error function, rounded as both programs round it. -/
def scale : EReal := Ideal.ofBits .f32 0x3F3504F3#32

/-- The activation. -/
def gelu (x : EReal) : EReal := half * x * (1 + Ideal.erf (x * scale))

/-- The activation written with the complementary error function. -/
theorem gelu_erfc (x : EReal) : half * x * Ideal.erfc (-x * scale) = gelu x := by
  unfold gelu Ideal.erfc
  rw [EReal.neg_mul, Ideal.erf_neg, sub_eq_add_neg, neg_neg]

/-- A place's number. -/
def num (k : ℕ) : EReal := ((k : ℝ) : EReal)

theorem num_inj {k k' : ℕ} (h : num k = num k') : k = k' := by
  unfold num at h
  exact_mod_cast h

theorem num_add (r o : ℕ) : num r + num o = num (o + r) := by
  unfold num
  rw [← EReal.coe_add]
  push_cast
  rw [add_comm]

/-- A word that counts is its number. -/
theorem word_num (k : ℕ) (hk : k < 2304) : FloatOps.sitofp (F := Ideal) .f32 (BitVec.ofNat 32 k) = num k := by
  show (((BitVec.ofNat 32 k).toInt : ℝ) : EReal) = num k
  have e : (BitVec.ofNat 32 k).toInt = (k : ℤ) := by
    rw [BitVec.toInt_eq_toNat_of_lt (by rw [BitVec.toNat_ofNat]; omega), BitVec.toNat_ofNat, Nat.mod_eq_of_lt (by omega)]
  rw [e]
  unfold num
  push_cast
  rfl

/-- Two tests at once, as a number. -/
theorem hot_eq (P Q : Prop) [Decidable P] [Decidable Q] :
    FloatOps.sitofp (F := Ideal) .f32 (BitVec.setWidth 32 (IntOp.andi (BitVec.ofBool (decide P)) (BitVec.ofBool (decide Q))))
      = if P ∧ Q then (1 : EReal) else 0 := by
  have h1 : FloatOps.sitofp (F := Ideal) .f32 1#32 = (1 : EReal) := by
    show (((1#32).toInt : ℝ) : EReal) = 1
    norm_num
  have h0 : FloatOps.sitofp (F := Ideal) .f32 0#32 = (0 : EReal) := by
    show (((0#32).toInt : ℝ) : EReal) = 0
    norm_num
  by_cases hP : P <;> by_cases hQ : Q <;> simp [hP, hQ, IntOp.andi, h1, h0]

section
variable (s p : Fin 2304 → EReal) (x : Fin 2304 → Fin 768 → EReal) (w : Fin 192 → Fin 768 → EReal) (b : Fin 192 → EReal)

/-- One token transformed. -/
def layer (y : Fin 768 → EReal) (c : Fin 192) : EReal := ∑ h : Fin 768, gelu (y h) * w c h + b c

/-- What is gathered into a place. -/
def gathered (k : EReal) (h : Fin 768) : EReal := ∑ l : Fin 2304, (if p l = k ∧ half < s l then (1 : EReal) else 0) * x l h

/-- The selected tokens have places, no two the same. -/
structure Placed : Prop where
  inside : ∀ l, half < s l → ∃ k : Fin 1152, p l = num k.val
  apart : ∀ l l', l ≠ l' → half < s l → half < s l' → p l ≠ p l'

variable {s p}

theorem gathered_place (hp : Placed s p) {l : Fin 2304} (hl : half < s l) : gathered s p x (p l) = x l := by
  funext h
  unfold gathered
  rw [Finset.sum_eq_single l]
  · rw [if_pos ⟨rfl, hl⟩, one_mul]
  · intro l' _ hne
    rw [if_neg fun e => hp.apart l' l hne e.2 hl e.1, zero_mul]
  · exact fun e => absurd (Finset.mem_univ l) e

theorem scattered (hp : Placed s p) (l : Fin 2304) (c : Fin 192) :
    ∑ k : Fin 1152, (if num k.val = p l ∧ half < s l then (1 : EReal) else 0) * layer w b (gathered s p x (num k.val)) c
      = if half < s l then layer w b (x l) c else 0 := by
  by_cases hl : half < s l
  · rw [if_pos hl]
    obtain ⟨k, hk⟩ := hp.inside l hl
    rw [Finset.sum_eq_single k]
    · rw [if_pos ⟨hk.symm, hl⟩, one_mul, ← hk, gathered_place x hp hl]
    · intro k' _ hne
      rw [if_neg fun e => hne (Fin.ext (num_inj (e.1.trans hk))), zero_mul]
    · exact fun e => absurd (Finset.mem_univ k) e
  · rw [if_neg hl]
    refine Finset.sum_eq_zero fun k _ => ?_
    rw [if_neg fun e => hl e.2, zero_mul]

end

end Cert.Mixed

end
-- ==== Proof.Moved.lean ====
module

public import proofs.«01_k».proof.Proof.Mixed
public import proofs.«01_k».proof.Proof.Gen.Kernel2Ideal.Value

/-
The block one batch row of the last layer's kernel leaves, read element by element.
-/

@[expose] public section

set_option maxRecDepth 16384

noncomputable section

namespace Cert.Kernel2Ideal.Moved

open Idealize.ShloMosaic Cert.Kernel2Ideal Cert.Kernel2Ideal.Gen Cert.Mixed
open scoped Classical

section
variable (s p : FVec Ideal S1x2304 .f32) (x : FVec Ideal S2304x768 .f32) (w : FVec Ideal S192x768 .f32) (b : FVec Ideal S1x192 .f32)

/-- The first place of each group of 128, as the kernel writes it. -/
def first : Fin 9 → BitVec 32 := ![0x00000000#32, 0x43000000#32, 0x43800000#32, 0x43C00000#32, 0x44000000#32, 0x44200000#32, 0x44400000#32, 0x44600000#32, 0x44800000#32]

theorem first_num (n : Fin 9) : Ideal.ofBits .f32 (first n) = num (n.val * 128) := by
  fin_cases n <;> simp [first, Ideal.ofBits, Ideal.ieee, num, BitVec.extractLsb', Nat.shiftRight_eq_div_pow] <;> norm_num

/-- The places of a group, as numbers. -/
def places (n : Fin 9) : FVec Ideal S128x1 .f32 :=
  addf (sitofp .f32 (iota .tc S128x1 32 [0] iota_S128x1_d0_w32)) (broadcast S128x1 (Scalar.ofBits .f32 (first n) : Ideal .f32))

theorem places_apply (n : Fin 9) (r : Fin 128) : places n (ix2 r 0) = num (n.val * 128 + r.val) := by
  have e : places n (ix2 r 0) = FloatOps.sitofp (F := Ideal) .f32 (BitVec.ofNat 32 r.val) + Ideal.ofBits .f32 (first n) := by
    unfold places
    generalize first n = o
    pointwise
  rw [e, word_num _ (by omega), first_num, num_add]

/-- What a group of places gathers and computes. -/
def group (n : Fin 9) : FVec Ideal S128x192 .f32 := k0_pay7 s p x (places n) w b

theorem group_apply (n : Fin 9) (r : Fin 128) (c : Fin 192) :
    group s p x w b n (ix2 r c) = layer (fun c h => w (ix2 c h)) (fun c => b (ix2 0 c))
      (gathered (fun l => s (ix2 0 l)) (fun l => p (ix2 0 l)) (fun l h => x (ix2 l h)) (num (n.val * 128 + r.val))) c := by
  rw [← places_apply n r]
  unfold group
  generalize places n = k
  pointwise [k0_pay7]
  simp only [hot_eq]
  rfl

/-- Every place's row. -/
def rows : FVec Ideal S1152x192 .f32 :=
  concatenate S1152x192 0 (List.ofFn fun n : Fin 9 => (⟨S128x192, group s p x w b n⟩ : (s : Shape) × (s.Idx → Ideal .f32)))
    concatenates_S128x192_S128x192_S128x192_S128x192_S128x192_S128x192_S128x192_S128x192_S128x192_S1152x192_d0

theorem rows_apply (k : Fin 1152) (c : Fin 192) :
    rows s p x w b (ix2 k c) = layer (fun c h => w (ix2 c h)) (fun c => b (ix2 0 c))
      (gathered (fun l => s (ix2 0 l)) (fun l => p (ix2 0 l)) (fun l h => x (ix2 l h)) (num k.val)) c := by
  have hk := Nat.div_add_mod k.val 128
  refine (concatenate_ofFn_apply (t := S1152x192) (s₁ := S128x192) 0 (group s p x w b) _ rfl 128 rfl (ix2 k c) ⟨k.val / 128, by omega⟩ rfl
    (ix2 ⟨k.val % 128, Nat.mod_lt _ (by omega)⟩ c) rfl ?_).trans ?_
  · intro a ha
    match a with
    | 0 => exact absurd rfl ha
    | 1 => rfl
  · rw [group_apply]
    have e : k.val / 128 * 128 + k.val % 128 = k.val := by omega
    rw [e]

end

section
variable (y : FVec Ideal S1152x192 .f32) (x : FVec Ideal S2304x192 .f32) (s p : FVec Ideal S2304x1 .f32) (k : FVec Ideal S1x1152 .f32)

/-- 256 tokens, each with the row of its place added if it is selected. -/
def spread (o : ℕ) (hs : S2304x1.Slices ![o, 0] S256x1) (hx : S2304x192.Slices ![o, 0] S256x192) : FVec Ideal S256x192 .f32 :=
  addf (extractStridedSlice S256x192 ![o, 0] x hx)
    (matmul dot_S256x1152_S1152x192_S256x192_1_0_0_1_n_n (some .fp32)
      (sitofp .f32 (extui 32 (andi
        (cmpf .oeq (broadcastTo S256x1152 k broadcasts_S1x1152_S256x1152)
          (broadcastTo S256x1152 (extractStridedSlice S256x1 ![o, 0] p hs) broadcasts_S256x1_S256x1152))
        (broadcastTo S256x1152 (cmpf .ogt (extractStridedSlice S256x1 ![o, 0] s hs)
          (broadcast S256x1 (Scalar.ofBits .f32 0x3F000000#32 : Ideal .f32))) broadcasts_S256x1_S256x1152)) natLt_1_32)) y
      (constant S256x192 .f32 0x00000000#32))

theorem spread_apply (o : ℕ) (ho : o + 256 ≤ 2304) (hs : S2304x1.Slices ![o, 0] S256x1) (hx : S2304x192.Slices ![o, 0] S256x192) (r : Fin 256) (c : Fin 192) :
    spread y x s p k o hs hx (ix2 r c) = x (ix2 ⟨o + r.val, by omega⟩ c) + ∑ q : Fin 1152,
      (if k (ix2 0 q) = p (ix2 ⟨o + r.val, by omega⟩ 0) ∧ half < s (ix2 ⟨o + r.val, by omega⟩ 0) then (1 : EReal) else 0) * y (ix2 q c) := by
  pointwise [spread]
  simp only [hot_eq]
  rfl

theorem slices1 (n : Fin 9) : S2304x1.Slices ![n.val * 256, 0] S256x1 := by fin_cases n <;> decide
theorem slices192 (n : Fin 9) : S2304x192.Slices ![n.val * 256, 0] S256x192 := by fin_cases n <;> decide

/-- Every token. -/
def tokens : FVec Ideal S2304x192 .f32 :=
  concatenate S2304x192 0 (List.ofFn fun n : Fin 9 => (⟨S256x192, spread y x s p k (n.val * 256) (slices1 n) (slices192 n)⟩ : (s : Shape) × (s.Idx → Ideal .f32)))
    concatenates_S256x192_S256x192_S256x192_S256x192_S256x192_S256x192_S256x192_S256x192_S256x192_S2304x192_d0

theorem tokens_apply (l : Fin 2304) (c : Fin 192) :
    tokens y x s p k (ix2 l c) = x (ix2 l c) + ∑ q : Fin 1152, (if k (ix2 0 q) = p (ix2 l 0) ∧ half < s (ix2 l 0) then (1 : EReal) else 0) * y (ix2 q c) := by
  refine (concatenate_ofFn_apply (t := S2304x192) (s₁ := S256x192) 0 (fun n : Fin 9 => spread y x s p k (n.val * 256) (slices1 n) (slices192 n)) _ rfl 256 rfl
    (ix2 l c) ⟨l.val / 256, by omega⟩ rfl (ix2 ⟨l.val % 256, Nat.mod_lt _ (by omega)⟩ c) rfl ?_).trans ?_
  · intro a ha
    match a with
    | 0 => exact absurd rfl ha
    | 1 => rfl
  · rw [spread_apply _ _ _ _ _ _ (by show l.val / 256 * 256 + 256 ≤ 2304; omega)]
    have e : (⟨l.val / 256 * 256 + l.val % 256, by omega⟩ : Fin 2304) = l := Fin.ext (by show l.val / 256 * 256 + l.val % 256 = l.val; omega)
    rw [e]

end

theorem col_apply (s : FVec Ideal S1x2304 .f32) (l : Fin 2304) : k0_pay25 (F := Ideal) s (ix2 l 0) = s (ix2 0 l) := by
  pointwise [k0_pay25]
  exact Fin.sum_univ_one _

theorem col_apply' (s : FVec Ideal S1x2304 .f32) (l : Fin 2304) : k0_pay26 (F := Ideal) s (ix2 l 0) = s (ix2 0 l) := by
  pointwise [k0_pay26]
  exact Fin.sum_univ_one _

theorem count_apply (q : Fin 1152) : k0_pay27 (F := Ideal) (ix2 0 q) = num q.val := by
  pointwise [k0_pay27]
  exact word_num _ (by omega)

section
variable (P0 P1 : Vec Ideal S1x1x2304 .f32) (P2 : Vec Ideal S1x2304x768 .f32) (P3 : Vec Ideal S192x768 .f32) (P4 : Vec Ideal S1x192 .f32)
  (P5 : Vec Ideal S1x2304x192 .f32)

theorem rows_eq : (k0_pay23 (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4)
      = rows (k0_pay2 P0) (k0_pay3 P1) (k0_pay4 P2) P3 P4 := rfl

theorem tokens_eq : (k0_pay37 (k0_pay23 (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4) (k0_pay24 P5) (k0_pay25 (k0_pay2 P0)) (k0_pay26 (k0_pay3 P1)) (k0_pay27 (F := Ideal)) (k0_pay28 (k0_pay2 P0) (k0_pay3 P1) (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4 P5) (k0_pay29 (k0_pay2 P0) (k0_pay3 P1) (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4 P5) (k0_pay32 (k0_pay23 (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4) (k0_pay24 P5) (k0_pay30 (k0_pay2 P0)) (k0_pay31 (k0_pay3 P1))) (k0_pay33 (k0_pay23 (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4) (k0_pay24 P5) (k0_pay25 (k0_pay2 P0)) (k0_pay26 (k0_pay3 P1)) (k0_pay27 (F := Ideal))) (k0_pay34 (k0_pay23 (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4) (k0_pay24 P5) (k0_pay25 (k0_pay2 P0)) (k0_pay26 (k0_pay3 P1)) (k0_pay27 (F := Ideal))) (k0_pay35 (k0_pay23 (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4) (k0_pay24 P5) (k0_pay25 (k0_pay2 P0)) (k0_pay26 (k0_pay3 P1)) (k0_pay27 (F := Ideal))) (k0_pay36 (k0_pay26 (k0_pay3 P1))))
      = tokens (rows (k0_pay2 P0) (k0_pay3 P1) (k0_pay4 P2) P3 P4) (k0_pay24 P5) (k0_pay25 (k0_pay2 P0)) (k0_pay26 (k0_pay3 P1)) (k0_pay27 (F := Ideal)) := by
  unfold k0_pay28 k0_pay29
  rw [rows_eq]
  generalize rows (k0_pay2 P0) (k0_pay3 P1) (k0_pay4 P2) P3 P4 = y
  rfl

/-- The block the kernel leaves is every token with its transform added where it is selected. -/
theorem block_apply (hp : Placed (fun l => P0 (ix3 0 0 l)) (fun l => P1 (ix3 0 0 l))) (l : Fin 2304) (c : Fin 192) :
    Value.E6 (F := Ideal) P0 P1 P2 P3 P4 P5 (ix3 0 l c) = P5 (ix3 0 l c) + if half < P0 (ix3 0 0 l) then
      layer (fun c h => P3 (ix2 c h)) (fun c => P4 (ix2 0 c)) (fun h => P2 (ix3 0 l h)) c else 0 := by
  have e2 : ∀ l, k0_pay2 P0 (ix2 0 l) = P0 (ix3 0 0 l) := fun l => by pointwise [k0_pay2]
  have e3 : ∀ l, k0_pay3 P1 (ix2 0 l) = P1 (ix3 0 0 l) := fun l => by pointwise [k0_pay3]
  have e4 : ∀ l h, k0_pay4 P2 (ix2 l h) = P2 (ix3 0 l h) := fun l h => by pointwise [k0_pay4]
  have e24 : k0_pay24 P5 (ix2 l c) = P5 (ix3 0 l c) := by pointwise [k0_pay24]
  have ei : Value.ix6_0 (ix3 0 l c) = ix2 l c := by
    funext a
    match a with
    | 0 => rfl
    | 1 => rfl
  show (k0_pay37 (k0_pay23 (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4) (k0_pay24 P5) (k0_pay25 (k0_pay2 P0)) (k0_pay26 (k0_pay3 P1)) (k0_pay27 (F := Ideal)) (k0_pay28 (k0_pay2 P0) (k0_pay3 P1) (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4 P5) (k0_pay29 (k0_pay2 P0) (k0_pay3 P1) (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4 P5) (k0_pay32 (k0_pay23 (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4) (k0_pay24 P5) (k0_pay30 (k0_pay2 P0)) (k0_pay31 (k0_pay3 P1))) (k0_pay33 (k0_pay23 (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4) (k0_pay24 P5) (k0_pay25 (k0_pay2 P0)) (k0_pay26 (k0_pay3 P1)) (k0_pay27 (F := Ideal))) (k0_pay34 (k0_pay23 (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4) (k0_pay24 P5) (k0_pay25 (k0_pay2 P0)) (k0_pay26 (k0_pay3 P1)) (k0_pay27 (F := Ideal))) (k0_pay35 (k0_pay23 (k0_pay5 P0 P1 P2 P3 P4) (k0_pay7 (k0_pay2 P0) (k0_pay3 P1) (k0_pay4 P2) (k0_pay6 (F := Ideal)) P3 P4) (k0_pay12 (k0_pay9 (k0_pay2 P0) (k0_pay3 P1) (k0_pay4 P2)) (k0_pay10 (k0_pay2 P0) (k0_pay3 P1) (k0_pay4 P2)) (k0_pay11 (F := Ideal)) P3 P4) (k0_pay13 (k0_pay2 P0) (k0_pay3 P1) (k0_pay4 P2) P3 P4) (k0_pay15 (k0_pay2 P0) (k0_pay4 P2) (k0_pay14 (k0_pay3 P1)) P3 P4) (k0_pay17 (k0_pay16 (k0_pay2 P0) (k0_pay3 P1) (k0_pay4 P2)) P3 P4) (k0_pay18 (k0_pay2 P0) (k0_pay3 P1) (k0_pay4 P2) P3 P4) (k0_pay21 (k0_pay4 P2) (k0_pay19 (k0_pay3 P1)) (k0_pay20 (k0_pay2 P0)) P3 P4) (k0_pay22 (k0_pay2 P0) (k0_pay3 P1) (k0_pay4 P2)) P3 (constant (F := Ideal) S128x192 .f32 0x00000000#32) P4) (k0_pay24 P5) (k0_pay25 (k0_pay2 P0)) (k0_pay26 (k0_pay3 P1)) (k0_pay27 (F := Ideal))) (k0_pay36 (k0_pay26 (k0_pay3 P1)))) (Value.ix6_0 (ix3 0 l c)) = _
  rw [ei, tokens_eq, tokens_apply, e24, col_apply, col_apply', e2, e3]
  simp only [count_apply, rows_apply, e2, e3, e4]
  rw [scattered _ _ _ hp l c]

end

end Cert.Kernel2Ideal.Moved

end
-- ==== Proof.Result.lean ====
module

public import proofs.«01_k».proof.Proof.Moved

/-
The result array the last layer's kernel leaves.
-/

@[expose] public section

set_option maxRecDepth 16384

noncomputable section

namespace Cert.Kernel2Ideal.Moved

open Idealize.ShloMosaic Idealize.ShloMosaic.TcCoe Idealize.SL.Sem
open Idealize.ShloMosaic.Pipeline (Dat)
open Cert.Kernel2Ideal Cert.Kernel2Ideal.Gen Cert.Mixed
open scoped Classical

variable (m : (ℓ : Loc nD τ sig) → Buf (Elt Ideal) ℓ)

/-- Every token with its transform added where it is selected. -/
def mixed (h : FVec Ideal S2x2304x768 .f32) (s : FVec Ideal S2x1x2304 .f32) (x : FVec Ideal S2x2304x192 .f32) (w : FVec Ideal S192x768 .f32)
    (b : FVec Ideal S192 .f32) : FVec Ideal S2x2304x192 .f32 := fun i =>
  x i + if half < s (ix3 (i 0) 0 (i 1)) then layer (fun c k => w (ix2 c k)) (fun c => b (ix1 c)) (fun k => h (ix3 (i 0) (i 1) k)) (i 2) else 0

/-- An argument array as launched. -/
abbrev arg (c : Dev nD) (b : Ref sig .tc) : Buf (Elt Ideal) ((c : Thread nD τ).loc b) := m ((c : Thread nD τ).loc b)

/-- The result. -/
def result (c : Dev nD) : FVec Ideal S2x2304x192 .f32 :=
  mixed (arg m c main_arg0) (arg m c main_arg1) (arg m c main_arg3) (arg m c main_arg4) (arg m c main_arg5)

open StableHlo in
theorem bias (c : Dev nD) : V m c main_v0 = shapeCast S1x192 (arg m c main_arg5 : FVec Ideal S192 .f32) shapeCasts_S192_S1x192 := by
  unfold V
  simp only [hostOps0]
  after_results
  rfl

/-- The batch row of a grid point. -/
def row (t : Fin cfg0.N) : Fin 2 := ⟨t.val, by have h : cfg0.N = 2 := N_0; have := t.isLt; omega⟩

theorem ix0 : ∀ t : Fin grid0.N, win0_0.index t 0 = t.val ∧ win0_0.index t 1 = 0 ∧ win0_0.index t 2 = 0 := by decide +kernel
theorem ix1' : ∀ t : Fin grid0.N, win0_1.index t 0 = t.val ∧ win0_1.index t 1 = 0 ∧ win0_1.index t 2 = 0 := by decide +kernel
theorem ix2' : ∀ t : Fin grid0.N, win0_2.index t 0 = t.val ∧ win0_2.index t 1 = 0 ∧ win0_2.index t 2 = 0 := by decide +kernel
theorem ix3' : ∀ t : Fin grid0.N, win0_3.index t 0 = t.val ∧ win0_3.index t 1 = 0 ∧ win0_3.index t 2 = 0 := by decide +kernel
theorem ix4' : ∀ t : Fin grid0.N, win0_4.index t 0 = 0 ∧ win0_4.index t 1 = 0 := by decide +kernel
theorem ix5' : ∀ t : Fin grid0.N, win0_5.index t 0 = 0 ∧ win0_5.index t 1 = 0 := by decide +kernel
theorem ix6' : ∀ t : Fin grid0.N, win0_6.index t 0 = t.val ∧ win0_6.index t 1 = 0 ∧ win0_6.index t 2 = 0 := by decide +kernel

theorem blk0 (c : Dev nD) (t : Fin cfg0.N) (l : Fin 2304) (k : Fin 768) :
    (iblk m c 0 t : Vec Ideal S1x2304x768 .f32) (ix3 0 l k) = arg m c main_arg0 (ix3 (row t) l k) := by
  unfold iblk
  rw [View.read_apply]
  show V m c main_arg0 _ = _
  rw [V_main_arg0]
  congr 1
  funext a
  apply Fin.ext
  match a with
  | ⟨0, _⟩ => show win0_0.index t 0 * 1 + 1 * 0 = t.val; rw [(ix0 t).1]; omega
  | ⟨1, _⟩ => show win0_0.index t 1 * 2304 + 1 * l.val = l.val; rw [(ix0 t).2.1]; omega
  | ⟨2, _⟩ => show win0_0.index t 2 * 768 + 1 * k.val = k.val; rw [(ix0 t).2.2]; omega

theorem blk1 (c : Dev nD) (t : Fin cfg0.N) (l : Fin 2304) :
    (iblk m c 1 t : Vec Ideal S1x1x2304 .f32) (ix3 0 0 l) = arg m c main_arg1 (ix3 (row t) 0 l) := by
  unfold iblk
  rw [View.read_apply]
  show V m c main_arg1 _ = _
  rw [V_main_arg1]
  congr 1
  funext a
  apply Fin.ext
  match a with
  | ⟨0, _⟩ => show win0_1.index t 0 * 1 + 1 * 0 = t.val; rw [(ix1' t).1]; omega
  | ⟨1, _⟩ => show win0_1.index t 1 * 1 + 1 * 0 = 0; rw [(ix1' t).2.1]
  | ⟨2, _⟩ => show win0_1.index t 2 * 2304 + 1 * l.val = l.val; rw [(ix1' t).2.2]; omega

theorem blk2 (c : Dev nD) (t : Fin cfg0.N) (l : Fin 2304) :
    (iblk m c 2 t : Vec Ideal S1x1x2304 .f32) (ix3 0 0 l) = arg m c main_arg2 (ix3 (row t) 0 l) := by
  unfold iblk
  rw [View.read_apply]
  show V m c main_arg2 _ = _
  rw [V_main_arg2]
  congr 1
  funext a
  apply Fin.ext
  match a with
  | ⟨0, _⟩ => show win0_2.index t 0 * 1 + 1 * 0 = t.val; rw [(ix2' t).1]; omega
  | ⟨1, _⟩ => show win0_2.index t 1 * 1 + 1 * 0 = 0; rw [(ix2' t).2.1]
  | ⟨2, _⟩ => show win0_2.index t 2 * 2304 + 1 * l.val = l.val; rw [(ix2' t).2.2]; omega

theorem blk3 (c : Dev nD) (t : Fin cfg0.N) (l : Fin 2304) (k : Fin 192) :
    (iblk m c 3 t : Vec Ideal S1x2304x192 .f32) (ix3 0 l k) = arg m c main_arg3 (ix3 (row t) l k) := by
  unfold iblk
  rw [View.read_apply]
  show V m c main_arg3 _ = _
  rw [V_main_arg3]
  congr 1
  funext a
  apply Fin.ext
  match a with
  | ⟨0, _⟩ => show win0_3.index t 0 * 1 + 1 * 0 = t.val; rw [(ix3' t).1]; omega
  | ⟨1, _⟩ => show win0_3.index t 1 * 2304 + 1 * l.val = l.val; rw [(ix3' t).2.1]; omega
  | ⟨2, _⟩ => show win0_3.index t 2 * 192 + 1 * k.val = k.val; rw [(ix3' t).2.2]; omega

theorem blk4 (c : Dev nD) (t : Fin cfg0.N) (o : Fin 192) (k : Fin 768) :
    (iblk m c 4 t : Vec Ideal S192x768 .f32) (ix2 o k) = arg m c main_arg4 (ix2 o k) := by
  unfold iblk
  rw [View.read_apply]
  show V m c main_arg4 _ = _
  rw [V_main_arg4]
  congr 1
  funext a
  apply Fin.ext
  match a with
  | ⟨0, _⟩ => show win0_4.index t 0 * 192 + 1 * o.val = o.val; rw [(ix4' t).1]; omega
  | ⟨1, _⟩ => show win0_4.index t 1 * 768 + 1 * k.val = k.val; rw [(ix4' t).2]; omega

theorem blk5 (c : Dev nD) (t : Fin cfg0.N) (o : Fin 192) :
    (iblk m c 5 t : Vec Ideal S1x192 .f32) (ix2 0 o) = arg m c main_arg5 (ix1 o) := by
  have e : (iblk m c 5 t : Vec Ideal S1x192 .f32) (ix2 0 o) = V m c main_v0 (ix2 0 o) := by
    unfold iblk
    rw [View.read_apply]
    show V m c main_v0 _ = _
    congr 1
    funext a
    apply Fin.ext
    match a with
    | ⟨0, _⟩ => show win0_5.index t 0 * 1 + 1 * 0 = 0; rw [(ix5' t).1]
    | ⟨1, _⟩ => show win0_5.index t 1 * 192 + 1 * o.val = o.val; rw [(ix5' t).2]; omega
  rw [e, bias]
  generalize (arg m c main_arg5 : FVec Ideal S192 .f32) = b
  pointwise

/-- The block a point leaves, element by element. -/
theorem out_apply (x0 : Vec Ideal S1x2304x768 .f32) (x1 x2 : Vec Ideal S1x1x2304 .f32) (x3 : Vec Ideal S1x2304x192 .f32) (x4 : Vec Ideal S192x768 .f32)
    (x5 : Vec Ideal S1x192 .f32) (hp : Placed (fun l => x1 (ix3 0 0 l)) (fun l => x2 (ix3 0 0 l))) (l : Fin 2304) (c : Fin 192) :
    out0_6 x0 x1 x2 x3 x4 x5 (ix3 0 l c) = x3 (ix3 0 l c) + if half < x1 (ix3 0 0 l) then
      layer (fun c h => x4 (ix2 c h)) (fun c => x5 (ix2 0 c)) (fun h => x0 (ix3 0 l h)) c else 0 := by
  have z3 : ∀ a : Fin 3, (![0, 0, 0] : Fin 3 → ℕ) a = 0 := by decide
  have z2 : ∀ a : Fin 2, (![0, 0] : Fin 2 → ℕ) a = 0 := by decide
  have e0 : View.ld x0 r0_1 = x0 := View.ld_unit_zero (S := S1x2304x768) (funext z3) _ _
  have e1 : View.ld x1 r0_0 = x1 := View.ld_unit_zero (S := S1x1x2304) (funext z3) _ _
  have e2 : View.ld x2 r0_0 = x2 := View.ld_unit_zero (S := S1x1x2304) (funext z3) _ _
  have e3 : View.ld x3 r0_4 = x3 := View.ld_unit_zero (S := S1x2304x192) (funext z3) _ _
  have e4 : View.ld x4 r0_2 = x4 := View.ld_unit_zero (S := S192x768) (funext z2) _ _
  have e5 : View.ld x5 r0_3 = x5 := View.ld_unit_zero (S := S1x192) (funext z2) _ _
  refine Eq.trans ?_ ((Value.canon6_eq (F := Ideal) x1 x2 x0 x4 x5 x3 (ix3 0 l c)).trans (block_apply x1 x2 x0 x4 x5 x3 hp l c))
  unfold_out out0_6
  rw [e0, e1, e2, e3, e4, e5]

variable (hp : ∀ (c : Dev nD) (b : Fin 2), Placed (fun l => arg m c main_arg1 (ix3 b 0 l)) (fun l => arg m c main_arg2 (ix3 b 0 l)))

include hp in
theorem flushed_eq (c : Dev nD) (t : Fin cfg0.N) (hf : (cfg0.win 6).flush t = true) :
    (dats m 0 c).flushed 6 t = ((cfg0.win 6).blk t).view.read (Elt Ideal) (result m c) := by
  rw [Value.flushed6]
  funext j
  rw [View.read_apply]
  have hj0 : (j 0).val < 1 := (j 0).isLt
  have ej : (fun a => ⟨(j a).val, (j a).isLt⟩ : S1x2304x192.Idx) = ix3 0 (⟨(j 1).val, (j 1).isLt⟩ : Fin 2304) (⟨(j 2).val, (j 2).isLt⟩ : Fin 192) := by
    funext a
    apply Fin.ext
    match a with
    | ⟨0, _⟩ => show (j 0).val = 0; omega
    | ⟨1, _⟩ => rfl
    | ⟨2, _⟩ => rfl
  have ei : ((cfg0.win 6).blk t).view.emb j = (ix3 (row t) (⟨(j 1).val, (j 1).isLt⟩ : Fin 2304) (⟨(j 2).val, (j 2).isLt⟩ : Fin 192) : S2x2304x192.Idx) := by
    funext a
    apply Fin.ext
    match a with
    | ⟨0, _⟩ => show win0_6.index t 0 * 1 + 1 * (j 0).val = t.val; rw [(ix6' t).1]; omega
    | ⟨1, _⟩ => show win0_6.index t 1 * 2304 + 1 * (j 1).val = (j 1).val; rw [(ix6' t).2.1]; omega
    | ⟨2, _⟩ => show win0_6.index t 2 * 192 + 1 * (j 2).val = (j 2).val; rw [(ix6' t).2.2]; omega
  rw [ei]
  show out0_6 (iblk m c 0 t) (iblk m c 1 t) (iblk m c 2 t) (iblk m c 3 t) (iblk m c 4 t) (iblk m c 5 t) (fun a => ⟨(j a).val, (j a).isLt⟩ : S1x2304x192.Idx) = _
  rw [ej]
  refine (out_apply (iblk m c 0 t) (iblk m c 1 t) (iblk m c 2 t) (iblk m c 3 t) (iblk m c 4 t) (iblk m c 5 t)
    (by simp only [blk1, blk2]; exact hp c (row t)) _ _).trans ?_
  simp only [blk0, blk1, blk3, blk4, blk5]
  rfl

include hp in
theorem final (c : Dev nD) : (dats m 0 c).arrAt 6 cfg0.N = result m c :=
  (dats m 0 c).arrAt_eq_of_cover 6 (result m c) (flushed_eq m hp c) fun i => by
    have h0 : (i 0 : Nat) < 2 := (i 0).isLt
    have h1 : (i 1 : Nat) < 2304 := (i 1).isLt
    have h2 : (i 2 : Nat) < 192 := (i 2).isLt
    have hN : cfg0.N = 2 := N_0
    obtain ⟨t, ht⟩ : ∃ t : Fin cfg0.N, t.val = (i 0 : Nat) := ⟨⟨(i 0 : Nat), by omega⟩, rfl⟩
    refine ⟨t, flush0_6 t, ?_⟩
    show i ∈ ((View.whole main_v1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; rw [(ix6' t).1]; omega
    | ⟨1, _⟩ => show win0_6.index t 1 * 2304 ≤ (i 1 : Nat) ∧ (i 1 : Nat) < win0_6.index t 1 * 2304 + 2304; rw [(ix6' t).2.1]; omega
    | ⟨2, _⟩ => show win0_6.index t 2 * 192 ≤ (i 2 : Nat) ∧ (i 2 : Nat) < win0_6.index t 2 * 192 + 192; rw [(ix6' t).2.2]; omega

end Cert.Kernel2Ideal.Moved

end
-- ==== Proof.Places.lean ====
module

public import proofs.«01_k».proof.Defs
public import proofs.«01_k».proof.Proof.Mixed
public import Idealize.ShloMosaic.Lib.ReduceAll

/-
What the second precondition says: the selected tokens' positions are places of the compact buffer, no two the same.
-/

@[expose] public section

noncomputable section

namespace Cert.Pre_places

open Idealize.ShloMosaic Cert.Mixed
open scoped Classical

theorem facts : Facts := by
  constructor <;> first | decide +kernel | exact ⟨rfl, by decide +kernel⟩

instance : Subsingleton S_.Idx := ⟨fun a b => funext fun i => i.elim0⟩

/-- "Not the one, or the other" being true. -/
theorem imp : ∀ a b : BitVec 1, IntOp.ori (~~~a) b = 1#1 → a = 1#1 → b = 1#1 := by decide

/-- A whole number in a place's range is a place's number. -/
theorem num_of_word {v : BitVec 32} {x : EReal} (e : ((v.toInt : ℝ) : EReal) = x) (h0 : 0 ≤ v.toInt) (h1 : v.toInt < 1152) :
    ∃ k : Fin 1152, x = num k.val := by
  refine ⟨⟨v.toInt.toNat, by omega⟩, ?_⟩
  subst e
  unfold num
  congr 1
  have : ((v.toInt.toNat : ℤ) : ℝ) = (v.toInt : ℝ) := by rw [Int.toNat_of_nonneg h0]
  exact_mod_cast this.symm

variable [Facts]
open Facts

theorem flat (x : FVec Ideal S2x1x2304 .f32) (b : Fin 2) (l : Fin 2304) :
    shapeCast S2x2304 x shapeCasts_S2x1x2304_S2x2304 (ix2 b l) = x (ix3 b 0 l) := by
  pointwise

/-- Two different tokens have different numbers. -/
theorem tokens {l l' : Fin 2304} (h : l ≠ l') : IntOp.cmpi .ne (BitVec.ofNat 32 l.val) (BitVec.ofNat 32 l'.val) = 1#1 := by
  rw [IntOp.cmpi_ne]
  intro e
  have e' := congrArg BitVec.toNat e
  rw [BitVec.toNat_ofNat, BitVec.toNat_ofNat] at e'
  have := l.isLt
  have := l'.isLt
  exact h (Fin.ext (by omega))

/-- The precondition, batch row by batch row. -/
theorem placed (a0 : FVec Ideal S2x2304x768 .f32) (a1 a2 : FVec Ideal S2x1x2304 .f32) (a3 : FVec Ideal S2x2304x192 .f32) (a4 : FVec Ideal S192x768 .f32)
    (a5 : FVec Ideal S192 .f32) (h : fn (F := Ideal) a0 a1 a2 a3 a4 a5 = fun _ => 1#1) (b : Fin 2) :
    Placed (fun l => a1 (ix3 b 0 l)) (fun l => a2 (ix3 b 0 l)) := by
  have h' := congrFun h (fun i => i.elim0)
  unfold fn fn_part1 at h'
  obtain ⟨hin, hap⟩ := IntOp.andi_eq_one.1 h'
  have hin := Host.reduce_andi_all _ _ _ _ _ hin
  have hap := Host.reduce_andi_all _ _ _ _ _ hap
  have taken : ∀ l, half < a1 (ix3 b 0 l) →
      Ideal.cmp .ogt (shapeCast S2x2304 a1 shapeCasts_S2x1x2304_S2x2304 (ix2 b l)) half = 1#1 := fun l hl => by
    rw [flat]
    exact (Ideal.cmp_ogt_eq_one _ _).2 hl
  constructor
  · intro l hl
    have e := imp _ _ (hin (ix2 b l)) (taken l hl)
    obtain ⟨e, e2⟩ := IntOp.andi_eq_one.1 e
    obtain ⟨e0, e1⟩ := IntOp.andi_eq_one.1 e
    have e0 := (Ideal.cmp_oeq_eq_one _ _).1 e0
    have e1 := IntOp.cmpi_sge.1 e1
    have e2 := IntOp.cmpi_slt.1 e2
    rw [flat] at e0
    exact num_of_word e0 e1 e2
  · intro l l' hne hl hl' he
    have e := imp _ _ (hap (ix3 b l l'))
      (IntOp.andi_eq_one.2 ⟨IntOp.andi_eq_one.2 ⟨?_, ?_⟩, ?_⟩)
    · have e : Ideal.cmp .une (shapeCast S2x2304 a2 shapeCasts_S2x1x2304_S2x2304 (ix2 b l))
          (shapeCast S2x2304 a2 shapeCasts_S2x1x2304_S2x2304 (ix2 b l')) = 1#1 := by
        refine Eq.trans ?_ e
        pointwise
      rw [flat, flat, Ideal.cmp_une] at e
      simp [he] at e
    · refine Eq.trans ?_ (taken l hl)
      pointwise
      rfl
    · refine Eq.trans ?_ (taken l' hl')
      pointwise
      rfl
    · refine Eq.trans ?_ (tokens hne)
      pointwise

end Cert.Pre_places

end
-- ==== Proof.RefMixed.lean ====
module

public import proofs.«01_k».proof.Defs
public import proofs.«01_k».proof.Proof.Result
public import proofs.«01_k».proof.Proof.Places
public import proofs.«01_k».proof.Proof.Gen.Reference2Ideal.Run
public import Idealize.ShloMosaic.Lib.Quiescent
public import Idealize.ShloMosaic.Lib.Claim

/-
The last layer's reference, read, and its agreement with the kernel.
-/

@[expose] public section

set_option maxRecDepth 16384

noncomputable section

namespace Cert.Reference2Ideal.Mixed

open Idealize.ShloMosaic Idealize.ShloMosaic.TcCoe Idealize.SL.Sem
open Cert.Reference2Ideal Cert.Reference2Ideal.Gen Cert.Mixed
open scoped Classical

/-- The reference's result as its operations build it. -/
def term (a0 : FVec Ideal S2x2304x768 .f32) (a1 : FVec Ideal S2x1x2304 .f32) (a3 : FVec Ideal S2x2304x192 .f32) (a4 : FVec Ideal S192x768 .f32)
    (a5 : FVec Ideal S192 .f32) : FVec Ideal S2x2304x192 .f32 :=
  addf a3 (select (broadcastInDim S2x2304x192 ![0, 1, 2] bcast_S2x2304x1_S2x2304x192_0_1_2 (cmpf .ogt (shapeCast _ a1 shapeCasts_S2x1x2304_S2x2304x1) (broadcastInDim S2x2304x1 ![] bcast_S_S2x2304x1 (constant S_ .f32 0x3F000000#32)))) (addf (Host.dotGeneral dot_S2x2304x768_S768x192_S2x2304x192_2_0_01_1_n_n none (mulf (mulf (broadcastInDim S2x2304x768 ![] bcast_S_S2x2304x768 (constant S_ .f32 0x3F000000#32)) a0) (Host.erfc (mulf (Host.negf a0) (broadcastInDim S2x2304x768 ![] bcast_S_S2x2304x768 (constant S_ .f32 0x3F3504F3#32))))) (transpose S768x192 [1, 0] a4 transposes_S192x768_S768x192_1_0)) (broadcastInDim S2x2304x192 ![0, 1, 2] bcast_S1x1x192_S2x2304x192_0_1_2 (broadcastInDim S1x1x192 ![2] bcast_S192_S1x1x192_2 a5))) (broadcastInDim S2x2304x192 ![] bcast_S_S2x2304x192 (id (constant S_ .f32 0x00000000#32))))

theorem zero_word : Ideal.ofBits .f32 0x00000000#32 = 0 := by simp [Ideal.ofBits, Ideal.ieee]

theorem term_apply (a0 : FVec Ideal S2x2304x768 .f32) (a1 : FVec Ideal S2x1x2304 .f32) (a3 : FVec Ideal S2x2304x192 .f32) (a4 : FVec Ideal S192x768 .f32)
    (a5 : FVec Ideal S192 .f32) (b : Fin 2) (l : Fin 2304) (c : Fin 192) :
    term a0 a1 a3 a4 a5 (ix3 b l c) = Cert.Kernel2Ideal.Moved.mixed a0 a1 a3 a4 a5 (ix3 b l c) := by
  show _ = a3 (ix3 b l c) + if half < a1 (ix3 b 0 l) then (∑ h : Fin 768, gelu (a0 (ix3 b l h)) * a4 (ix2 c h) + a5 (ix1 c)) else 0
  have e : ∀ h : Fin 768, gelu (a0 (ix3 b l h)) = half * a0 (ix3 b l h) * Ideal.erfc (-a0 (ix3 b l h) * scale) := fun h => (gelu_erfc _).symm
  simp only [e]
  pointwise [term]
  rw [show (id (constant S_ .f32 0x00000000#32) : FVec Ideal S_ .f32) ix0 = 0 from zero_word]
  rfl

theorem term_eq (a0 : FVec Ideal S2x2304x768 .f32) (a1 : FVec Ideal S2x1x2304 .f32) (a3 : FVec Ideal S2x2304x192 .f32) (a4 : FVec Ideal S192x768 .f32)
    (a5 : FVec Ideal S192 .f32) : term a0 a1 a3 a4 a5 = Cert.Kernel2Ideal.Moved.mixed a0 a1 a3 a4 a5 := by
  funext i
  obtain ⟨b, l, c, rfl⟩ : ∃ (b : Fin 2) (l : Fin 2304) (c : Fin 192), i = ix3 b l c := ⟨i 0, i 1, i 2, eq_ix3 i⟩
  exact term_apply a0 a1 a3 a4 a5 b l c

/-- The argument arrays end unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) _⟩) (Cert.Reference2Ideal.Value.run m ρ)

theorem algebraic : Cert.algebraic_Kernel2Ideal_Reference2Ideal_pre_places (hKernel2Ideal := Cert.Kernel2Ideal.Gen.facts)
    (hReference2Ideal := Cert.Reference2Ideal.Gen.facts) (hPre_places := Cert.Pre_places.facts) := by
  intro m g m' g' hpre hargs
  haveI := Cert.Pre_places.facts
  refine ⟨fun c => Cert.Kernel2Ideal.Moved.result m c, ?_, ?_⟩
  · exact (θ_run _ _ _).mono (fun r h c => ⟨(h c).1.trans
        (Cert.Kernel2Ideal.Moved.final m (fun c b => Cert.Pre_places.placed _ _ _ _ _ _ (hpre c) b) c), (h c).2⟩)
      (Cert.Kernel2Ideal.Value.run_blocks m g)
  · refine (θ_run _ _ _).mono (fun r h c => ⟨(h c).1.trans ?_, (h c).2⟩) (Cert.Reference2Ideal.Value.run m' g')
    obtain ⟨h0, h1, h2, h3, h4, h5⟩ := hargs c
    refine (term_eq _ _ _ _ _).trans ?_
    exact congr (congr (congr (congr (congrArg Cert.Kernel2Ideal.Moved.mixed h0) h1) h3) h4) h5

end Cert.Reference2Ideal.Mixed

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Printed
public import proofs.«01_k».proof.Proof.Equal
public import proofs.«01_k».proof.Proof.RefMixed
public import proofs.«01_k».proof.Proof.Gen.Kernel2Ideal.Value
public import proofs.«01_k».proof.Proof.Gen.Kernel2.Frame
public import proofs.«01_k».proof.Proof.Gen.Reference2Ideal.Run
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_finite.facts, Cert.Pre_places.facts,
  Cert.Kernel.Scan.frame,
  fun m g _ => Cert.KernelIdeal.Scan.frame m g,
  fun m g _ => Cert.KernelIdeal.Scan.frame m g,
  fun m g _ => Cert.ReferenceIdeal.Scan.frame m g,
  fun m g _ => Cert.ReferenceIdeal.Scan.frame m g,
  fun m g _ => Cert.Kernel2.Gen.frame m g,
  fun m g _ => Cert.Kernel2Ideal.Gen.frame m g,
  fun m g _ => Cert.Kernel2Ideal.Gen.frame m g,
  fun m g _ => Cert.Reference2Ideal.Mixed.frame m g,
  fun m g _ => Cert.Reference2Ideal.Mixed.frame m g,
  trivial,
  Cert.Equal.algebraic,
  trivial,
  Cert.Reference2Ideal.Mixed.algebraic⟩

end Cert.Proof

end
